-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_boxes_in_frame [hPre_boxes_in_frame : Cert.Pre_boxes_in_frame.Facts] (m : (ℓ : Loc Cert.KernelIdeal.nD Cert.KernelIdeal.τ Cert.KernelIdeal.sig) → Buf (Elt Ideal) ℓ) : Prop :=
  ∀ c : Dev Cert.KernelIdeal.nD,
    (Cert.Pre_boxes_in_frame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_boxes_in_frame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_boxes_in_frame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_boxes_in_frame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_boxes_in_frame [hPre_boxes_in_frame : Cert.Pre_boxes_in_frame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_boxes_in_frame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_boxes_in_frame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_boxes_in_frame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_boxes_in_frame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_boxes_in_frame [hKernelIdeal : Cert.KernelIdeal.Facts] [hPre_boxes_in_frame : Cert.Pre_boxes_in_frame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_boxes_in_frame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_boxes_in_frame [hReferenceIdeal : Cert.ReferenceIdeal.Facts] [hPre_boxes_in_frame : Cert.Pre_boxes_in_frame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_boxes_in_frame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_boxes_in_frame [hKernelIdeal : Cert.KernelIdeal.Facts] [hReferenceIdeal : Cert.ReferenceIdeal.Facts] [hPre_boxes_in_frame : Cert.Pre_boxes_in_frame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_boxes_in_frame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_boxes_in_frame : Cert.Pre_boxes_in_frame.Facts),
    quiescent_Kernel (hKernel := hKernel)
    ∧ quiescent_KernelIdeal (hKernelIdeal := hKernelIdeal)
    ∧ quiescent_KernelIdeal_pre_boxes_in_frame (hKernelIdeal := hKernelIdeal) (hPre_boxes_in_frame := hPre_boxes_in_frame)
    ∧ quiescent_ReferenceIdeal (hReferenceIdeal := hReferenceIdeal)
    ∧ quiescent_ReferenceIdeal_pre_boxes_in_frame (hReferenceIdeal := hReferenceIdeal) (hPre_boxes_in_frame := hPre_boxes_in_frame)
    ∧ preserves_Kernel_KernelIdeal
    ∧ algebraic_KernelIdeal_ReferenceIdeal_pre_boxes_in_frame (hKernelIdeal := hKernelIdeal) (hReferenceIdeal := hReferenceIdeal) (hPre_boxes_in_frame := hPre_boxes_in_frame)
-- ==== Pre_boxes_in_frame.lean ====
abbrev S8x100x4 : Shape := ⟨3, ![8, 100, 4]⟩
abbrev S8x20000x4 : Shape := ⟨3, ![8, 20000, 4]⟩
abbrev S20000x4 : Shape := ⟨2, ![20000, 4]⟩
abbrev S8x100x2 : Shape := ⟨3, ![8, 100, 2]⟩
abbrev S8x100x1 : Shape := ⟨3, ![8, 100, 1]⟩
abbrev S_ : Shape := ⟨0, ![]⟩
abbrev S20000x2 : Shape := ⟨2, ![20000, 2]⟩
abbrev S20000x1 : Shape := ⟨2, ![20000, 1]⟩

class Facts : Prop where
  slices_S8x100x4_S8x100x2_0_0_0 : S8x100x4.Slices ![0, 0, 0] S8x100x2
  slices_S8x100x4_S8x100x2_0_0_2 : S8x100x4.Slices ![0, 0, 2] S8x100x2
  slices_S8x100x4_S8x100x1_0_0_2 : S8x100x4.Slices ![0, 0, 2] S8x100x1
  slices_S8x100x4_S8x100x1_0_0_3 : S8x100x4.Slices ![0, 0, 3] S8x100x1
  bcast_S_S8x100x1 : S_.BroadcastsInDim S8x100x1 (![] : Fin 0 → Fin S8x100x1.rank)
  slices_S20000x4_S20000x2_0_0 : S20000x4.Slices ![0, 0] S20000x2
  slices_S20000x4_S20000x2_0_2 : S20000x4.Slices ![0, 2] S20000x2
  slices_S20000x4_S20000x1_0_0 : S20000x4.Slices ![0, 0] S20000x1
  slices_S20000x4_S20000x1_0_1 : S20000x4.Slices ![0, 1] S20000x1
  bcast_S_S20000x1 : S_.BroadcastsInDim S20000x1 (![] : Fin 0 → Fin S20000x1.rank)

variable [Facts]

def fn {F : FTy → Type} [FloatOps F] (main_arg0 : FVec F S8x100x4 .f32) (main_arg1 : FVec F S8x20000x4 .f32) (main_arg2 : FVec F S20000x4 .f32) : IVec S8x100x2 1 × IVec S8x100x1 1 × IVec S20000x2 1 × IVec S20000x1 1 :=
  let main_v0 : FVec F S8x100x2 .f32 := (extractStridedSlice S8x100x2 ![0, 0, 0] · slices_S8x100x4_S8x100x2_0_0_0) main_arg0
  let main_v1 : FVec F S8x100x2 .f32 := (extractStridedSlice S8x100x2 ![0, 0, 2] · slices_S8x100x4_S8x100x2_0_0_2) main_arg0
  let main_v2 : IVec S8x100x2 1 := cmpf .ole main_v0 main_v1
  let main_v3 : FVec F S8x100x1 .f32 := (extractStridedSlice S8x100x1 ![0, 0, 2] · slices_S8x100x4_S8x100x1_0_0_2) main_arg0
  let main_v4 : FVec F S8x100x1 .f32 := (extractStridedSlice S8x100x1 ![0, 0, 3] · slices_S8x100x4_S8x100x1_0_0_3) main_arg0
  let main_v5 : FVec F S8x100x1 .f32 := minimumf main_v3 main_v4
  let main_cst : FVec F S_ .f32 := constant S_ .f32 0x457A0000#32
  let main_v6 : FVec F S8x100x1 .f32 := broadcastInDim S8x100x1 ![] bcast_S_S8x100x1 main_cst
  let main_v7 : IVec S8x100x1 1 := cmpf .ole main_v5 main_v6
  let main_v8 : FVec F S20000x2 .f32 := (extractStridedSlice S20000x2 ![0, 0] · slices_S20000x4_S20000x2_0_0) main_arg2
  let main_v9 : FVec F S20000x2 .f32 := (extractStridedSlice S20000x2 ![0, 2] · slices_S20000x4_S20000x2_0_2) main_arg2
  let main_v10 : IVec S20000x2 1 := cmpf .olt main_v8 main_v9
  let main_v11 : FVec F S20000x1 .f32 := (extractStridedSlice S20000x1 ![0, 0] · slices_S20000x4_S20000x1_0_0) main_arg2
  let main_v12 : FVec F S20000x1 .f32 := (extractStridedSlice S20000x1 ![0, 1] · slices_S20000x4_S20000x1_0_1) main_arg2
  let main_v13 : FVec F S20000x1 .f32 := maximumf main_v11 main_v12
  let main_cst_0 : FVec F S_ .f32 := constant S_ .f32 0xC579F000#32
  let main_v14 : FVec F S20000x1 .f32 := broadcastInDim S20000x1 ![] bcast_S_S20000x1 main_cst_0
  let main_v15 : IVec S20000x1 1 := cmpf .oge main_v13 main_v14
  (main_v2, main_v7, main_v10, main_v15)
-- ==== Kernel.lean ====
abbrev S8x100x4 : Shape := ⟨3, ![8, 100, 4]⟩
abbrev S8x20000x4 : Shape := ⟨3, ![8, 20000, 4]⟩
abbrev S20000x4 : Shape := ⟨2, ![20000, 4]⟩
abbrev S4x1 : Shape := ⟨2, ![4, 1]⟩
abbrev S1x4 : Shape := ⟨2, ![1, 4]⟩
abbrev S1x4x1x1 : Shape := ⟨4, ![1, 4, 1, 1]⟩
abbrev S1x4x480x1 : Shape := ⟨4, ![1, 4, 480, 1]⟩
abbrev S4x480 : Shape := ⟨2, ![4, 480]⟩
abbrev S4x20000 : Shape := ⟨2, ![4, 20000]⟩
abbrev S4x20480 : Shape := ⟨2, ![4, 20480]⟩
abbrev S1x20480 : Shape := ⟨2, ![1, 20480]⟩
abbrev S5x20480 : Shape := ⟨2, ![5, 20480]⟩
abbrev S_ : Shape := ⟨0, ![]⟩
abbrev S1x20000 : Shape := ⟨2, ![1, 20000]⟩
abbrev S1x480 : Shape := ⟨2, ![1, 480]⟩
abbrev S1x1x4 : Shape := ⟨3, ![1, 1, 4]⟩
abbrev S1x1x1x1x1x4 : Shape := ⟨6, ![1, 1, 1, 1, 1, 4]⟩
abbrev S8x1x4x1x1x4 : Shape := ⟨6, ![8, 1, 4, 1, 1, 4]⟩
abbrev S8x4x4 : Shape := ⟨3, ![8, 4, 4]⟩
abbrev S8x104x4 : Shape := ⟨3, ![8, 104, 4]⟩
abbrev S8x104x1 : Shape := ⟨3, ![8, 104, 1]⟩
abbrev S8x104 : Shape := ⟨2, ![8, 104]⟩
abbrev S8x100x1 : Shape := ⟨3, ![8, 100, 1]⟩
abbrev S8x4x1 : Shape := ⟨3, ![8, 4, 1]⟩
abbrev S8x104x2 : Shape := ⟨3, ![8, 104, 2]⟩
abbrev S8x104x8 : Shape := ⟨3, ![8, 104, 8]⟩
abbrev S8x1x104 : Shape := ⟨3, ![8, 1, 104]⟩
abbrev S8x4x104 : Shape := ⟨3, ![8, 4, 104]⟩
abbrev S8x8x104 : Shape := ⟨3, ![8, 8, 104]⟩
abbrev S8x4x20000 : Shape := ⟨3, ![8, 4, 20000]⟩
abbrev S8x4x480 : Shape := ⟨3, ![8, 4, 480]⟩
abbrev S8x4x20480 : Shape := ⟨3, ![8, 4, 20480]⟩
abbrev S1x1 : Shape := ⟨2, ![1, 1]⟩
abbrev S1x104x8 : Shape := ⟨3, ![1, 104, 8]⟩
abbrev S1x8x104 : Shape := ⟨3, ![1, 8, 104]⟩
abbrev S1x4x20480 : Shape := ⟨3, ![1, 4, 20480]⟩
abbrev S104x20480 : Shape := ⟨2, ![104, 20480]⟩
abbrev S1x104x1 : Shape := ⟨3, ![1, 104, 1]⟩
abbrev S104x1 : Shape := ⟨2, ![104, 1]⟩
abbrev S104x128 : Shape := ⟨2, ![104, 128]⟩
abbrev S1x5120 : Shape := ⟨2, ![1, 5120]⟩
abbrev S104x5120 : Shape := ⟨2, ![104, 5120]⟩
abbrev S104 : Shape := ⟨1, ![104]⟩
abbrev S5120 : Shape := ⟨1, ![5120]⟩
abbrev S8x5120 : Shape := ⟨2, ![8, 5120]⟩
abbrev S1x1x5120 : Shape := ⟨3, ![1, 1, 5120]⟩
abbrev S1 : Shape := ⟨1, ![1]⟩
abbrev S1x1x1 : Shape := ⟨3, ![1, 1, 1]⟩

abbrev nBuf : Space → Nat
  | .hbm => 67
  | .vmem => 10
  | .smem => 0
  | _ => 0

abbrev bufTy : (tb : Table) → Fin (tcTables nBuf tb) → BufTy
  | .hbm, ⟨0, _⟩ => ⟨S8x100x4, .f32⟩
  | .hbm, ⟨1, _⟩ => ⟨S8x20000x4, .f32⟩
  | .hbm, ⟨2, _⟩ => ⟨S20000x4, .f32⟩
  | .hbm, ⟨3, _⟩ => ⟨S4x1, .f32⟩
  | .hbm, ⟨4, _⟩ => ⟨S1x4, .f32⟩
  | .hbm, ⟨5, _⟩ => ⟨S1x4x1x1, .f32⟩
  | .hbm, ⟨6, _⟩ => ⟨S1x4x480x1, .f32⟩
  | .hbm, ⟨7, _⟩ => ⟨S4x480, .f32⟩
  | .hbm, ⟨8, _⟩ => ⟨S4x20000, .f32⟩
  | .hbm, ⟨9, _⟩ => ⟨S4x20480, .f32⟩
  | .hbm, ⟨10, _⟩ => ⟨S1x20480, .f32⟩
  | .hbm, ⟨11, _⟩ => ⟨S1x20480, .f32⟩
  | .hbm, ⟨12, _⟩ => ⟨S1x20480, .f32⟩
  | .hbm, ⟨13, _⟩ => ⟨S1x20480, .f32⟩
  | .hbm, ⟨14, _⟩ => ⟨S1x20480, .f32⟩
  | .hbm, ⟨15, _⟩ => ⟨S1x20480, .f32⟩
  | .hbm, ⟨16, _⟩ => ⟨S1x20480, .f32⟩
  | .hbm, ⟨17, _⟩ => ⟨S5x20480, .f32⟩
  | .hbm, ⟨18, _⟩ => ⟨S_, .f32⟩
  | .hbm, ⟨19, _⟩ => ⟨S1x20000, .f32⟩
  | .hbm, ⟨20, _⟩ => ⟨S_, .f32⟩
  | .hbm, ⟨21, _⟩ => ⟨S1x480, .f32⟩
  | .hbm, ⟨22, _⟩ => ⟨S1x20480, .f32⟩
  | .hbm, ⟨23, _⟩ => ⟨S1x1x4, .f32⟩
  | .hbm, ⟨24, _⟩ => ⟨S1x1x1x1x1x4, .f32⟩
  | .hbm, ⟨25, _⟩ => ⟨S8x1x4x1x1x4, .f32⟩
  | .hbm, ⟨26, _⟩ => ⟨S8x4x4, .f32⟩
  | .hbm, ⟨27, _⟩ => ⟨S8x104x4, .f32⟩
  | .hbm, ⟨28, _⟩ => ⟨S8x104x1, .f32⟩
  | .hbm, ⟨29, _⟩ => ⟨S8x104, .f32⟩
  | .hbm, ⟨30, _⟩ => ⟨S8x104x1, .f32⟩
  | .hbm, ⟨31, _⟩ => ⟨S8x104, .f32⟩
  | .hbm, ⟨32, _⟩ => ⟨S8x104, .f32⟩
  | .hbm, ⟨33, _⟩ => ⟨S8x104x1, .f32⟩
  | .hbm, ⟨34, _⟩ => ⟨S8x104, .f32⟩
  | .hbm, ⟨35, _⟩ => ⟨S8x104x1, .f32⟩
  | .hbm, ⟨36, _⟩ => ⟨S8x104, .f32⟩
  | .hbm, ⟨37, _⟩ => ⟨S8x104, .f32⟩
  | .hbm, ⟨38, _⟩ => ⟨S8x104, .f32⟩
  | .hbm, ⟨39, _⟩ => ⟨S8x104x1, .f32⟩
  | .hbm, ⟨40, _⟩ => ⟨S_, .f32⟩
  | .hbm, ⟨41, _⟩ => ⟨S8x100x1, .f32⟩
  | .hbm, ⟨42, _⟩ => ⟨S_, .f32⟩
  | .hbm, ⟨43, _⟩ => ⟨S8x4x1, .f32⟩
  | .hbm, ⟨44, _⟩ => ⟨S8x104x1, .f32⟩
  | .hbm, ⟨45, _⟩ => ⟨S_, .f32⟩
  | .hbm, ⟨46, _⟩ => ⟨S8x104x2, .f32⟩
  | .hbm, ⟨47, _⟩ => ⟨S8x104x8, .f32⟩
  | .hbm, ⟨48, _⟩ => ⟨S8x1x104, .f32⟩
  | .hbm, ⟨49, _⟩ => ⟨S_, .f32⟩
  | .hbm, ⟨50, _⟩ => ⟨S8x1x104, .f32⟩
  | .hbm, ⟨51, _⟩ => ⟨S8x1x104, .i1⟩
  | .hbm, ⟨52, _⟩ => ⟨S8x4x104, .f32⟩
  | .hbm, ⟨53, _⟩ => ⟨S_, .f32⟩
  | .hbm, ⟨54, _⟩ => ⟨S_, .f32⟩
  | .hbm, ⟨55, _⟩ => ⟨S8x4x104, .i1⟩
  | .hbm, ⟨56, _⟩ => ⟨S8x4x104, .f32⟩
  | .hbm, ⟨57, _⟩ => ⟨S8x4x104, .f32⟩
  | .hbm, ⟨58, _⟩ => ⟨S_, .f32⟩
  | .hbm, ⟨59, _⟩ => ⟨S8x4x104, .f32⟩
  | .hbm, ⟨60, _⟩ => ⟨S8x8x104, .f32⟩
  | .hbm, ⟨61, _⟩ => ⟨S8x4x20000, .f32⟩
  | .hbm, ⟨62, _⟩ => ⟨S_, .f32⟩
  | .hbm, ⟨63, _⟩ => ⟨S8x4x480, .f32⟩
  | .hbm, ⟨64, _⟩ => ⟨S8x4x20480, .f32⟩
  | .hbm, ⟨65, _⟩ => ⟨S1x1, .f32⟩
  | .hbm, ⟨66, _⟩ => ⟨S_, .f32⟩
  | .local _ .vmem, ⟨0, _⟩ => ⟨S5x20480, .f32⟩
  | .local _ .vmem, ⟨1, _⟩ => ⟨S1x20480, .f32⟩
  | .local _ .vmem, ⟨2, _⟩ => ⟨S1x104x8, .f32⟩
  | .local _ .vmem, ⟨3, _⟩ => ⟨S1x104x8, .f32⟩
  | .local _ .vmem, ⟨4, _⟩ => ⟨S1x8x104, .f32⟩
  | .local _ .vmem, ⟨5, _⟩ => ⟨S1x8x104, .f32⟩
  | .local _ .vmem, ⟨6, _⟩ => ⟨S1x4x20480, .f32⟩
  | .local _ .vmem, ⟨7, _⟩ => ⟨S1x4x20480, .f32⟩
  | .local _ .vmem, ⟨8, _⟩ => ⟨S1x1, .f32⟩
  | .local _ .vmem, ⟨9, _⟩ => ⟨S104x20480, .f32⟩
  | _, _ => ⟨S8x100x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_v33 : Ref sig .tc := ⟨.hbm, 41, rfl⟩
abbrev main_cst_4 : Ref sig .tc := ⟨.hbm, 42, rfl⟩
abbrev main_v34 : Ref sig .tc := ⟨.hbm, 43, rfl⟩
abbrev main_v35 : Ref sig .tc := ⟨.hbm, 44, rfl⟩
abbrev main_cst_5 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_6 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_7 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c4_i32 : BitVec 32 := 4#32
  let v13 : BitVec 32 := Scalar.addi c0_i32 c4_i32
  let c1_i32 : BitVec 32 := 1#32
  ⟨c0_i32, v13, c1_i32⟩
def k0_off1 (k0_t1 : Fin k0_t1_loop.trips) : Fin 2 → Nat :=
  let c0_27 : Index := 0#32
  let c0_i32 : BitVec 32 := 0#32
  let c1_i32 : BitVec 32 := 1#32
  let arg8 : BitVec 32 := Scf.iv c0_i32 c1_i32 k0_t1
  let c5120_i32 : BitVec 32 := 5120#32
  let v34 : BitVec 32 := Scalar.muli arg8 c5120_i32
  let v35 : Index := Scalar.indexCast v34
  ![0, v35.toNat]
def k0_off2 (k0_t1 : Fin k0_t1_loop.trips) : Fin 2 → Nat :=
  let c1_28 : Index := 1#32
  let c0_i32 : BitVec 32 := 0#32
  let c1_i32 : BitVec 32 := 1#32
  let arg8 : BitVec 32 := Scf.iv c0_i32 c1_i32 k0_t1
  let c5120_i32 : BitVec 32 := 5120#32
  let v34 : BitVec 32 := Scalar.muli arg8 c5120_i32
  let v38 : Index := Scalar.indexCast v34
  ![1, v38.toNat]
def k0_off3 (k0_t1 : Fin k0_t1_loop.trips) : Fin 2 → Nat :=
  let c2_29 : Index := 2#32
  let c0_i32 : BitVec 32 := 0#32
  let c1_i32 : BitVec 32 := 1#32
  let arg8 : BitVec 32 := Scf.iv c0_i32 c1_i32 k0_t1
  let c5120_i32 : BitVec 32 := 5120#32
  let v34 : BitVec 32 := Scalar.muli arg8 c5120_i32
  let v41 : Index := Scalar.indexCast v34
  ![2, v41.toNat]
def k0_off4 (k0_t1 : Fin k0_t1_loop.trips) : Fin 2 → Nat :=
  let c3_30 : Index := 3#32
  let c0_i32 : BitVec 32 := 0#32
  let c1_i32 : BitVec 32 := 1#32
  let arg8 : BitVec 32 := Scf.iv c0_i32 c1_i32 k0_t1
  let c5120_i32 : BitVec 32 := 5120#32
  let v34 : BitVec 32 := Scalar.muli arg8 c5120_i32
  let v44 : Index := Scalar.indexCast v34
  ![3, v44.toNat]
def k0_off5 (k0_t1 : Fin k0_t1_loop.trips) : Fin 2 → Nat :=
  let c4_31 : Index := 4#32
  let c0_i32 : BitVec 32 := 0#32
  let c1_i32 : BitVec 32 := 1#32
  let arg8 : BitVec 32 := Scf.iv c0_i32 c1_i32 k0_t1
  let c5120_i32 : BitVec 32 := 5120#32
  let v34 : BitVec 32 := Scalar.muli arg8 c5120_i32
  let v47 : Index := Scalar.indexCast v34
  ![4, v47.toNat]
def k0_off6 (k0_t1 : Fin k0_t1_loop.trips) : Fin 2 → Nat :=
  let c0_34 : Index := 0#32
  let c0_i32 : BitVec 32 := 0#32
  let c1_i32 : BitVec 32 := 1#32
  let arg8 : BitVec 32 := Scf.iv c0_i32 c1_i32 k0_t1
  let c5120_i32 : BitVec 32 := 5120#32
  let v34 : BitVec 32 := Scalar.muli arg8 c5120_i32
  let v74 : Index := Scalar.indexCast v34
  ![0, v74.toNat]
@[reducible] def k0_t2_loop : Scf.Loop 32 :=
  let c0_i32_17 : BitVec 32 := 0#32
  let c4_i32_18 : BitVec 32 := 4#32
  let v22 : BitVec 32 := Scalar.addi c0_i32_17 c4_i32_18
  let c1_i32_19 : BitVec 32 := 1#32
  ⟨c0_i32_17, v22, c1_i32_19⟩
def k0_off7 (k0_t2 : Fin k0_t2_loop.trips) : Fin 2 → Nat :=
  let c0_27 : Index := 0#32
  let c0_i32_17 : BitVec 32 := 0#32
  let c1_i32_19 : BitVec 32 := 1#32
  let arg8 : BitVec 32 := Scf.iv c0_i32_17 c1_i32_19 k0_t2
  let c5120_i32 : BitVec 32 := 5120#32
  let v34 : BitVec 32 := Scalar.muli arg8 c5120_i32
  let v35 : Index := Scalar.indexCast v34
  ![0, v35.toNat]
def k0_off8 (k0_t2 : Fin k0_t2_loop.trips) : Fin 2 → Nat :=
  let c0_38 : Index := 0#32
  let c0_i32_17 : BitVec 32 := 0#32
  let c1_i32_19 : BitVec 32 := 1#32
  let arg8 : BitVec 32 := Scf.iv c0_i32_17 c1_i32_19 k0_t2
  let c5120_i32 : BitVec 32 := 5120#32
  let v34 : BitVec 32 := Scalar.muli arg8 c5120_i32
  let v62 : Index := Scalar.indexCast v34
  ![0, v62.toNat]
def k0_off9 (k0_t2 : Fin k0_t2_loop.trips) : Fin 2 → Nat :=
  let c0_45 : Index := 0#32
  let c0_i32_17 : BitVec 32 := 0#32
  let c1_i32_19 : BitVec 32 := 1#32
  let arg8 : BitVec 32 := Scf.iv c0_i32_17 c1_i32_19 k0_t2
  let c5120_i32 : BitVec 32 := 5120#32
  let v34 : BitVec 32 := Scalar.muli arg8 c5120_i32
  let v75 : Index := Scalar.indexCast v34
  ![0, v75.toNat]
def k0_off10 (k0_t2 : Fin k0_t2_loop.trips) : Fin 2 → Nat :=
  let c1_46 : Index := 1#32
  let c0_i32_17 : BitVec 32 := 0#32
  let c1_i32_19 : BitVec 32 := 1#32
  let arg8 : BitVec 32 := Scf.iv c0_i32_17 c1_i32_19 k0_t2
  let c5120_i32 : BitVec 32 := 5120#32
  let v34 : BitVec 32 := Scalar.muli arg8 c5120_i32
  let v78 : Index := Scalar.indexCast v34
  ![1, v78.toNat]
def k0_off11 (k0_t2 : Fin k0_t2_loop.trips) : Fin 2 → Nat :=
  let c2_47 : Index := 2#32
  let c0_i32_17 : BitVec 32 := 0#32
  let c1_i32_19 : BitVec 32 := 1#32
  let arg8 : BitVec 32 := Scf.iv c0_i32_17 c1_i32_19 k0_t2
  let c5120_i32 : BitVec 32 := 5120#32
  let v34 : BitVec 32 := Scalar.muli arg8 c5120_i32
  let v81 : Index := Scalar.indexCast v34
  ![2, v81.toNat]
def k0_off12 (k0_t2 : Fin k0_t2_loop.trips) : Fin 2 → Nat :=
  let c3_48 : Index := 3#32
  let c0_i32_17 : BitVec 32 := 0#32
  let c1_i32_19 : BitVec 32 := 1#32
  let arg8 : BitVec 32 := Scf.iv c0_i32_17 c1_i32_19 k0_t2
  let c5120_i32 : BitVec 32 := 5120#32
  let v34 : BitVec 32 := Scalar.muli arg8 c5120_i32
  let v84 : Index := Scalar.indexCast v34
  ![3, v84.toNat]
def k0_off13 (k0_t2 : Fin k0_t2_loop.trips) : Fin 3 → Nat :=
  let c0_53 : Index := 0#32
  let c0_54 : Index := 0#32
  let c0_i32_17 : BitVec 32 := 0#32
  let c1_i32_19 : BitVec 32 := 1#32
  let arg8 : BitVec 32 := Scf.iv c0_i32_17 c1_i32_19 k0_t2
  let c5120_i32 : BitVec 32 := 5120#32
  let v34 : BitVec 32 := Scalar.muli arg8 c5120_i32
  let v117 : Index := Scalar.indexCast v34
  ![0, 0, v117.toNat]
def k0_off14 (k0_t2 : Fin k0_t2_loop.trips) : Fin 3 → Nat :=
  let c0_55 : Index := 0#32
  let c1_56 : Index := 1#32
  let c0_i32_17 : BitVec 32 := 0#32
  let c1_i32_19 : BitVec 32 := 1#32
  let arg8 : BitVec 32 := Scf.iv c0_i32_17 c1_i32_19 k0_t2
  let c5120_i32 : BitVec 32 := 5120#32
  let v34 : BitVec 32 := Scalar.muli arg8 c5120_i32
  let v122 : Index := Scalar.indexCast v34
  ![0, 1, v122.toNat]
def k0_off15 (k0_t2 : Fin k0_t2_loop.trips) : Fin 3 → Nat :=
  let c0_57 : Index := 0#32
  let c2_58 : Index := 2#32
  let c0_i32_17 : BitVec 32 := 0#32
  let c1_i32_19 : BitVec 32 := 1#32
  let arg8 : BitVec 32 := Scf.iv c0_i32_17 c1_i32_19 k0_t2
  let c5120_i32 : BitVec 32 := 5120#32
  let v34 : BitVec 32 := Scalar.muli arg8 c5120_i32
  let v128 : Index := Scalar.indexCast v34
  ![0, 2, v128.toNat]
def k0_off16 (k0_t2 : Fin k0_t2_loop.trips) : Fin 3 → Nat :=
  let c0_59 : Index := 0#32
  let c3_60 : Index := 3#32
  let c0_i32_17 : BitVec 32 := 0#32
  let c1_i32_19 : BitVec 32 := 1#32
  let arg8 : BitVec 32 := Scf.iv c0_i32_17 c1_i32_19 k0_t2
  let c5120_i32 : BitVec 32 := 5120#32
  let v34 : BitVec 32 := Scalar.muli arg8 c5120_i32
  let v134 : Index := Scalar.indexCast v34
  ![0, 3, v134.toNat]
def k0_cond1 (i : grid0.Coords) : BitVec 1 :=
  let arg0 : BitVec 32 := BitVec.ofNat 32 (i 0).val
  let c0_i32_23 : BitVec 32 := 0#32
  let v28 : BitVec 1 := Scalar.cmpi .eq arg0 c0_i32_23
  let v29 : BitVec 32 := Scalar.extui v28
  let c0_i32_24 : BitVec 32 := 0#32
  let v30 : BitVec 1 := Scalar.cmpi .ne v29 c0_i32_24
  v30

def k0_cond2 (i : grid0.Coords) : BitVec 1 :=
  let arg0 : BitVec 32 := BitVec.ofNat 32 (i 0).val
  let c0_i32_25 : BitVec 32 := 0#32
  let v31 : BitVec 1 := Scalar.cmpi .ne arg0 c0_i32_25
  let v32 : BitVec 32 := Scalar.extui v31
  let c0_i32_26 : BitVec 32 := 0#32
  let v33 : BitVec 1 := Scalar.cmpi .ne v32 c0_i32_26
  v33

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S5x20480 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x20480 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x104x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x104 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x20480 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S8x100x4 : Shape := ⟨3, ![8, 100, 4]⟩
abbrev S8x20000x4 : Shape := ⟨3, ![8, 20000, 4]⟩
abbrev S20000x4 : Shape := ⟨2, ![20000, 4]⟩
abbrev S8x100x1 : Shape := ⟨3, ![8, 100, 1]⟩
abbrev S8x100 : Shape := ⟨2, ![8, 100]⟩
abbrev S20000x1 : Shape := ⟨2, ![20000, 1]⟩
abbrev S20000 : Shape := ⟨1, ![20000]⟩
abbrev S8x100x2 : Shape := ⟨3, ![8, 100, 2]⟩
abbrev S8x100x1x2 : Shape := ⟨4, ![8, 100, 1, 2]⟩
abbrev S20000x2 : Shape := ⟨2, ![20000, 2]⟩
abbrev S1x20000x2 : Shape := ⟨3, ![1, 20000, 2]⟩
abbrev S1x1x20000x2 : Shape := ⟨4, ![1, 1, 20000, 2]⟩
abbrev S8x100x20000x2 : Shape := ⟨4, ![8, 100, 20000, 2]⟩
abbrev S_ : Shape := ⟨0, ![]⟩
abbrev S8x100x20000x1 : Shape := ⟨4, ![8, 100, 20000, 1]⟩
abbrev S8x100x20000 : Shape := ⟨3, ![8, 100, 20000]⟩
abbrev S1x20000 : Shape := ⟨2, ![1, 20000]⟩
abbrev S1x1x20000 : Shape := ⟨3, ![1, 1, 20000]⟩
abbrev S8x20000 : Shape := ⟨2, ![8, 20000]⟩
abbrev S8x20000x1 : Shape := ⟨3, ![8, 20000, 1]⟩
abbrev S8 : Shape := ⟨1, ![8]⟩

abbrev nBuf : Space → Nat
  | .hbm => 212
  | .vmem => 0
  | .smem => 0
  | _ => 0

abbrev hbmTy0_0 (i : Nat) : BufTy := match i % 128 with
  | 0 => ⟨S8x100x4, .f32⟩
  | 1 => ⟨S8x20000x4, .f32⟩
  | 2 => ⟨S20000x4, .f32⟩
  | 3 => ⟨S8x100x1, .f32⟩
  | 4 => ⟨S8x100, .f32⟩
  | 5 => ⟨S8x100x1, .f32⟩
  | 6 => ⟨S8x100, .f32⟩
  | 7 => ⟨S8x100, .f32⟩
  | 8 => ⟨S8x100x1, .f32⟩
  | 9 => ⟨S8x100, .f32⟩
  | 10 => ⟨S8x100x1, .f32⟩
  | 11 => ⟨S8x100, .f32⟩
  | 12 => ⟨S8x100, .f32⟩
  | 13 => ⟨S8x100, .f32⟩
  | 14 => ⟨S20000x1, .f32⟩
  | 15 => ⟨S20000, .f32⟩
  | 16 => ⟨S20000x1, .f32⟩
  | 17 => ⟨S20000, .f32⟩
  | 18 => ⟨S20000, .f32⟩
  | 19 => ⟨S20000x1, .f32⟩
  | 20 => ⟨S20000, .f32⟩
  | 21 => ⟨S20000x1, .f32⟩
  | 22 => ⟨S20000, .f32⟩
  | 23 => ⟨S20000, .f32⟩
  | 24 => ⟨S20000, .f32⟩
  | 25 => ⟨S8x100x2, .f32⟩
  | 26 => ⟨S8x100x1x2, .f32⟩
  | 27 => ⟨S20000x2, .f32⟩
  | 28 => ⟨S1x20000x2, .f32⟩
  | 29 => ⟨S1x1x20000x2, .f32⟩
  | 30 => ⟨S8x100x20000x2, .f32⟩
  | 31 => ⟨S8x100x20000x2, .f32⟩
  | 32 => ⟨S8x100x20000x2, .f32⟩
  | 33 => ⟨S8x100x2, .f32⟩
  | 34 => ⟨S8x100x1x2, .f32⟩
  | 35 => ⟨S20000x2, .f32⟩
  | 36 => ⟨S1x20000x2, .f32⟩
  | 37 => ⟨S1x1x20000x2, .f32⟩
  | 38 => ⟨S8x100x20000x2, .f32⟩
  | 39 => ⟨S8x100x20000x2, .f32⟩
  | 40 => ⟨S8x100x20000x2, .f32⟩
  | 41 => ⟨S8x100x20000x2, .f32⟩
  | 42 => ⟨S_, .f32⟩
  | 43 => ⟨S_, .f32⟩
  | 44 => ⟨S8x100x20000x2, .f32⟩
  | 45 => ⟨S8x100x20000x2, .f32⟩
  | 46 => ⟨S8x100x20000x1, .f32⟩
  | 47 => ⟨S8x100x20000, .f32⟩
  | 48 => ⟨S8x100x20000x1, .f32⟩
  | 49 => ⟨S8x100x20000, .f32⟩
  | 50 => ⟨S8x100x20000, .f32⟩
  | 51 => ⟨S8x100x1, .f32⟩
  | 52 => ⟨S1x20000, .f32⟩
  | 53 => ⟨S1x1x20000, .f32⟩
  | 54 => ⟨S8x100x20000, .f32⟩
  | 55 => ⟨S8x100x20000, .f32⟩
  | 56 => ⟨S8x100x20000, .f32⟩
  | 57 => ⟨S8x100x20000, .f32⟩
  | 58 => ⟨S8x100x20000, .f32⟩
  | 59 => ⟨S_, .f32⟩
  | 60 => ⟨S8x20000, .f32⟩
  | 61 => ⟨S8x100x20000, .i32⟩
  | 62 => ⟨S_, .f32⟩
  | 63 => ⟨S_, .i32⟩
  | 64 => ⟨S8x20000, .f32⟩
  | 65 => ⟨S8x20000, .i32⟩
  | 66 => ⟨S_, .f32⟩
  | 67 => ⟨S8x20000, .f32⟩
  | 68 => ⟨S8x20000, .i1⟩
  | 69 => ⟨S_, .f32⟩
  | 70 => ⟨S8x20000, .f32⟩
  | 71 => ⟨S8x20000, .i1⟩
  | 72 => ⟨S_, .f32⟩
  | 73 => ⟨S8x20000, .f32⟩
  | 74 => ⟨S8x20000, .i1⟩
  | 75 => ⟨S8x20000, .i1⟩
  | 76 => ⟨S_, .i32⟩
  | 77 => ⟨S20000, .i32⟩
  | 78 => ⟨S8x20000, .i32⟩
  | 79 => ⟨S8x20000, .i32⟩
  | 80 => ⟨S_, .i32⟩
  | 81 => ⟨S20000, .i32⟩
  | 82 => ⟨S8x20000, .i32⟩
  | 83 => ⟨S8x20000, .i32⟩
  | 84 => ⟨S_, .f32⟩
  | 85 => ⟨S8x100, .f32⟩
  | 86 => ⟨S8x100x1, .f32⟩
  | 87 => ⟨S8x100x20000, .f32⟩
  | 88 => ⟨S8x100x20000, .i1⟩
  | 89 => ⟨S_, .i1⟩
  | 90 => ⟨S8x20000, .i1⟩
  | 91 => ⟨S8x20000, .i32⟩
  | 92 => ⟨S_, .i32⟩
  | 93 => ⟨S8x20000, .i32⟩
  | 94 => ⟨S8x20000, .i1⟩
  | 95 => ⟨S_, .i32⟩
  | 96 => ⟨S_, .i32⟩
  | 97 => ⟨S8x20000, .i32⟩
  | 98 => ⟨S8x20000, .i32⟩
  | 99 => ⟨S_, .i32⟩
  | 100 => ⟨S8x20000, .i32⟩
  | 101 => ⟨S8x20000, .i1⟩
  | 102 => ⟨S_, .i32⟩
  | 103 => ⟨S8x20000, .i32⟩
  | 104 => ⟨S8x20000, .i32⟩
  | 105 => ⟨S8x20000, .i32⟩
  | 106 => ⟨S8x20000x1, .i32⟩
  | 107 => ⟨S8x20000x4, .f32⟩
  | 108 => ⟨S20000x1, .f32⟩
  | 109 => ⟨S20000, .f32⟩
  | 110 => ⟨S20000x1, .f32⟩
  | 111 => ⟨S20000, .f32⟩
  | 112 => ⟨S20000, .f32⟩
  | 113 => ⟨S20000x1, .f32⟩
  | 114 => ⟨S20000, .f32⟩
  | 115 => ⟨S20000x1, .f32⟩
  | 116 => ⟨S20000, .f32⟩
  | 117 => ⟨S20000, .f32⟩
  | 118 => ⟨S20000x1, .f32⟩
  | 119 => ⟨S20000, .f32⟩
  | 120 => ⟨S_, .f32⟩
  | 121 => ⟨S20000, .f32⟩
  | 122 => ⟨S20000, .f32⟩
  | 123 => ⟨S20000, .f32⟩
  | 124 => ⟨S20000x1, .f32⟩
  | 125 => ⟨S20000, .f32⟩
  | 126 => ⟨S_, .f32⟩
  | 127 => ⟨S20000, .f32⟩
  | _ => ⟨S8x100x4, .f32⟩

abbrev hbmTy0_1 (i : Nat) : BufTy := match i % 128 with
  | 0 => ⟨S20000, .f32⟩
  | 1 => ⟨S20000, .f32⟩
  | 2 => ⟨S8x20000x1, .f32⟩
  | 3 => ⟨S8x20000, .f32⟩
  | 4 => ⟨S8x20000x1, .f32⟩
  | 5 => ⟨S8x20000, .f32⟩
  | 6 => ⟨S8x20000, .f32⟩
  | 7 => ⟨S8x20000x1, .f32⟩
  | 8 => ⟨S8x20000, .f32⟩
  | 9 => ⟨S8x20000x1, .f32⟩
  | 10 => ⟨S8x20000, .f32⟩
  | 11 => ⟨S8x20000, .f32⟩
  | 12 => ⟨S8x20000x1, .f32⟩
  | 13 => ⟨S8x20000, .f32⟩
  | 14 => ⟨S_, .f32⟩
  | 15 => ⟨S8x20000, .f32⟩
  | 16 => ⟨S8x20000, .f32⟩
  | 17 => ⟨S8x20000, .f32⟩
  | 18 => ⟨S8x20000x1, .f32⟩
  | 19 => ⟨S8x20000, .f32⟩
  | 20 => ⟨S_, .f32⟩
  | 21 => ⟨S8x20000, .f32⟩
  | 22 => ⟨S8x20000, .f32⟩
  | 23 => ⟨S8x20000, .f32⟩
  | 24 => ⟨S1x20000, .f32⟩
  | 25 => ⟨S8x20000, .f32⟩
  | 26 => ⟨S8x20000, .f32⟩
  | 27 => ⟨S_, .f32⟩
  | 28 => ⟨S8x20000, .f32⟩
  | 29 => ⟨S8x20000, .f32⟩
  | 30 => ⟨S1x20000, .f32⟩
  | 31 => ⟨S8x20000, .f32⟩
  | 32 => ⟨S8x20000, .f32⟩
  | 33 => ⟨S1x20000, .f32⟩
  | 34 => ⟨S8x20000, .f32⟩
  | 35 => ⟨S8x20000, .f32⟩
  | 36 => ⟨S_, .f32⟩
  | 37 => ⟨S8x20000, .f32⟩
  | 38 => ⟨S8x20000, .f32⟩
  | 39 => ⟨S1x20000, .f32⟩
  | 40 => ⟨S8x20000, .f32⟩
  | 41 => ⟨S8x20000, .f32⟩
  | 42 => ⟨S1x20000, .f32⟩
  | 43 => ⟨S8x20000, .f32⟩
  | 44 => ⟨S8x20000, .f32⟩
  | 45 => ⟨S8x20000, .f32⟩
  | 46 => ⟨S_, .f32⟩
  | 47 => ⟨S8x20000, .f32⟩
  | 48 => ⟨S8x20000, .f32⟩
  | 49 => ⟨S1x20000, .f32⟩
  | 50 => ⟨S8x20000, .f32⟩
  | 51 => ⟨S8x20000, .f32⟩
  | 52 => ⟨S8x20000, .f32⟩
  | 53 => ⟨S_, .f32⟩
  | 54 => ⟨S8x20000, .f32⟩
  | 55 => ⟨S8x20000, .f32⟩
  | 56 => ⟨S8x20000x1, .f32⟩
  | 57 => ⟨S8x20000x1, .f32⟩
  | 58 => ⟨S8x20000x1, .f32⟩
  | 59 => ⟨S8x20000x1, .f32⟩
  | 60 => ⟨S8x20000x4, .f32⟩
  | 61 => ⟨S8x20000x1, .i1⟩
  | 62 => ⟨S8x20000x4, .f32⟩
  | 63 => ⟨S8x20000x4, .f32⟩
  | 64 => ⟨S_, .f32⟩
  | 65 => ⟨S_, .f32⟩
  | 66 => ⟨S8x20000x4, .i1⟩
  | 67 => ⟨S20000x4, .f32⟩
  | 68 => ⟨S8x20000x4, .f32⟩
  | 69 => ⟨S8x20000x4, .f32⟩
  | 70 => ⟨S8x20000, .i32⟩
  | 71 => ⟨S_, .i32⟩
  | 72 => ⟨S8, .i32⟩
  | 73 => ⟨S_, .f32⟩
  | 74 => ⟨S8, .f32⟩
  | 75 => ⟨S_, .i32⟩
  | 76 => ⟨S8, .i32⟩
  | 77 => ⟨S8, .i32⟩
  | 78 => ⟨S8, .f32⟩
  | 79 => ⟨S8, .f32⟩
  | 80 => ⟨S_, .f32⟩
  | 81 => ⟨S_, .f32⟩
  | 82 => ⟨S_, .f32⟩
  | 83 => ⟨S_, .f32⟩
  | _ => ⟨S8x100x4, .f32⟩

abbrev hbmTy (i : Nat) : BufTy := match i / 128 with
  | 0 => hbmTy0_0 i
  | 1 => hbmTy0_1 i
  | _ => ⟨S8x100x4, .f32⟩

abbrev bufTy : (tb : Table) → Fin (tcTables nBuf tb) → BufTy
  | .hbm, ⟨i, _⟩ => hbmTy i
  | _, _ => ⟨S8x100x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_cst : Ref sig .tc := ⟨.hbm, 42, rfl⟩
abbrev main_call0_v0 : Ref sig .tc := ⟨.hbm, 43, rfl⟩
abbrev main_call0_v1 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_cst_0 : Ref sig .tc := ⟨.hbm, 59, rfl⟩
abbrev main_v53 : Ref sig .tc := ⟨.hbm, 60, rfl⟩
abbrev main_call1_v0 : Ref sig .tc := ⟨.hbm, 61, rfl⟩
abbrev main_call1_cst : Ref sig .tc := ⟨.hbm, 62, rfl⟩
abbrev main_call1_c : Ref sig .tc := ⟨.hbm, 63, rfl⟩
abbrev main_call1_v1_0 : Ref sig .tc := ⟨.hbm, 64, rfl⟩
abbrev main_v54 : Ref sig .tc := ⟨.hbm, 65, rfl⟩
abbrev main_cst_1 : Ref sig .tc := ⟨.hbm, 66, rfl⟩
abbrev main_v55 : Ref sig .tc := ⟨.hbm, 67, rfl⟩
abbrev main_v56 : Ref sig .tc := ⟨.hbm, 68, rfl⟩
abbrev main_cst_2 : Ref sig .tc := ⟨.hbm, 69, rfl⟩
abbrev main_v57 : Ref sig .tc := ⟨.hbm, 70, rfl⟩
abbrev main_v58 : Ref sig .tc := ⟨.hbm, 71, rfl⟩
abbrev main_cst_3 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_c : Ref sig .tc := ⟨.hbm, 76, rfl⟩
abbrev main_call2_v0 : Ref sig .tc := ⟨.hbm, 77, rfl⟩
abbrev main_call2_v1 : Ref sig .tc := ⟨.hbm, 78, rfl⟩
abbrev main_v62 : Ref sig .tc := ⟨.hbm, 79, rfl⟩
abbrev main_c_4 : Ref sig .tc := ⟨.hbm, 80, rfl⟩
abbrev main_call3_v0 : Ref sig .tc := ⟨.hbm, 81, rfl⟩
abbrev main_call3_v1 : Ref sig .tc := ⟨.hbm, 82, rfl⟩
abbrev main_v63 : Ref sig .tc := ⟨.hbm, 83, rfl⟩
abbrev main_cst_5 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_c_6 : Ref sig .tc := ⟨.hbm, 89, rfl⟩
abbrev main_v68 : Ref sig .tc := ⟨.hbm, 90, rfl⟩
abbrev main_v69 : Ref sig .tc := ⟨.hbm, 91, rfl⟩
abbrev main_c_7 : Ref sig .tc := ⟨.hbm, 92, rfl⟩
abbrev main_v70 : Ref sig .tc := ⟨.hbm, 93, rfl⟩
abbrev main_v71 : Ref sig .tc := ⟨.hbm, 94, rfl⟩
abbrev main_c_8 : Ref sig .tc := ⟨.hbm, 95, rfl⟩
abbrev main_call5_v0 : Ref sig .tc := ⟨.hbm, 96, rfl⟩
abbrev main_call5_v1 : Ref sig .tc := ⟨.hbm, 97, rfl⟩
abbrev main_v72 : Ref sig .tc := ⟨.hbm, 98, rfl⟩
abbrev main_c_9 : Ref sig .tc := ⟨.hbm, 99, rfl⟩
abbrev main_v73 : Ref sig .tc := ⟨.hbm, 100, rfl⟩
abbrev main_v74 : Ref sig .tc := ⟨.hbm, 101, rfl⟩
abbrev main_c_10 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_11 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_cst_12 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_cst_13 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_cst_14 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_cst_15 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_cst_16 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_cst_17 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_cst_18 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_cst_19 : Ref sig .tc := ⟨.hbm, 192, rfl⟩
abbrev main_call6_v0 : Ref sig .tc := ⟨.hbm, 193, rfl⟩
abbrev main_call6_v1 : Ref sig .tc := ⟨.hbm, 194, rfl⟩
abbrev main_call6_v2 : Ref sig .tc := ⟨.hbm, 195, rfl⟩
abbrev main_call6_v3 : Ref sig .tc := ⟨.hbm, 196, rfl⟩
abbrev main_v156 : Ref sig .tc := ⟨.hbm, 197, rfl⟩
abbrev main_v157 : Ref sig .tc := ⟨.hbm, 198, rfl⟩
abbrev main_c_20 : Ref sig .tc := ⟨.hbm, 199, rfl⟩
abbrev main_v158 : Ref sig .tc := ⟨.hbm, 200, rfl⟩
abbrev main_cst_21 : Ref sig .tc := ⟨.hbm, 201, rfl⟩
abbrev main_v159 : Ref sig .tc := ⟨.hbm, 202, rfl⟩
abbrev main_c_22 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_cst_23 : Ref sig .tc := ⟨.hbm, 208, rfl⟩
abbrev main_v164 : Ref sig .tc := ⟨.hbm, 209, rfl⟩
abbrev main_cst_24 : Ref sig .tc := ⟨.hbm, 210, rfl⟩
abbrev main_v165 : Ref sig .tc := ⟨.hbm, 211, rfl⟩

abbrev nD : Nat := 1
abbrev τ : Topo := Topo.v7x

variable {F : FTy → Type} [FloatOps F]
-- ==== Proof.Body.lean ====
/- What one run of the idealized kernel's body computes from its input blocks, spelt with the body's own payloads:
   the overlap ratios of every chunk of anchors, the running row maxima, and the running loss and count. The two
   loops' trips are shown to compute these. -/
module

public import proofs.«01_k».proof.Proof.Gen.KernelIdeal.Frame.Runs
public import Idealize.ShloMosaic.Lib.WritesUnit
public import Idealize.ShloMosaic.Lib.Pointwise

@[expose] public section

set_option maxRecDepth 16384

noncomputable section

namespace Cert.KernelIdeal.Body

open Idealize.ShloMosaic Idealize.ShloMosaic.TcCoe Idealize.ShloMosaic.Tactic
open Cert.KernelIdeal.Gen

variable {F : FTy → Type} [FloatOps F]

/-- Column `j` of the padded box table, as the body loads it. -/
def gtCol0 (x2 : Vec F S1x104x8 .f32) : Vec F S1x104x1 .f32 :=
  View.ld x2 (Rect.unit (s := S1x104x8) ![0, 0, 0] S1x104x1.size inb_S1x104x8_S1x104x1_0_0_0)
def gtCol1 (x2 : Vec F S1x104x8 .f32) : Vec F S1x104x1 .f32 :=
  View.ld x2 (Rect.unit (s := S1x104x8) ![0, 0, 1] S1x104x1.size inb_S1x104x8_S1x104x1_0_0_1)
def gtCol2 (x2 : Vec F S1x104x8 .f32) : Vec F S1x104x1 .f32 :=
  View.ld x2 (Rect.unit (s := S1x104x8) ![0, 0, 2] S1x104x1.size inb_S1x104x8_S1x104x1_0_0_2)
def gtCol3 (x2 : Vec F S1x104x8 .f32) : Vec F S1x104x1 .f32 :=
  View.ld x2 (Rect.unit (s := S1x104x8) ![0, 0, 3] S1x104x1.size inb_S1x104x8_S1x104x1_0_0_3)
def gtCol4 (x2 : Vec F S1x104x8 .f32) : Vec F S1x104x1 .f32 :=
  View.ld x2 (Rect.unit (s := S1x104x8) ![0, 0, 4] S1x104x1.size inb_S1x104x8_S1x104x1_0_0_4)
def gtCol5 (x2 : Vec F S1x104x8 .f32) : Vec F S1x104x1 .f32 :=
  View.ld x2 (Rect.unit (s := S1x104x8) ![0, 0, 5] S1x104x1.size inb_S1x104x8_S1x104x1_0_0_5)

/-- Row 0 of chunk `k` of the anchors, and rows 1 to 4 below. -/
def anRow0 (x0 : Vec F S5x20480 .f32) (k : Fin k0_t1_loop.trips) : Vec F S1x5120 .f32 :=
  View.ld x0 (Rect.unit (s := S5x20480) (k0_off1 k) S1x5120.size (k0_off1_inb k))
def anRow1 (x0 : Vec F S5x20480 .f32) (k : Fin k0_t1_loop.trips) : Vec F S1x5120 .f32 :=
  View.ld x0 (Rect.unit (s := S5x20480) (k0_off2 k) S1x5120.size (k0_off2_inb k))
def anRow2 (x0 : Vec F S5x20480 .f32) (k : Fin k0_t1_loop.trips) : Vec F S1x5120 .f32 :=
  View.ld x0 (Rect.unit (s := S5x20480) (k0_off3 k) S1x5120.size (k0_off3_inb k))
def anRow3 (x0 : Vec F S5x20480 .f32) (k : Fin k0_t1_loop.trips) : Vec F S1x5120 .f32 :=
  View.ld x0 (Rect.unit (s := S5x20480) (k0_off4 k) S1x5120.size (k0_off4_inb k))
def anRow4 (x0 : Vec F S5x20480 .f32) (k : Fin k0_t1_loop.trips) : Vec F S1x5120 .f32 :=
  View.ld x0 (Rect.unit (s := S5x20480) (k0_off5 k) S1x5120.size (k0_off5_inb k))

/-- The overlap ratios of chunk `k`. -/
def iouChunk (x0 : Vec F S5x20480 .f32) (x2 : Vec F S1x104x8 .f32) (k : Fin k0_t1_loop.trips) : FVec F S104x5120 .f32 :=
  k0_pay3 (k0_pay24 (gtCol0 x2)) (k0_pay25 (gtCol1 x2)) (k0_pay26 (gtCol2 x2)) (k0_pay27 (gtCol3 x2)) (k0_pay28 (gtCol4 x2))
    (anRow0 x0 k) (anRow1 x0 k) (anRow2 x0 k) (anRow3 x0 k) (anRow4 x0 k)

/-- The chunk as the body stores it. -/
def iouStored (x0 : Vec F S5x20480 .f32) (x2 : Vec F S1x104x8 .f32) (k : Fin k0_t1_loop.trips) : FVec F S104x5120 .f32 :=
  k0_pay4 (k0_pay24 (gtCol0 x2)) (k0_pay25 (gtCol1 x2)) (k0_pay26 (gtCol2 x2)) (k0_pay27 (gtCol3 x2)) (k0_pay28 (gtCol4 x2))
    (anRow0 x0 k) (anRow1 x0 k) (anRow2 x0 k) (anRow3 x0 k) (anRow4 x0 k)

/-- The running maxima after chunk `k`, from those before it. -/
def rowStep (x0 : Vec F S5x20480 .f32) (x2 : Vec F S1x104x8 .f32) (k : Fin k0_t1_loop.trips) (acc : FVec F S104x128 .f32) :
    FVec F S104x128 .f32 :=
  k0_pay30 (iouChunk x0 x2 k)
    (k0_pay7 (iouChunk x0 x2 k)
      (k0_pay5 (k0_pay24 (gtCol0 x2)) (k0_pay25 (gtCol1 x2)) (k0_pay26 (gtCol2 x2)) (k0_pay27 (gtCol3 x2)) (k0_pay28 (gtCol4 x2)) acc
        (anRow0 x0 k) (anRow1 x0 k) (anRow2 x0 k) (anRow3 x0 k) (anRow4 x0 k))
      (k0_pay6 (k0_pay24 (gtCol0 x2)) (k0_pay25 (gtCol1 x2)) (k0_pay26 (gtCol2 x2)) (k0_pay27 (gtCol3 x2)) (k0_pay28 (gtCol4 x2))
        (anRow0 x0 k) (anRow1 x0 k) (anRow2 x0 k) (anRow3 x0 k) (anRow4 x0 k)))
    (k0_pay8 (iouChunk x0 x2 k))

/-- The running maxima after the first `n` chunks. -/
def rowAcc (x0 : Vec F S5x20480 .f32) (x2 : Vec F S1x104x8 .f32) : ℕ → FVec F S104x128 .f32
  | 0 => k0_pay29
  | n + 1 => if h : n < k0_t1_loop.trips then rowStep x0 x2 ⟨n, h⟩ (rowAcc x0 x2 n) else rowAcc x0 x2 n

theorem trips1 : k0_t1_loop.trips = 4 := by decide +kernel
theorem trips2 : k0_t2_loop.trips = 4 := by decide +kernel

/-- The whole table of overlap ratios, the chunks side by side. -/
def iouAll (x0 : Vec F S5x20480 .f32) (x2 : Vec F S1x104x8 .f32) : Vec F S104x20480 .f32 := fun y =>
  iouStored x0 x2 ⟨(y 1).val / 5120, by rw [trips1]; have : (y 1).val < 20480 := (y 1).isLt; omega⟩
    (ix2 (⟨(y 0).val, (y 0).isLt⟩ : Fin 104) (⟨(y 1).val % 5120, Nat.mod_lt _ (by decide)⟩ : Fin 5120))

/-- The selection matrix of chunk `k`: per anchor, a one at its best box. -/
def oneHot (iou : Vec F S104x20480 .f32) (k : Fin k0_t2_loop.trips) : FVec F S104x5120 .f32 :=
  k0_pay11 k0_pay32 (View.ld iou (Rect.unit (s := S104x20480) (k0_off7 k) S104x5120.size (k0_off7_inb k)))

/-- The foreground mask of chunk `k`. -/
def fgMask (hi : FVec F S104x1 .f32) (iou : Vec F S104x20480 .f32) (x1 : Vec F S1x20480 .f32) (k : Fin k0_t2_loop.trips) :
    FVec F S1x5120 .f32 :=
  k0_pay10 hi (View.ld iou (Rect.unit (s := S104x20480) (k0_off7 k) S104x5120.size (k0_off7_inb k)))
    (View.ld x1 (Rect.unit (s := S1x20480) (k0_off8 k) S1x5120.size (k0_off8_inb k)))

/-- The running loss and count after chunk `k`, from those before it. -/
def lossStep (hi : FVec F S104x1 .f32) (iou : Vec F S104x20480 .f32) (x0 : Vec F S5x20480 .f32) (x1 : Vec F S1x20480 .f32)
    (x3 : Vec F S1x8x104 .f32) (x4 : Vec F S1x4x20480 .f32) (k : Fin k0_t2_loop.trips) (acc : F .f32 × F .f32) : F .f32 × F .f32 :=
  let g := k0_pay12 (View.ld x3 (Rect.unit (s := S1x8x104) ![0, 0, 0] S1x8x104.size inb_S1x8x104_S1x8x104_0_0_0))
  let z : FVec F S8x5120 .f32 := constant S8x5120 .f32 0x00000000#32
  let a0 := View.ld x0 (Rect.unit (s := S5x20480) (k0_off9 k) S1x5120.size (k0_off9_inb k))
  let a1 := View.ld x0 (Rect.unit (s := S5x20480) (k0_off10 k) S1x5120.size (k0_off10_inb k))
  let a2 := View.ld x0 (Rect.unit (s := S5x20480) (k0_off11 k) S1x5120.size (k0_off11_inb k))
  let a3 := View.ld x0 (Rect.unit (s := S5x20480) (k0_off12 k) S1x5120.size (k0_off12_inb k))
  (k0_pay33 acc.1 (fgMask hi iou x1 k) (k0_pay20 (oneHot iou k) g z a1 a3) (k0_pay21 (oneHot iou k) g z a0 a2)
      (k0_pay22 (oneHot iou k) g z a1 a3)
      (k0_pay23 (oneHot iou k) g z a0 a2 (View.ld x4 (Rect.unit (s := S1x4x20480) (k0_off13 k) S1x1x5120.size (k0_off13_inb k))))
      (View.ld x4 (Rect.unit (s := S1x4x20480) (k0_off14 k) S1x1x5120.size (k0_off14_inb k)))
      (View.ld x4 (Rect.unit (s := S1x4x20480) (k0_off15 k) S1x1x5120.size (k0_off15_inb k)))
      (View.ld x4 (Rect.unit (s := S1x4x20480) (k0_off16 k) S1x1x5120.size (k0_off16_inb k))),
    k0_pay34 acc.2 (fgMask hi iou x1 k))

/-- The running loss and count after the first `n` chunks. -/
def lossAcc (hi : FVec F S104x1 .f32) (iou : Vec F S104x20480 .f32) (x0 : Vec F S5x20480 .f32) (x1 : Vec F S1x20480 .f32)
    (x3 : Vec F S1x8x104 .f32) (x4 : Vec F S1x4x20480 .f32) (init : F .f32 × F .f32) : ℕ → F .f32 × F .f32
  | 0 => init
  | n + 1 => if h : n < k0_t2_loop.trips then lossStep hi iou x0 x1 x3 x4 ⟨n, h⟩ (lossAcc hi iou x0 x1 x3 x4 init n)
      else lossAcc hi iou x0 x1 x3 x4 init n

/-- The loss of one batch entry, from its blocks. -/
def bodyLoss (x0 : Vec F S5x20480 .f32) (x1 : Vec F S1x20480 .f32) (x2 : Vec F S1x104x8 .f32) (x3 : Vec F S1x8x104 .f32)
    (x4 : Vec F S1x4x20480 .f32) : F .f32 :=
  let r := lossAcc (k0_pay31 (gtCol5 x2) (rowAcc x0 x2 k0_t1_loop.trips)) (iouAll x0 x2) x0 x1 x3 x4
    (FloatOps.ofBits .f32 0x00000000#32, FloatOps.ofBits .f32 0x00000000#32) k0_t2_loop.trips
  k0_pay35 r.1 r.2

/-- The first loop's trip yields `rowStep`. -/
theorem trip1_yield (𝒱 : Variants) (bd : Option 𝒱.V) (c : Dev nD) (i : grid0.Coords) (arg1 : Memref sig .tc .vmem S5x20480 .f32) (harg1 : arg1.IsWhole) (arg2 : Memref sig .tc .vmem S1x20480 .f32) (harg2 : arg2.IsWhole) (arg3 : Memref sig .tc .vmem S1x104x8 .f32) (harg3 : arg3.IsWhole) (arg4 : Memref sig .tc .vmem S1x8x104 .f32) (harg4 : arg4.IsWhole) (arg5 : Memref sig .tc .vmem S1x4x20480 .f32) (harg5 : arg5.IsWhole) (arg6 : Memref sig .tc .vmem S1x1 .f32) (harg6 : arg6.IsWhole) (arg7 : Memref sig .tc .vmem S104x20480 .f32) (harg7 : arg7.IsWhole) (x0 : Vec F S5x20480 .f32) (x2 : Vec F S1x104x8 .f32) (k : Fin k0_t1_loop.trips) (acc : FVec F S104x128 .f32) :
    tripR_k0_t1 (F := F) 𝒱 c bd i arg1 harg1 arg2 harg2 arg3 harg3 arg4 harg4 arg5 harg5 arg6 harg6 arg7 harg7 (gtCol0 x2) (gtCol1 x2) (gtCol2 x2) (gtCol3 x2) (gtCol4 x2) (harg1.unread x0) k acc
      = rowStep x0 x2 k acc := by
  unfold tripR_k0_t1 trip_k0_t1
  dsimp only
  unfold trip_k0_t1.sl.r_3 trip_k0_t1.sl.r_4 trip_k0_t1.sl.r trip_k0_t1.sl.r_1 trip_k0_t1.sl.r_2
  simp only [View.readAt_eq_ld, harg1.read_unread]
  rfl

/-- The first loop's trip stores its chunk. -/
theorem trip1_store (𝒱 : Variants) (bd : Option 𝒱.V) (c : Dev nD) (i : grid0.Coords) (arg1 : Memref sig .tc .vmem S5x20480 .f32) (harg1 : arg1.IsWhole) (arg2 : Memref sig .tc .vmem S1x20480 .f32) (harg2 : arg2.IsWhole) (arg3 : Memref sig .tc .vmem S1x104x8 .f32) (harg3 : arg3.IsWhole) (arg4 : Memref sig .tc .vmem S1x8x104 .f32) (harg4 : arg4.IsWhole) (arg5 : Memref sig .tc .vmem S1x4x20480 .f32) (harg5 : arg5.IsWhole) (arg6 : Memref sig .tc .vmem S1x1 .f32) (harg6 : arg6.IsWhole) (arg7 : Memref sig .tc .vmem S104x20480 .f32) (harg7 : arg7.IsWhole) (x0 : Vec F S5x20480 .f32) (x2 : Vec F S1x104x8 .f32) (k : Fin k0_t1_loop.trips) (acc : FVec F S104x128 .f32) :
    tripL_k0_t1 (F := F) 𝒱 c bd i arg1 harg1 arg2 harg2 arg3 harg3 arg4 harg4 arg5 harg5 arg6 harg6 arg7 harg7 (gtCol0 x2) (gtCol1 x2) (gtCol2 x2) (gtCol3 x2) (gtCol4 x2) (harg1.unread x0) k acc
      = [⟨Rect.unit (s := S104x20480) (k0_off6 k) S104x5120.size (k0_off6_inb k), iouStored x0 x2 k⟩] := by
  unfold tripL_k0_t1 trip_k0_t1
  dsimp only
  simp only [View.readAt_eq_ld, harg1.read_unread]
  rfl

/-- The second loop's trip yields `lossStep`. -/
theorem trip2_yield (𝒱 : Variants) (bd : Option 𝒱.V) (c : Dev nD) (i : grid0.Coords) (arg1 : Memref sig .tc .vmem S5x20480 .f32) (harg1 : arg1.IsWhole) (arg2 : Memref sig .tc .vmem S1x20480 .f32) (harg2 : arg2.IsWhole) (arg3 : Memref sig .tc .vmem S1x104x8 .f32) (harg3 : arg3.IsWhole) (arg4 : Memref sig .tc .vmem S1x8x104 .f32) (harg4 : arg4.IsWhole) (arg5 : Memref sig .tc .vmem S1x4x20480 .f32) (harg5 : arg5.IsWhole) (arg6 : Memref sig .tc .vmem S1x1 .f32) (harg6 : arg6.IsWhole) (arg7 : Memref sig .tc .vmem S104x20480 .f32) (harg7 : arg7.IsWhole) (v10 : Vec F S1x104x1 .f32) (v14 : FVec F S104x128 .f32) (x0 : Vec F S5x20480 .f32) (x1 : Vec F S1x20480 .f32) (x3 : Vec F S1x8x104 .f32) (x4 : Vec F S1x4x20480 .f32) (iou : Vec F S104x20480 .f32) (k : Fin k0_t2_loop.trips) (acc : F .f32 × F .f32) :
    tripR_k0_t2 (F := F) 𝒱 c bd i arg1 harg1 arg2 harg2 arg3 harg3 arg4 harg4 arg5 harg5 arg6 harg6 arg7 harg7 v10 v14 (harg1.unread x0) (harg2.unread x1) (harg4.unread x3) (harg5.unread x4) (harg7.unread iou) k acc
      = lossStep (k0_pay31 v10 v14) iou x0 x1 x3 x4 k acc := by
  unfold tripR_k0_t2 trip_k0_t2
  dsimp only
  unfold trip_k0_t2.sl.r trip_k0_t2.sl.r_3 trip_k0_t2.sl.r_4 trip_k0_t2.sl.r_5 trip_k0_t2.sl.r_6 trip_k0_t2.sl.r_1 trip_k0_t2.sl.r_2
  simp only [View.readAt_eq_ld, harg1.read_unread, harg2.read_unread, harg4.read_unread, harg5.read_unread, harg7.read_unread]
  rfl

/-- The second loop's state is `lossAcc`. -/
theorem st2_eq (𝒱 : Variants) (bd : Option 𝒱.V) (c : Dev nD) (i : grid0.Coords) (arg1 : Memref sig .tc .vmem S5x20480 .f32) (harg1 : arg1.IsWhole) (arg2 : Memref sig .tc .vmem S1x20480 .f32) (harg2 : arg2.IsWhole) (arg3 : Memref sig .tc .vmem S1x104x8 .f32) (harg3 : arg3.IsWhole) (arg4 : Memref sig .tc .vmem S1x8x104 .f32) (harg4 : arg4.IsWhole) (arg5 : Memref sig .tc .vmem S1x4x20480 .f32) (harg5 : arg5.IsWhole) (arg6 : Memref sig .tc .vmem S1x1 .f32) (harg6 : arg6.IsWhole) (arg7 : Memref sig .tc .vmem S104x20480 .f32) (harg7 : arg7.IsWhole) (v10 : Vec F S1x104x1 .f32) (v14 : FVec F S104x128 .f32) (x0 : Vec F S5x20480 .f32) (x1 : Vec F S1x20480 .f32) (x3 : Vec F S1x8x104 .f32) (x4 : Vec F S1x4x20480 .f32) (iou : Vec F S104x20480 .f32) (init : F .f32 × F .f32) (n : ℕ) (hn : n ≤ k0_t2_loop.trips) :
    st_k0_t2 (F := F) 𝒱 c bd i arg1 harg1 arg2 harg2 arg3 harg3 arg4 harg4 arg5 harg5 arg6 harg6 arg7 harg7 v10 v14 (harg1.unread x0) (harg2.unread x1) (harg4.unread x3) (harg5.unread x4) (harg7.unread iou) init n
      = lossAcc (k0_pay31 v10 v14) iou x0 x1 x3 x4 init n := by
  induction n with
  | zero => rfl
  | succ n ih =>
    have h : n < k0_t2_loop.trips := hn
    rw [st_k0_t2_succ 𝒱 c bd i arg1 harg1 arg2 harg2 arg3 harg3 arg4 harg4 arg5 harg5 arg6 harg6 arg7 harg7 v10 v14 _ _ _ _ _ init ⟨n, h⟩, ih (Nat.le_of_lt h), trip2_yield]
    rw [lossAcc, dif_pos h]

/-- The pieces the first `n` trips of the first loop store. -/
abbrev iouPieces (x0 : Vec F S5x20480 .f32) (x2 : Vec F S1x104x8 .f32) (n : ℕ) (hn : n ≤ k0_t1_loop.trips) :
    List (View.Piece (Elt F) S104x20480 .f32) :=
  View.tilePieces (s := S104x20480) (NT := k0_t1_loop.trips) S104x5120.size (fun k => k0_off6 k) (fun k => k0_off6_inb k)
    (fun k => iouStored x0 x2 k) n hn

/-- The first loop's state: the running maxima, and the chunks stored. -/
theorem st1_eq (𝒱 : Variants) (bd : Option 𝒱.V) (c : Dev nD) (i : grid0.Coords) (arg1 : Memref sig .tc .vmem S5x20480 .f32) (harg1 : arg1.IsWhole) (arg2 : Memref sig .tc .vmem S1x20480 .f32) (harg2 : arg2.IsWhole) (arg3 : Memref sig .tc .vmem S1x104x8 .f32) (harg3 : arg3.IsWhole) (arg4 : Memref sig .tc .vmem S1x8x104 .f32) (harg4 : arg4.IsWhole) (arg5 : Memref sig .tc .vmem S1x4x20480 .f32) (harg5 : arg5.IsWhole) (arg6 : Memref sig .tc .vmem S1x1 .f32) (harg6 : arg6.IsWhole) (arg7 : Memref sig .tc .vmem S104x20480 .f32) (harg7 : arg7.IsWhole) (x0 : Vec F S5x20480 .f32) (x2 : Vec F S1x104x8 .f32) (n : ℕ) (hn : n ≤ k0_t1_loop.trips) :
    st_k0_t1 (F := F) 𝒱 c bd i arg1 harg1 arg2 harg2 arg3 harg3 arg4 harg4 arg5 harg5 arg6 harg6 arg7 harg7 (gtCol0 x2) (gtCol1 x2) (gtCol2 x2) (gtCol3 x2) (gtCol4 x2) (harg1.unread x0) k0_pay29 n
      = (rowAcc x0 x2 n, iouPieces x0 x2 n hn) := by
  induction n with
  | zero => rfl
  | succ n ih =>
    have h : n < k0_t1_loop.trips := hn
    rw [st_k0_t1_succ 𝒱 c bd i arg1 harg1 arg2 harg2 arg3 harg3 arg4 harg4 arg5 harg5 arg6 harg6 arg7 harg7 _ _ _ _ _ _ _ ⟨n, h⟩, ih (Nat.le_of_lt h), trip1_yield, trip1_store]
    refine Prod.ext ?_ rfl
    rw [rowAcc, dif_pos h]

/-- After the first loop the scratch holds the whole table, whatever it held before. -/
theorem scratch_eq {arg7 : Memref sig .tc .vmem S104x20480 .f32} (harg7 : arg7.IsWhole) (f : BufTy.Contents (Elt F) arg7.view.ty)
    (x0 : Vec F S5x20480 .f32) (x2 : Vec F S1x104x8 .f32) :
    arg7.view.writes (Elt F) f (iouPieces x0 x2 k0_t1_loop.trips le_rfl) = harg7.unread (iouAll x0 x2) := by
  apply harg7.eq_unread
  funext y
  have h1 : (y 1).val < 20480 := (y 1).isLt
  refine View.read_tilePieces (NT := k0_t1_loop.trips) arg7.view f _ _ _ _ _ le_rfl y ⟨(y 1).val / 5120, by rw [trips1]; omega⟩
    (Fin.isLt _)
    (ix2 (⟨(y 0).val, (y 0).isLt⟩ : Fin 104) (⟨(y 1).val % 5120, Nat.mod_lt _ (by decide)⟩ : Fin 5120)) ?_ 1 ?_
  · intro a
    rw [k0_off6_eq]
    match a with
    | ⟨0, _⟩ => show (y 0).val = 0 + (y 0).val; omega
    | ⟨1, _⟩ => show (y 1).val = 5120 * ((y 1).val / 5120) + (y 1).val % 5120; omega
  · intro k hk
    rw [k0_off6_eq]
    have : k.val ≠ (y 1).val / 5120 := fun h => hk (Fin.ext h)
    show (y 1).val < 5120 * k.val ∨ 5120 * k.val + 5120 ≤ (y 1).val
    omega

/-- A store over the whole of the one-word block reads back as stored, and the block loads as it is. -/
theorem read_one {arg6 : Memref sig .tc .vmem S1x1 .f32} (f : BufTy.Contents (Elt F) arg6.view.ty) (w : Vec F S1x1 .f32)
    (inb : ∀ a, (![0, 0] : Fin 2 → Nat) a + S1x1.size a ≤ S1x1.size a) :
    arg6.view.read (Elt F) (arg6.view.writes (Elt F) f [⟨Rect.unit (s := S1x1) ![0, 0] S1x1.size inb, w⟩]) = w := by
  funext y
  exact View.read_writes_cons_unit_of_mem arg6.view f inb w [] y y rfl fun a => by
    match a with
    | ⟨0, _⟩ => exact (Nat.zero_add _).symm
    | ⟨1, _⟩ => exact (Nat.zero_add _).symm
theorem ld_one (w : Vec F S1x1 .f32) (inb : ∀ a, (![0, 0] : Fin 2 → Nat) a + S1x1.size a ≤ S1x1.size a) :
    View.ld w (Rect.unit (s := S1x1) ![0, 0] S1x1.size inb) = w :=
  View.ld_unit_zero (by decide) inb w

/-- What the two loops leave in all, at the table columns `g0` to `g5` as the body loaded them. -/
theorem loss_eq (𝒱 : Variants) (bd : Option 𝒱.V) (c : Dev nD) (i : grid0.Coords) (arg1 : Memref sig .tc .vmem S5x20480 .f32) (harg1 : arg1.IsWhole) (arg2 : Memref sig .tc .vmem S1x20480 .f32) (harg2 : arg2.IsWhole) (arg3 : Memref sig .tc .vmem S1x104x8 .f32) (harg3 : arg3.IsWhole) (arg4 : Memref sig .tc .vmem S1x8x104 .f32) (harg4 : arg4.IsWhole) (arg5 : Memref sig .tc .vmem S1x4x20480 .f32) (harg5 : arg5.IsWhole) (arg6 : Memref sig .tc .vmem S1x1 .f32) (harg6 : arg6.IsWhole) (arg7 : Memref sig .tc .vmem S104x20480 .f32) (harg7 : arg7.IsWhole) (x0 : Vec F S5x20480 .f32) (x1 : Vec F S1x20480 .f32) (x2 : Vec F S1x104x8 .f32) (x3 : Vec F S1x8x104 .f32) (x4 : Vec F S1x4x20480 .f32)
    (f : BufTy.Contents (Elt F) arg7.view.ty) (g0 g1 g2 g3 g4 g5 : Vec F S1x104x1 .f32)
    (h0 : g0 = gtCol0 x2) (h1 : g1 = gtCol1 x2) (h2 : g2 = gtCol2 x2) (h3 : g3 = gtCol3 x2) (h4 : g4 = gtCol4 x2) (h5 : g5 = gtCol5 x2) :
    k0_pay35 (st_k0_t2 (F := F) 𝒱 c bd i arg1 harg1 arg2 harg2 arg3 harg3 arg4 harg4 arg5 harg5 arg6 harg6 arg7 harg7 g5 (st_k0_t1 (F := F) 𝒱 c bd i arg1 harg1 arg2 harg2 arg3 harg3 arg4 harg4 arg5 harg5 arg6 harg6 arg7 harg7 g0 g1 g2 g3 g4 (harg1.unread x0) k0_pay29 k0_t1_loop.trips).1 (harg1.unread x0) (harg2.unread x1) (harg4.unread x3) (harg5.unread x4)
        (arg7.view.writes (Elt F) f (st_k0_t1 (F := F) 𝒱 c bd i arg1 harg1 arg2 harg2 arg3 harg3 arg4 harg4 arg5 harg5 arg6 harg6 arg7 harg7 g0 g1 g2 g3 g4 (harg1.unread x0) k0_pay29 k0_t1_loop.trips).2)
        (FloatOps.ofBits .f32 0x00000000#32, FloatOps.ofBits .f32 0x00000000#32) k0_t2_loop.trips).1
      (st_k0_t2 (F := F) 𝒱 c bd i arg1 harg1 arg2 harg2 arg3 harg3 arg4 harg4 arg5 harg5 arg6 harg6 arg7 harg7 g5 (st_k0_t1 (F := F) 𝒱 c bd i arg1 harg1 arg2 harg2 arg3 harg3 arg4 harg4 arg5 harg5 arg6 harg6 arg7 harg7 g0 g1 g2 g3 g4 (harg1.unread x0) k0_pay29 k0_t1_loop.trips).1 (harg1.unread x0) (harg2.unread x1) (harg4.unread x3) (harg5.unread x4)
        (arg7.view.writes (Elt F) f (st_k0_t1 (F := F) 𝒱 c bd i arg1 harg1 arg2 harg2 arg3 harg3 arg4 harg4 arg5 harg5 arg6 harg6 arg7 harg7 g0 g1 g2 g3 g4 (harg1.unread x0) k0_pay29 k0_t1_loop.trips).2)
        (FloatOps.ofBits .f32 0x00000000#32, FloatOps.ofBits .f32 0x00000000#32) k0_t2_loop.trips).2 = bodyLoss x0 x1 x2 x3 x4 := by
  subst h0 h1 h2 h3 h4 h5
  rw [st1_eq (hn := le_rfl)]
  dsimp only
  rw [scratch_eq harg7, st2_eq (hn := le_rfl)]
  rfl

end Cert.KernelIdeal.Body

end
-- ==== Proof.RunA.lean ====
/- The first grid point's run. -/
module

public import proofs.«01_k».proof.Proof.Body

@[expose] public section

set_option maxRecDepth 16384

noncomputable section

namespace Cert.KernelIdeal.Body

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
theorem run_A (c : Dev nD) (i : grid0.Coords) (arg1 : Memref sig .tc .vmem S5x20480 .f32) (harg1 : arg1.IsWhole) (arg2 : Memref sig .tc .vmem S1x20480 .f32) (harg2 : arg2.IsWhole) (arg3 : Memref sig .tc .vmem S1x104x8 .f32) (harg3 : arg3.IsWhole) (arg4 : Memref sig .tc .vmem S1x8x104 .f32) (harg4 : arg4.IsWhole) (arg5 : Memref sig .tc .vmem S1x4x20480 .f32) (harg5 : arg5.IsWhole) (arg6 : Memref sig .tc .vmem S1x1 .f32) (harg6 : arg6.IsWhole) (arg7 : Memref sig .tc .vmem S104x20480 .f32) (harg7 : arg7.IsWhole) (hc0 : cond0_0 i) (hc1 : ¬cond0_1 i)
    (x0 : Vec F S5x20480 .f32) (x1 : Vec F S1x20480 .f32) (x2 : Vec F S1x104x8 .f32) (x3 : Vec F S1x8x104 .f32) (x4 : Vec F S1x4x20480 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay1 (bodyLoss x0 x1 x2 x3 x4) (FloatOps.ofBits .f32 0x3E000000#32)) ∗ (∃ d, owns (c : Thread nD τ) arg7 fullShare d)) -∗ K ⟨⟩))
          ⊢ wp frame (wpE (defs₀ (F := F)) Variants.none c none) E (cc0__body i arg1 harg1 arg2 harg2 arg3 harg3 arg4 harg4 arg5 harg5 arg6 harg6 arg7 harg7) K := by
    intro E K
    simp only [cc0__body_eq_skeleton]; unfold cc0__body_skel
    simp only [k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1)
    have hv : run_A.sl.r c i arg1 harg1 arg2 harg2 arg3 harg3 arg4 harg4 arg5 harg5 arg6 harg6 arg7 harg7 x0 x1 x2 x3 x4 fs0
        = bodyLoss x0 x1 x2 x3 x4 :=
      loss_eq Variants.none none c i arg1 harg1 arg2 harg2 arg3 harg3 arg4 harg4 arg5 harg5 arg6 harg6 arg7 harg7 x0 x1 x2 x3 x4
        fs0 _ _ _ _ _ _ (by rw [View.readAt_eq_ld, harg3.read_unread]; rfl) (by rw [View.readAt_eq_ld, harg3.read_unread]; rfl)
        (by rw [View.readAt_eq_ld, harg3.read_unread]; rfl) (by rw [View.readAt_eq_ld, harg3.read_unread]; rfl)
        (by rw [View.readAt_eq_ld, harg3.read_unread]; rfl) (by rw [View.readAt_eq_ld, harg3.read_unread]; rfl)
    rw [hv]
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro; exact read_one _ _ _
    iexists _, _; isplitr; swap; · iexact HS0
    ipureintro; rfl

end Cert.KernelIdeal.Body

end
-- ==== Proof.RunB.lean ====
/- The run of every later grid point. -/
module

public import proofs.«01_k».proof.Proof.RunA

@[expose] public section

set_option maxRecDepth 16384

noncomputable section

namespace Cert.KernelIdeal.Body

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
theorem run_B (c : Dev nD) (i : grid0.Coords) (arg1 : Memref sig .tc .vmem S5x20480 .f32) (harg1 : arg1.IsWhole) (arg2 : Memref sig .tc .vmem S1x20480 .f32) (harg2 : arg2.IsWhole) (arg3 : Memref sig .tc .vmem S1x104x8 .f32) (harg3 : arg3.IsWhole) (arg4 : Memref sig .tc .vmem S1x8x104 .f32) (harg4 : arg4.IsWhole) (arg5 : Memref sig .tc .vmem S1x4x20480 .f32) (harg5 : arg5.IsWhole) (arg6 : Memref sig .tc .vmem S1x1 .f32) (harg6 : arg6.IsWhole) (arg7 : Memref sig .tc .vmem S104x20480 .f32) (harg7 : arg7.IsWhole) (hc0 : ¬cond0_0 i) (hc1 : cond0_1 i)
    (x0 : Vec F S5x20480 .f32) (x1 : Vec F S1x20480 .f32) (x2 : Vec F S1x104x8 .f32) (x3 : Vec F S1x8x104 .f32) (x4 : Vec F S1x4x20480 .f32) (xo5 : Vec F S1x1 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay2 (bodyLoss x0 x1 x2 x3 x4) (FloatOps.ofBits .f32 0x3E000000#32) xo5) ∗ (∃ d, owns (c : Thread nD τ) arg7 fullShare d)) -∗ K ⟨⟩))
          ⊢ wp frame (wpE (defs₀ (F := F)) Variants.none c none) E (cc0__body i arg1 harg1 arg2 harg2 arg3 harg3 arg4 harg4 arg5 harg5 arg6 harg6 arg7 harg7) K := by
    intro E K
    simp only [cc0__body_eq_skeleton]; unfold cc0__body_skel
    simp only [k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1)
    have hv : run_B.sl.r c i arg1 harg1 arg2 harg2 arg3 harg3 arg4 harg4 arg5 harg5 arg6 harg6 arg7 harg7 x0 x1 x2 x3 x4 fs0
        = bodyLoss x0 x1 x2 x3 x4 :=
      loss_eq Variants.none none c i arg1 harg1 arg2 harg2 arg3 harg3 arg4 harg4 arg5 harg5 arg6 harg6 arg7 harg7 x0 x1 x2 x3 x4
        fs0 _ _ _ _ _ _ (by rw [View.readAt_eq_ld, harg3.read_unread]; rfl) (by rw [View.readAt_eq_ld, harg3.read_unread]; rfl)
        (by rw [View.readAt_eq_ld, harg3.read_unread]; rfl) (by rw [View.readAt_eq_ld, harg3.read_unread]; rfl)
        (by rw [View.readAt_eq_ld, harg3.read_unread]; rfl) (by rw [View.readAt_eq_ld, harg3.read_unread]; rfl)
    rw [hv, View.readAt_eq_ld, harg6.read_unread, ld_one]
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro; exact read_one _ _ _
    iexists _, _; isplitr; swap; · iexact HS0
    ipureintro; rfl

end Cert.KernelIdeal.Body

end
-- ==== Proof.Frame.lean ====
/- The idealized kernel's launch: what the output block holds point by point, the body obligation, and the run. -/
module

public import proofs.«01_k».proof.Proof.RunB
public import Idealize.ShloMosaic.Lib.Claim

@[expose] public section

set_option maxRecDepth 16384

noncomputable section

namespace Cert.KernelIdeal.Body

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- What the output block holds after point `n`: the loss of the batch entries so far, each weighted. -/
def outAt (c : Dev nD) : (n : ℕ) → n < cfg0.N → Vec F S1x1 .f32
  | 0, hn => k0_pay1 (bodyLoss (iblk m c 0 ⟨0, hn⟩) (iblk m c 1 ⟨0, hn⟩) (iblk m c 2 ⟨0, hn⟩) (iblk m c 3 ⟨0, hn⟩) (iblk m c 4 ⟨0, hn⟩))
      (FloatOps.ofBits .f32 0x3E000000#32)
  | n + 1, hn => k0_pay2 (bodyLoss (iblk m c 0 ⟨n + 1, hn⟩) (iblk m c 1 ⟨n + 1, hn⟩) (iblk m c 2 ⟨n + 1, hn⟩) (iblk m c 3 ⟨n + 1, hn⟩) (iblk m c 4 ⟨n + 1, hn⟩))
      (FloatOps.ofBits .f32 0x3E000000#32) (outAt c n (Nat.lt_of_succ_lt hn))

/-- At the first point. -/
theorem outAt_first (c : Dev nD) (t : Fin cfg0.N) (h1 : ¬1 ≤ t.val) :
    outAt m c t.val t.isLt = k0_pay1 (bodyLoss (iblk m c 0 t) (iblk m c 1 t) (iblk m c 2 t) (iblk m c 3 t) (iblk m c 4 t))
      (FloatOps.ofBits .f32 0x3E000000#32) := by
  obtain ⟨n, hn⟩ := t
  cases n with
  | zero => rfl
  | succ n => exact absurd (Nat.succ_le_succ (Nat.zero_le n)) h1

/-- At a later point. -/
theorem outAt_later (c : Dev nD) (t : Fin cfg0.N) (h1 : 1 ≤ t.val) :
    outAt m c t.val t.isLt = k0_pay2 (bodyLoss (iblk m c 0 t) (iblk m c 1 t) (iblk m c 2 t) (iblk m c 3 t) (iblk m c 4 t))
      (FloatOps.ofBits .f32 0x3E000000#32) (outAt m c (t.val - 1) (Nat.lt_of_le_of_lt (Nat.sub_le _ _) t.isLt)) := by
  obtain ⟨n, hn⟩ := t
  cases n with
  | zero => exact absurd h1 (Nat.not_succ_le_zero 0)
  | succ n => rfl

/-! ## The pipeline's proof data -/

/-- The proof data of the one pipeline on core `c`: the arrays as the region finds them (`V`); after the body at
    point `t` each input's buffer at its block and the outputs' at `outAt`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outAt m c t.val t.isLt)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outAt m c t.val t.isLt) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- Output 5's contents CARRY through the points that leave it idle: at such a point, its buffer not fresh, the proof data's
    `after` is the point before's (the case there stores nothing into the window and its term says so; a case that stores
    into it is not idle there by `liveAt0_5_κ`) — the hypothesis of Lib/Pipeline/TableIdle.lean `Dat.before_out_traj`. -/
theorem hcarry0_5 (c : Dev nD) : ∀ (t : Fin cfg0.N) (_ : t.val ≠ 0), cfg0.idle 5 (grid0.coords t) = true → cfg0.fresh 5 t.val = false →
    (dats m 0 c).after 5 t = (dats m 0 c).after 5 ⟨t.val - 1, by omega⟩ := by
  intro t _ hi _
  have hN : t.val < 8 := lt_of_lt_of_eq t.isLt (show cfg0.N = 8 from N_0)
  rw [after0_5, after0_5]
  by_cases h0 : t.val % 8 = 0
  · by_cases h1 : 1 ≤ t.val
    · exfalso; omega
    · rw [liveAt0_5_A t ((hcond0_0 t).mpr h0) (fun h => h1 ((hcond0_1 t).mp h))] at hi
      exact absurd hi Bool.false_ne_true
  · by_cases h1 : 1 ≤ t.val
    · rw [liveAt0_5_B t (fun h => h0 ((hcond0_0 t).mp h)) ((hcond0_1 t).mpr h1)] at hi
      exact absurd hi Bool.false_ne_true
    · exfalso; omega
/-- At a point of case B output 5's current staging buffer holds what the point before left: the buffer is not fresh
    there (`notFresh0_5_B`: stored into since the region's entry or the last write-back, carried through the points that
    leave it idle by `hcarry0_5`; Lib/Pipeline/TableIdle.lean `Dat.before_out_traj`). -/
theorem before0_5_B (c : Dev nD) (t : Fin cfg0.N) (h0 : ¬t.val % 8 = 0) (h1 : 1 ≤ t.val) (d) :
    (dats m 0 c).before 5 t d = (outAt m c (t.val - 1) (Nat.lt_of_le_of_lt (Nat.sub_le _ _) t.isLt)) := by
  rw [Dat.before_out_traj _ 5 rfl (fun _ _ => rfl) (hcarry0_5 m c) t.val t rfl d,
    if_neg (by rw [notFresh0_5_B t (fun h => h0 ((hcond0_0 t).mp h)) ((hcond0_1 t).mpr h1)]; exact Bool.false_ne_true)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 800000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 8 := lt_of_lt_of_eq t.isLt (show cfg0.N = 8 from N_0)
  by_cases h0 : t.val % 8 = 0
  · by_cases h1 : 1 ≤ t.val
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5_A t ((hcond0_0 t).mpr h0) (fun h => h1 ((hcond0_1 t).mp h))], after0_5]
      rw [outAt_first m c t h1]
      iintro ⟨⟨HS0, Hg⟩, Ho, ⟨%d0, H0⟩, ⟨%d1, H1⟩, ⟨%d2, H2⟩, ⟨%d3, H3⟩, ⟨%d4, H4⟩, ⟨%d5, H5⟩⟩
      iapply ((run_A c (grid0.coords t) _ _ _ _ _ _ _ _ _ _ _ _ _ _ ((hcond0_0 t).mpr h0) (fun h => h1 ((hcond0_1 t).mp h)) (iblk m c 0 t) (iblk m c 1 t) (iblk m c 2 t) (iblk m c 3 t) (iblk m c 4 t)) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, H5, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      iexact H5
  · by_cases h1 : 1 ≤ t.val
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5_B t (fun h => h0 ((hcond0_0 t).mp h)) ((hcond0_1 t).mpr h1)], after0_5]
      rw [outAt_later m c t h1]
      simp only [before0_5_B m c t h0 h1]
      iintro ⟨⟨HS0, Hg⟩, Ho, ⟨%d0, H0⟩, ⟨%d1, H1⟩, ⟨%d2, H2⟩, ⟨%d3, H3⟩, ⟨%d4, H4⟩, ⟨%d5, H5⟩⟩
      iapply ((run_B c (grid0.coords t) _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      iexact H5
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Body

end
-- ==== Proof.RefOps.lean ====
/- The reference as a list of host operations, cut into twelve stages: that its `main` is the list, which buffers each
   stage writes, and so that its run ends at the list's fold and leaves its arguments alone. -/
module

public import proofs.«01_k».proof.Proof.Gen.ReferenceIdeal
public import Idealize.ShloMosaic.Lib.Claim

@[expose] public section

set_option maxRecDepth 16384

noncomputable section

namespace Cert.ReferenceIdeal.Ops

open Idealize.ShloMosaic Idealize.ShloMosaic.TcCoe Idealize.SL.Sem
open Idealize.ShloMosaic.StableHlo (after seq seq_append)

open Facts₀ Facts

variable {F : FTy → Type} [FloatOps F]

/-- Stage A: the areas. -/
abbrev opsA : List (HloOp τ sig (Elt F)) :=
  [ StableHlo.unary main_arg0 main_v0 ((extractStridedSlice S8x100x1 ![0, 0, 2] · slices_S8x100x4_S8x100x1_0_0_2) : (⟨S8x100x4, .f32⟩ : BufTy).Contents (Elt F) → (⟨S8x100x1, .f32⟩ : BufTy).Contents (Elt F)),
    StableHlo.reshape main_v0 main_v1 (rfl : (.f32 : EltTy) = .f32) shapeCasts_S8x100x1_S8x100,
    StableHlo.unary main_arg0 main_v2 ((extractStridedSlice S8x100x1 ![0, 0, 0] · slices_S8x100x4_S8x100x1_0_0_0) : (⟨S8x100x4, .f32⟩ : BufTy).Contents (Elt F) → (⟨S8x100x1, .f32⟩ : BufTy).Contents (Elt F)),
    StableHlo.reshape main_v2 main_v3 (rfl : (.f32 : EltTy) = .f32) shapeCasts_S8x100x1_S8x100,
    StableHlo.binary main_v1 main_v3 main_v4 (subf : (⟨S8x100, .f32⟩ : BufTy).Contents (Elt F) → (⟨S8x100, .f32⟩ : BufTy).Contents (Elt F) → (⟨S8x100, .f32⟩ : BufTy).Contents (Elt F)),
    StableHlo.unary main_arg0 main_v5 ((extractStridedSlice S8x100x1 ![0, 0, 3] · slices_S8x100x4_S8x100x1_0_0_3) : (⟨S8x100x4, .f32⟩ : BufTy).Contents (Elt F) → (⟨S8x100x1, .f32⟩ : BufTy).Contents (Elt F)),
    StableHlo.reshape main_v5 main_v6 (rfl : (.f32 : EltTy) = .f32) shapeCasts_S8x100x1_S8x100,
    StableHlo.unary main_arg0 main_v7 ((extractStridedSlice S8x100x1 ![0, 0, 1] · slices_S8x100x4_S8x100x1_0_0_1) : (⟨S8x100x4, .f32⟩ : BufTy).Contents (Elt F) → (⟨S8x100x1, .f32⟩ : BufTy).Contents (Elt F)),
    StableHlo.reshape main_v7 main_v8 (rfl : (.f32 : EltTy) = .f32) shapeCasts_S8x100x1_S8x100,
    StableHlo.binary main_v6 main_v8 main_v9 (subf : (⟨S8x100, .f32⟩ : BufTy).Contents (Elt F) → (⟨S8x100, .f32⟩ : BufTy).Contents (Elt F) → (⟨S8x100, .f32⟩ : BufTy).Contents (Elt F)),
    StableHlo.binary main_v4 main_v9 main_v10 (mulf : (⟨S8x100, .f32⟩ : BufTy).Contents (Elt F) → (⟨S8x100, .f32⟩ : BufTy).Contents (Elt F) → (⟨S8x100, .f32⟩ : BufTy).Contents (Elt F)),
    StableHlo.unary main_arg2 main_v11 ((extractStridedSlice S20000x1 ![0, 2] · slices_S20000x4_S20000x1_0_2) : (⟨S20000x4, .f32⟩ : BufTy).Contents (Elt F) → (⟨S20000x1, .f32⟩ : BufTy).Contents (Elt F)),
    StableHlo.reshape main_v11 main_v12 (rfl : (.f32 : EltTy) = .f32) shapeCasts_S20000x1_S20000,
    StableHlo.unary main_arg2 main_v13 ((extractStridedSlice S20000x1 ![0, 0] · slices_S20000x4_S20000x1_0_0) : (⟨S20000x4, .f32⟩ : BufTy).Contents (Elt F) → (⟨S20000x1, .f32⟩ : BufTy).Contents (Elt F)),
    StableHlo.reshape main_v13 main_v14 (rfl : (.f32 : EltTy) = .f32) shapeCasts_S20000x1_S20000,
    StableHlo.binary main_v12 main_v14 main_v15 (subf : (⟨S20000, .f32⟩ : BufTy).Contents (Elt F) → (⟨S20000, .f32⟩ : BufTy).Contents (Elt F) → (⟨S20000, .f32⟩ : BufTy).Contents (Elt F)),
    StableHlo.unary main_arg2 main_v16 ((extractStridedSlice S20000x1 ![0, 3] · slices_S20000x4_S20000x1_0_3) : (⟨S20000x4, .f32⟩ : BufTy).Contents (Elt F) → (⟨S20000x1, .f32⟩ : BufTy).Contents (Elt F)),
    StableHlo.reshape main_v16 main_v17 (rfl : (.f32 : EltTy) = .f32) shapeCasts_S20000x1_S20000,
    StableHlo.unary main_arg2 main_v18 ((extractStridedSlice S20000x1 ![0, 1] · slices_S20000x4_S20000x1_0_1) : (⟨S20000x4, .f32⟩ : BufTy).Contents (Elt F) → (⟨S20000x1, .f32⟩ : BufTy).Contents (Elt F)),
    StableHlo.reshape main_v18 main_v19 (rfl : (.f32 : EltTy) = .f32) shapeCasts_S20000x1_S20000,
    StableHlo.binary main_v17 main_v19 main_v20 (subf : (⟨S20000, .f32⟩ : BufTy).Contents (Elt F) → (⟨S20000, .f32⟩ : BufTy).Contents (Elt F) → (⟨S20000, .f32⟩ : BufTy).Contents (Elt F)),
    StableHlo.binary main_v15 main_v20 main_v21 (mulf : (⟨S20000, .f32⟩ : BufTy).Contents (Elt F) → (⟨S20000, .f32⟩ : BufTy).Contents (Elt F) → (⟨S20000, .f32⟩ : BufTy).Contents (Elt F)) ]
/-- The buffers stage A writes, in order. -/
abbrev outsA : List (Ref sig .tc) :=
  [main_v0, main_v1, main_v2, main_v3, main_v4, main_v5, main_v6, main_v7, main_v8, main_v9, main_v10, main_v11, main_v12, main_v13, main_v14, main_v15, main_v16, main_v17, main_v18, main_v19, main_v20, main_v21]
theorem subA : (opsA : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub ..⟩
theorem freshA : (opsA : List (HloOp τ sig (Elt F))).Forall fun op => op.fresh = ∅ :=
  StableHlo.forall_fresh_of_map rfl
theorem writesA : (opsA : List (HloOp τ sig (Elt F))).Forall fun op => op.writes ⊆ (outsA.map (Proc.devRef (τ := τ) .tc)).toFinset :=
  StableHlo.forall_writes_sub_of_map rfl

/-- Stage B: the sides of the intersections. -/
abbrev opsB : List (HloOp τ sig (Elt F)) :=
  [ StableHlo.unary main_arg0 main_v22 ((extractStridedSlice S8x100x2 ![0, 0, 0] · slices_S8x100x4_S8x100x2_0_0_0) : (⟨S8x100x4, .f32⟩ : BufTy).Contents (Elt F) → (⟨S8x100x2, .f32⟩ : BufTy).Contents (Elt F)),
    StableHlo.unary main_v22 main_v23 (broadcastInDim S8x100x1x2 ![0, 1, 3] bcast_S8x100x2_S8x100x1x2_0_1_3 : (⟨S8x100x2, .f32⟩ : BufTy).Contents (Elt F) → (⟨S8x100x1x2, .f32⟩ : BufTy).Contents (Elt F)),
    StableHlo.unary main_arg2 main_v24 ((extractStridedSlice S20000x2 ![0, 0] · slices_S20000x4_S20000x2_0_0) : (⟨S20000x4, .f32⟩ : BufTy).Contents (Elt F) → (⟨S20000x2, .f32⟩ : BufTy).Contents (Elt F)),
    StableHlo.unary main_v24 main_v25 (broadcastInDim S1x20000x2 ![1, 2] bcast_S20000x2_S1x20000x2_1_2 : (⟨S20000x2, .f32⟩ : BufTy).Contents (Elt F) → (⟨S1x20000x2, .f32⟩ : BufTy).Contents (Elt F)),
    StableHlo.unary main_v25 main_v26 (broadcastInDim S1x1x20000x2 ![1, 2, 3] bcast_S1x20000x2_S1x1x20000x2_1_2_3 : (⟨S1x20000x2, .f32⟩ : BufTy).Contents (Elt F) → (⟨S1x1x20000x2, .f32⟩ : BufTy).Contents (Elt F)),
    StableHlo.unary main_v23 main_v27 (broadcastInDim S8x100x20000x2 ![0, 1, 2, 3] bcast_S8x100x1x2_S8x100x20000x2_0_1_2_3 : (⟨S8x100x1x2, .f32⟩ : BufTy).Contents (Elt F) → (⟨S8x100x20000x2, .f32⟩ : BufTy).Contents (Elt F)),
    StableHlo.unary main_v26 main_v28 (broadcastInDim S8x100x20000x2 ![0, 1, 2, 3] bcast_S1x1x20000x2_S8x100x20000x2_0_1_2_3 : (⟨S1x1x20000x2, .f32⟩ : BufTy).Contents (Elt F) → (⟨S8x100x20000x2, .f32⟩ : BufTy).Contents (Elt F)),
    StableHlo.binary main_v27 main_v28 main_v29 (maximumf : (⟨S8x100x20000x2, .f32⟩ : BufTy).Contents (Elt F) → (⟨S8x100x20000x2, .f32⟩ : BufTy).Contents (Elt F) → (⟨S8x100x20000x2, .f32⟩ : BufTy).Contents (Elt F)),
    StableHlo.unary main_arg0 main_v30 ((extractStridedSlice S8x100x2 ![0, 0, 2] · slices_S8x100x4_S8x100x2_0_0_2) : (⟨S8x100x4, .f32⟩ : BufTy).Contents (Elt F) → (⟨S8x100x2, .f32⟩ : BufTy).Contents (Elt F)),
    StableHlo.unary main_v30 main_v31 (broadcastInDim S8x100x1x2 ![0, 1, 3] bcast_S8x100x2_S8x100x1x2_0_1_3 : (⟨S8x100x2, .f32⟩ : BufTy).Contents (Elt F) → (⟨S8x100x1x2, .f32⟩ : BufTy).Contents (Elt F)),
    StableHlo.unary main_arg2 main_v32 ((extractStridedSlice S20000x2 ![0, 2] · slices_S20000x4_S20000x2_0_2) : (⟨S20000x4, .f32⟩ : BufTy).Contents (Elt F) → (⟨S20000x2, .f32⟩ : BufTy).Contents (Elt F)),
    StableHlo.unary main_v32 main_v33 (broadcastInDim S1x20000x2 ![1, 2] bcast_S20000x2_S1x20000x2_1_2 : (⟨S20000x2, .f32⟩ : BufTy).Contents (Elt F) → (⟨S1x20000x2, .f32⟩ : BufTy).Contents (Elt F)),
    StableHlo.unary main_v33 main_v34 (broadcastInDim S1x1x20000x2 ![1, 2, 3] bcast_S1x20000x2_S1x1x20000x2_1_2_3 : (⟨S1x20000x2, .f32⟩ : BufTy).Contents (Elt F) → (⟨S1x1x20000x2, .f32⟩ : BufTy).Contents (Elt F)),
    StableHlo.unary main_v31 main_v35 (broadcastInDim S8x100x20000x2 ![0, 1, 2, 3] bcast_S8x100x1x2_S8x100x20000x2_0_1_2_3 : (⟨S8x100x1x2, .f32⟩ : BufTy).Contents (Elt F) → (⟨S8x100x20000x2, .f32⟩ : BufTy).Contents (Elt F)),
    StableHlo.unary main_v34 main_v36 (broadcastInDim S8x100x20000x2 ![0, 1, 2, 3] bcast_S1x1x20000x2_S8x100x20000x2_0_1_2_3 : (⟨S1x1x20000x2, .f32⟩ : BufTy).Contents (Elt F) → (⟨S8x100x20000x2, .f32⟩ : BufTy).Contents (Elt F)),
    StableHlo.binary main_v35 main_v36 main_v37 (minimumf : (⟨S8x100x20000x2, .f32⟩ : BufTy).Contents (Elt F) → (⟨S8x100x20000x2, .f32⟩ : BufTy).Contents (Elt F) → (⟨S8x100x20000x2, .f32⟩ : BufTy).Contents (Elt F)),
    StableHlo.binary main_v37 main_v29 main_v38 (subf : (⟨S8x100x20000x2, .f32⟩ : BufTy).Contents (Elt F) → (⟨S8x100x20000x2, .f32⟩ : BufTy).Contents (Elt F) → (⟨S8x100x20000x2, .f32⟩ : BufTy).Contents (Elt F)),
    StableHlo.nullary main_cst (constant S_ .f32 0x00000000#32),
    StableHlo.unary main_cst main_call0_v0 (id : (⟨S_, .f32⟩ : BufTy).Contents (Elt F) → (⟨S_, .f32⟩ : BufTy).Contents (Elt F)),
    StableHlo.unary main_call0_v0 main_call0_v1 (broadcastInDim S8x100x20000x2 ![] bcast_S_S8x100x20000x2 : (⟨S_, .f32⟩ : BufTy).Contents (Elt F) → (⟨S8x100x20000x2, .f32⟩ : BufTy).Contents (Elt F)),
    StableHlo.binary main_call0_v1 main_v38 main_v39 (maximumf : (⟨S8x100x20000x2, .f32⟩ : BufTy).Contents (Elt F) → (⟨S8x100x20000x2, .f32⟩ : BufTy).Contents (Elt F) → (⟨S8x100x20000x2, .f32⟩ : BufTy).Contents (Elt F)) ]
/-- The buffers stage B writes, in order. -/
abbrev outsB : List (Ref sig .tc) :=
  [main_v22, main_v23, main_v24, main_v25, main_v26, main_v27, main_v28, main_v29, main_v30, main_v31, main_v32, main_v33, main_v34, main_v35, main_v36, main_v37, main_v38, main_cst, main_call0_v0, main_call0_v1, main_v39]
theorem subB : (opsB : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.unary_bufs_sub .., StableHlo.binary_bufs_sub ..⟩
theorem freshB : (opsB : List (HloOp τ sig (Elt F))).Forall fun op => op.fresh = ∅ :=
  StableHlo.forall_fresh_of_map rfl
theorem writesB : (opsB : List (HloOp τ sig (Elt F))).Forall fun op => op.writes ⊆ (outsB.map (Proc.devRef (τ := τ) .tc)).toFinset :=
  StableHlo.forall_writes_sub_of_map rfl

/-- Stage C: the overlap ratios. -/
abbrev opsC : List (HloOp τ sig (Elt F)) :=
  [ StableHlo.unary main_v39 main_v40 ((extractStridedSlice S8x100x20000x1 ![0, 0, 0, 0] · slices_S8x100x20000x2_S8x100x20000x1_0_0_0_0) : (⟨S8x100x20000x2, .f32⟩ : BufTy).Contents (Elt F) → (⟨S8x100x20000x1, .f32⟩ : BufTy).Contents (Elt F)),
    StableHlo.reshape main_v40 main_v41 (rfl : (.f32 : EltTy) = .f32) shapeCasts_S8x100x20000x1_S8x100x20000,
    StableHlo.unary main_v39 main_v42 ((extractStridedSlice S8x100x20000x1 ![0, 0, 0, 1] · slices_S8x100x20000x2_S8x100x20000x1_0_0_0_1) : (⟨S8x100x20000x2, .f32⟩ : BufTy).Contents (Elt F) → (⟨S8x100x20000x1, .f32⟩ : BufTy).Contents (Elt F)),
    StableHlo.reshape main_v42 main_v43 (rfl : (.f32 : EltTy) = .f32) shapeCasts_S8x100x20000x1_S8x100x20000,
    StableHlo.binary main_v41 main_v43 main_v44 (mulf : (⟨S8x100x20000, .f32⟩ : BufTy).Contents (Elt F) → (⟨S8x100x20000, .f32⟩ : BufTy).Contents (Elt F) → (⟨S8x100x20000, .f32⟩ : BufTy).Contents (Elt F)),
    StableHlo.unary main_v10 main_v45 (broadcastInDim S8x100x1 ![0, 1] bcast_S8x100_S8x100x1_0_1 : (⟨S8x100, .f32⟩ : BufTy).Contents (Elt F) → (⟨S8x100x1, .f32⟩ : BufTy).Contents (Elt F)),
    StableHlo.unary main_v21 main_v46 (broadcastInDim S1x20000 ![1] bcast_S20000_S1x20000_1 : (⟨S20000, .f32⟩ : BufTy).Contents (Elt F) → (⟨S1x20000, .f32⟩ : BufTy).Contents (Elt F)),
    StableHlo.unary main_v46 main_v47 (broadcastInDim S1x1x20000 ![1, 2] bcast_S1x20000_S1x1x20000_1_2 : (⟨S1x20000, .f32⟩ : BufTy).Contents (Elt F) → (⟨S1x1x20000, .f32⟩ : BufTy).Contents (Elt F)),
    StableHlo.unary main_v45 main_v48 (broadcastInDim S8x100x20000 ![0, 1, 2] bcast_S8x100x1_S8x100x20000_0_1_2 : (⟨S8x100x1, .f32⟩ : BufTy).Contents (Elt F) → (⟨S8x100x20000, .f32⟩ : BufTy).Contents (Elt F)),
    StableHlo.unary main_v47 main_v49 (broadcastInDim S8x100x20000 ![0, 1, 2] bcast_S1x1x20000_S8x100x20000_0_1_2 : (⟨S1x1x20000, .f32⟩ : BufTy).Contents (Elt F) → (⟨S8x100x20000, .f32⟩ : BufTy).Contents (Elt F)),
    StableHlo.binary main_v48 main_v49 main_v50 (addf : (⟨S8x100x20000, .f32⟩ : BufTy).Contents (Elt F) → (⟨S8x100x20000, .f32⟩ : BufTy).Contents (Elt F) → (⟨S8x100x20000, .f32⟩ : BufTy).Contents (Elt F)),
    StableHlo.binary main_v50 main_v44 main_v51 (subf : (⟨S8x100x20000, .f32⟩ : BufTy).Contents (Elt F) → (⟨S8x100x20000, .f32⟩ : BufTy).Contents (Elt F) → (⟨S8x100x20000, .f32⟩ : BufTy).Contents (Elt F)),
    StableHlo.binary main_v44 main_v51 main_v52 (Host.divf : (⟨S8x100x20000, .f32⟩ : BufTy).Contents (Elt F) → (⟨S8x100x20000, .f32⟩ : BufTy).Contents (Elt F) → (⟨S8x100x20000, .f32⟩ : BufTy).Contents (Elt F)) ]
/-- The buffers stage C writes, in order. -/
abbrev outsC : List (Ref sig .tc) :=
  [main_v40, main_v41, main_v42, main_v43, main_v44, main_v45, main_v46, main_v47, main_v48, main_v49, main_v50, main_v51, main_v52]
theorem subC : (opsC : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.binary_bufs_sub .., StableHlo.unary_bufs_sub .., StableHlo.unary_bufs_sub .., StableHlo.unary_bufs_sub .., StableHlo.unary_bufs_sub .., StableHlo.unary_bufs_sub .., StableHlo.binary_bufs_sub .., StableHlo.binary_bufs_sub .., StableHlo.binary_bufs_sub ..⟩
theorem freshC : (opsC : List (HloOp τ sig (Elt F))).Forall fun op => op.fresh = ∅ :=
  StableHlo.forall_fresh_of_map rfl
theorem writesC : (opsC : List (HloOp τ sig (Elt F))).Forall fun op => op.writes ⊆ (outsC.map (Proc.devRef (τ := τ) .tc)).toFinset :=
  StableHlo.forall_writes_sub_of_map rfl

/-- Stage D: the best ratio of each anchor and its box. -/
abbrev opsD : List (HloOp τ sig (Elt F)) :=
  [ StableHlo.nullary main_cst_0 (constant S_ .f32 0xFF800000#32),
    StableHlo.binary main_v52 main_cst_0 main_v53 ((fun x v => Host.reduce FloatOps.maximumf x v reducesTo_S8x100x20000_S8x20000_d1 h_S_) : (⟨S8x100x20000, .f32⟩ : BufTy).Contents (Elt F) → (⟨S_, .f32⟩ : BufTy).Contents (Elt F) → (⟨S8x20000, .f32⟩ : BufTy).Contents (Elt F)),
    StableHlo.nullary main_call1_v0 (iotaInDim S8x100x20000 32 1),
    StableHlo.nullary main_call1_cst (constant S_ .f32 0xFF800000#32),
    StableHlo.nullary main_call1_c (constantI S_ 32 0#32),
    StableHlo.quaternary main_v52 main_call1_v0 main_call1_cst main_call1_c main_call1_v1_0 ((fun x y u v j => (Host.argReduce reducer_argmax_f32_i32 x y u v reducesTo_S8x100x20000_S8x20000_d1 h_S_ j).1) : (⟨S8x100x20000, .f32⟩ : BufTy).Contents (Elt F) → (⟨S8x100x20000, .i32⟩ : BufTy).Contents (Elt F) → (⟨S_, .f32⟩ : BufTy).Contents (Elt F) → (⟨S_, .i32⟩ : BufTy).Contents (Elt F) → (⟨S8x20000, .f32⟩ : BufTy).Contents (Elt F)),
    StableHlo.quaternary main_v52 main_call1_v0 main_call1_cst main_call1_c main_v54 ((fun x y u v j => (Host.argReduce reducer_argmax_f32_i32 x y u v reducesTo_S8x100x20000_S8x20000_d1 h_S_ j).2) : (⟨S8x100x20000, .f32⟩ : BufTy).Contents (Elt F) → (⟨S8x100x20000, .i32⟩ : BufTy).Contents (Elt F) → (⟨S_, .f32⟩ : BufTy).Contents (Elt F) → (⟨S_, .i32⟩ : BufTy).Contents (Elt F) → (⟨S8x20000, .i32⟩ : BufTy).Contents (Elt F)),
    StableHlo.nullary main_cst_1 (constant S_ .f32 0x3ECCCCCD#32),
    StableHlo.unary main_cst_1 main_v55 (broadcastInDim S8x20000 ![] bcast_S_S8x20000 : (⟨S_, .f32⟩ : BufTy).Contents (Elt F) → (⟨S8x20000, .f32⟩ : BufTy).Contents (Elt F)),
    StableHlo.binary main_v53 main_v55 main_v56 (cmpf .olt : (⟨S8x20000, .f32⟩ : BufTy).Contents (Elt F) → (⟨S8x20000, .f32⟩ : BufTy).Contents (Elt F) → (⟨S8x20000, .i1⟩ : BufTy).Contents (Elt F)) ]
/-- The buffers stage D writes, in order. -/
abbrev outsD : List (Ref sig .tc) :=
  [main_cst_0, main_v53, main_call1_v0, main_call1_cst, main_call1_c, main_call1_v1_0, main_v54, main_cst_1, main_v55, main_v56]
theorem subD : (opsD : List (HloOp τ sig (Elt F))).Forall fun op => op.bufs ⊆ StableHlo.tcRefs τ sig :=
  ⟨StableHlo.nullary_bufs_sub .., StableHlo.binary_bufs_sub .., StableHlo.nullary_bufs_sub .., StableHlo.nullary_bufs_sub .., StableHlo.nullary_bufs_sub .., StableHlo.quaternary_bufs_sub .., StableHlo.quaternary_bufs_sub .., StableHlo.nullary_bufs_sub .., StableHlo.unary_bufs_sub .., StableHlo.binary_bufs_sub ..⟩
theorem freshD : (opsD : List (HloOp τ sig (Elt F))).Forall fun op => op.fresh = ∅ :=
  StableHlo.forall_fresh_of_map rfl
theorem writesD : (opsD : List (HloOp τ sig (Elt F))).Forall fun op => op.writes ⊆ (outsD.map (Proc.devRef (τ := τ) .tc)).toFinset :=
  StableHlo.forall_writes_sub_of_map rfl

/-- Stage E: the matching. -/
abbrev opsE : List (HloOp τ sig (Elt F)) :=
  [ StableHlo.nullary main_cst_2 (constant S_ .f32 0x3ECCCCCD#32),
    StableHlo.unary main_cst_2 main_v57 (broadcastInDim S8x20000 ![] bcast_S_S8x20000 : (⟨S_, .f32⟩ : BufTy).Contents (Elt F) → (⟨S8x20000, .f32⟩ : BufTy).Contents (Elt F)),
    StableHlo.binary main_v53 main_v57 main_v58 (cmpf .oge : (⟨S8x20000, .f32⟩ : BufTy).Contents (Elt F) → (⟨S8x20000, .f32⟩ : BufTy).Contents (Elt F) → (⟨S8x20000, .i1⟩ : BufTy).Contents (Elt F)),
    StableHlo.nullary main_cst_3 (constant S_ .f32 0x3F000000#32),
    StableHlo.unary main_cst_3 main_v59 (broadcastInDim S8x20000 ![] bcast_S_S8x20000 : (⟨S_, .f32⟩ : BufTy).Contents (Elt F) → (⟨S8x20000, .f32⟩ : BufTy).Contents (Elt F)),
    StableHlo.binary main_v53 main_v59 main_v60 (cmpf .olt : (⟨S8x20000, .f32⟩ : BufTy).Contents (Elt F) → (⟨S8x20000, .f32⟩ : BufTy).Contents (Elt F) → (⟨S8x20000, .i1⟩ : BufTy).Contents (Elt F)),
    StableHlo.binary main_v58 main_v60 main_v61 (andi : (⟨S8x20000, .i1⟩ : BufTy).Contents (Elt F) → (⟨S8x20000, .i1⟩ : BufTy).Contents (Elt F) → (⟨S8x20000, .i1⟩ : BufTy).Contents (Elt F)),
    StableHlo.nullary main_c (constantI S_ 32 4294967295#32),
    StableHlo.unary main_c main_call2_v0 (broadcastInDim S20000 ![] bcast_S_S20000 : (⟨S_, .i32⟩ : BufTy).Contents (Elt F) → (⟨S20000, .i32⟩ : BufTy).Contents (Elt F)),
    StableHlo.unary main_call2_v0 main_call2_v1 (broadcastInDim S8x20000 ![1] bcast_S20000_S8x20000_1 : (⟨S20000, .i32⟩ : BufTy).Contents (Elt F) → (⟨S8x20000, .i32⟩ : BufTy).Contents (Elt F)),
    StableHlo.ternary main_v56 main_call2_v1 main_v54 main_v62 (select : (⟨S8x20000, .i1⟩ : BufTy).Contents (Elt F) → (⟨S8x20000, .i32⟩ : BufTy).Contents (Elt F) → (⟨S8x20000, .i32⟩ : BufTy).Contents (Elt F) → (⟨S8x20000, .i32⟩ : BufTy).Contents (Elt F)),
    StableHlo.nullary main_c_4 (constantI S_ 32 4294967294#32),
    StableHlo.unary main_c_4 main_call3_v0 (broadcastInDim S20000 ![] bcast_S_S20000 : (⟨S_, .i32⟩ : BufTy).Contents (Elt F) → (⟨S20000, .i32⟩ : BufTy).Contents (Elt F)),
    StableHlo.unary main_call3_v0 main_call3_v1 (broadcastInDim S8x20000 ![1] bcast_S20000_S8x20000_1 : (⟨S20000, .i32⟩ : BufTy).Contents (Elt F) → (⟨S8x20000, .i32⟩ : BufTy).Contents (Elt F)),
    StableHlo.ternary main_v61 main_call3_v1 main_v62 main_v63 (select : (⟨S8x20000, .i1⟩ : BufTy).Contents (Elt F) → (⟨S8x20000, .i32⟩ : BufTy).Contents (Elt F) → (⟨S8x20000, .i32⟩ : BufTy).Contents (Elt F) → (⟨S8x20000, .i32⟩ : BufTy).Contents (Elt F)),
    StableHlo.nullary main_cst_5 (constant S_ .f32 0xFF800000#32),
    StableHlo.binary main_v52 main_cst_5 main_v64 ((fun x v => Host.reduce FloatOps.maximumf x v reducesTo_S8x100x20000_S8x100_d2 h_S_) : (⟨S8x100x20000, .f32⟩ : BufTy).Contents (Elt F) → (⟨S_, .f32⟩ : BufTy).Contents (Elt F) → (⟨S8x100, .f32⟩ : BufTy).Contents (Elt F)),
    StableHlo.unary main_v64 main_v65 (broadcastInDim S8x100x1 ![0, 1] bcast_S8x100_S8x100x1_0_1 : (⟨S8x100, .f32⟩ : BufTy).Contents (Elt F) → (⟨S8x100x1, .f32⟩ : BufTy).Contents (Elt F)),
    StableHlo.unary main_v65 main_v66 (broadcastInDim S8x100x20000 ![0, 1, 2] bcast_S8x100x1_S8x100x20000_0_1_2 : (⟨S8x100x1, .f32⟩ : BufTy).Contents (Elt F) → (⟨S8x100x20000, .f32⟩ : BufTy).Contents (Elt F)),
    StableHlo.binary main_v52 main_v66 main_v67 (cmpf .oeq : (⟨S8x100x20000, .f32⟩ : BufTy).Contents (Elt F) → (⟨S8x100x20000, .f32⟩ : BufTy).Contents (Elt F) → (⟨S8x100x20000, .i1⟩ : BufTy).Contents (Elt F)),
    StableHlo.nullary main_c_6 (constantI S_ 1 0#1),
    StableHlo.binary main_v67 main_c_6 main_v68 ((fun x v => Host.reduce IntOp.ori x v reducesTo_S8x100x20000_S8x20000_d1 h_S_) : (⟨S8x100x20000, .i1⟩ : BufTy).Contents (Elt F) → (⟨S_, .i1⟩ : BufTy).Contents (Elt F) → (⟨S8x20000, .i1⟩ : BufTy).Contents (Elt F)),
    StableHlo.ternary main_v68 main_v54 main_v63 main_v69 (select : (⟨S8x20000, .i1⟩ : BufTy).Contents (Elt F) → (⟨S8x20000, .i32⟩ : BufTy).Contents (Elt F) → (⟨S8x20000, .i32⟩ : BufTy).Contents (Elt F) → (⟨S8x20000, .i32⟩ : BufTy).Contents (Elt F)) ]
/-- The buffers stage E writes, in order. -/
abbrev outsE : List (Ref sig .tc) :=
  [main_cst_2, main_v57, main_v58, main_cst_3, main_v59, main_v60, main_v61, main_c, main_call2_v0, main_call2_v1, main_v62, main_c_4, main_call3_v0, main_call3_v1, main_v63, main_cst_5, main_v64, main_v65, main_v66, main_v67, main_c_6, main_v68, main_v69]
theorem subE : (opsE : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.ternary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.ternary_bufs_sub ..⟩
theorem freshE : (opsE : List (HloOp τ sig (Elt F))).Forall fun op => op.fresh = ∅ :=
  StableHlo.forall_fresh_of_map rfl
theorem writesE : (opsE : List (HloOp τ sig (Elt F))).Forall fun op => op.writes ⊆ (outsE.map (Proc.devRef (τ := τ) .tc)).toFinset :=
  StableHlo.forall_writes_sub_of_map rfl

/-- Stage F: the mask and the index taken. -/
abbrev opsF : List (HloOp τ sig (Elt F)) :=
  [ StableHlo.nullary main_c_7 (constantI S_ 32 0#32),
    StableHlo.unary main_c_7 main_v70 (broadcastInDim S8x20000 ![] bcast_S_S8x20000 : (⟨S_, .i32⟩ : BufTy).Contents (Elt F) → (⟨S8x20000, .i32⟩ : BufTy).Contents (Elt F)),
    StableHlo.binary main_v69 main_v70 main_v71 (cmpi .sge : (⟨S8x20000, .i32⟩ : BufTy).Contents (Elt F) → (⟨S8x20000, .i32⟩ : BufTy).Contents (Elt F) → (⟨S8x20000, .i1⟩ : BufTy).Contents (Elt F)),
    StableHlo.nullary main_c_8 (constantI S_ 32 0#32),
    StableHlo.unary main_c_8 main_call5_v0 (id : (⟨S_, .i32⟩ : BufTy).Contents (Elt F) → (⟨S_, .i32⟩ : BufTy).Contents (Elt F)),
    StableHlo.unary main_call5_v0 main_call5_v1 (broadcastInDim S8x20000 ![] bcast_S_S8x20000 : (⟨S_, .i32⟩ : BufTy).Contents (Elt F) → (⟨S8x20000, .i32⟩ : BufTy).Contents (Elt F)),
    StableHlo.binary main_call5_v1 main_v69 main_v72 (maxsi : (⟨S8x20000, .i32⟩ : BufTy).Contents (Elt F) → (⟨S8x20000, .i32⟩ : BufTy).Contents (Elt F) → (⟨S8x20000, .i32⟩ : BufTy).Contents (Elt F)),
    StableHlo.nullary main_c_9 (constantI S_ 32 0#32),
    StableHlo.unary main_c_9 main_v73 (broadcastInDim S8x20000 ![] bcast_S_S8x20000 : (⟨S_, .i32⟩ : BufTy).Contents (Elt F) → (⟨S8x20000, .i32⟩ : BufTy).Contents (Elt F)),
    StableHlo.binary main_v72 main_v73 main_v74 (cmpi .slt : (⟨S8x20000, .i32⟩ : BufTy).Contents (Elt F) → (⟨S8x20000, .i32⟩ : BufTy).Contents (Elt F) → (⟨S8x20000, .i1⟩ : BufTy).Contents (Elt F)),
    StableHlo.nullary main_c_10 (constantI S_ 32 100#32),
    StableHlo.unary main_c_10 main_v75 (broadcastInDim S8x20000 ![] bcast_S_S8x20000 : (⟨S_, .i32⟩ : BufTy).Contents (Elt F) → (⟨S8x20000, .i32⟩ : BufTy).Contents (Elt F)),
    StableHlo.binary main_v72 main_v75 main_v76 (addi : (⟨S8x20000, .i32⟩ : BufTy).Contents (Elt F) → (⟨S8x20000, .i32⟩ : BufTy).Contents (Elt F) → (⟨S8x20000, .i32⟩ : BufTy).Contents (Elt F)),
    StableHlo.ternary main_v74 main_v76 main_v72 main_v77 (select : (⟨S8x20000, .i1⟩ : BufTy).Contents (Elt F) → (⟨S8x20000, .i32⟩ : BufTy).Contents (Elt F) → (⟨S8x20000, .i32⟩ : BufTy).Contents (Elt F) → (⟨S8x20000, .i32⟩ : BufTy).Contents (Elt F)) ]
/-- The buffers stage F writes, in order. -/
abbrev outsF : List (Ref sig .tc) :=
  [main_c_7, main_v70, main_v71, main_c_8, main_call5_v0, main_call5_v1, main_v72, main_c_9, main_v73, main_v74, main_c_10, main_v75, main_v76, main_v77]
theorem subF : (opsF : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub ..⟩
theorem freshF : (opsF : List (HloOp τ sig (Elt F))).Forall fun op => op.fresh = ∅ :=
  StableHlo.forall_fresh_of_map rfl
theorem writesF : (opsF : List (HloOp τ sig (Elt F))).Forall fun op => op.writes ⊆ (outsF.map (Proc.devRef (τ := τ) .tc)).toFinset :=
  StableHlo.forall_writes_sub_of_map rfl

/-- Stage G: the matched boxes and the sizes. -/
abbrev opsG : List (HloOp τ sig (Elt F)) :=
  [ StableHlo.unary main_v77 main_v78 (broadcastInDim S8x20000x1 ![0, 1] bcast_S8x20000_S8x20000x1_0_1 : (⟨S8x20000, .i32⟩ : BufTy).Contents (Elt F) → (⟨S8x20000x1, .i32⟩ : BufTy).Contents (Elt F)),
    StableHlo.binary main_arg0 main_v78 main_v79 ((fun x i => Host.gather gather_S8x100x4_S8x20000x1_S8x20000x4_2_1_0_0_1_2_114 x i) : (⟨S8x100x4, .f32⟩ : BufTy).Contents (Elt F) → (⟨S8x20000x1, .i32⟩ : BufTy).Contents (Elt F) → (⟨S8x20000x4, .f32⟩ : BufTy).Contents (Elt F)),
    StableHlo.unary main_arg2 main_v80 ((extractStridedSlice S20000x1 ![0, 2] · slices_S20000x4_S20000x1_0_2) : (⟨S20000x4, .f32⟩ : BufTy).Contents (Elt F) → (⟨S20000x1, .f32⟩ : BufTy).Contents (Elt F)),
    StableHlo.reshape main_v80 main_v81 (rfl : (.f32 : EltTy) = .f32) shapeCasts_S20000x1_S20000,
    StableHlo.unary main_arg2 main_v82 ((extractStridedSlice S20000x1 ![0, 0] · slices_S20000x4_S20000x1_0_0) : (⟨S20000x4, .f32⟩ : BufTy).Contents (Elt F) → (⟨S20000x1, .f32⟩ : BufTy).Contents (Elt F)),
    StableHlo.reshape main_v82 main_v83 (rfl : (.f32 : EltTy) = .f32) shapeCasts_S20000x1_S20000,
    StableHlo.binary main_v81 main_v83 main_v84 (subf : (⟨S20000, .f32⟩ : BufTy).Contents (Elt F) → (⟨S20000, .f32⟩ : BufTy).Contents (Elt F) → (⟨S20000, .f32⟩ : BufTy).Contents (Elt F)),
    StableHlo.unary main_arg2 main_v85 ((extractStridedSlice S20000x1 ![0, 3] · slices_S20000x4_S20000x1_0_3) : (⟨S20000x4, .f32⟩ : BufTy).Contents (Elt F) → (⟨S20000x1, .f32⟩ : BufTy).Contents (Elt F)),
    StableHlo.reshape main_v85 main_v86 (rfl : (.f32 : EltTy) = .f32) shapeCasts_S20000x1_S20000,
    StableHlo.unary main_arg2 main_v87 ((extractStridedSlice S20000x1 ![0, 1] · slices_S20000x4_S20000x1_0_1) : (⟨S20000x4, .f32⟩ : BufTy).Contents (Elt F) → (⟨S20000x1, .f32⟩ : BufTy).Contents (Elt F)),
    StableHlo.reshape main_v87 main_v88 (rfl : (.f32 : EltTy) = .f32) shapeCasts_S20000x1_S20000,
    StableHlo.binary main_v86 main_v88 main_v89 (subf : (⟨S20000, .f32⟩ : BufTy).Contents (Elt F) → (⟨S20000, .f32⟩ : BufTy).Contents (Elt F) → (⟨S20000, .f32⟩ : BufTy).Contents (Elt F)),
    StableHlo.unary main_arg2 main_v90 ((extractStridedSlice S20000x1 ![0, 0] · slices_S20000x4_S20000x1_0_0) : (⟨S20000x4, .f32⟩ : BufTy).Contents (Elt F) → (⟨S20000x1, .f32⟩ : BufTy).Contents (Elt F)),
    StableHlo.reshape main_v90 main_v91 (rfl : (.f32 : EltTy) = .f32) shapeCasts_S20000x1_S20000,
    StableHlo.nullary main_cst_11 (constant S_ .f32 0x3F000000#32),
    StableHlo.unary main_cst_11 main_v92 (broadcastInDim S20000 ![] bcast_S_S20000 : (⟨S_, .f32⟩ : BufTy).Contents (Elt F) → (⟨S20000, .f32⟩ : BufTy).Contents (Elt F)),
    StableHlo.binary main_v92 main_v84 main_v93 (mulf : (⟨S20000, .f32⟩ : BufTy).Contents (Elt F) → (⟨S20000, .f32⟩ : BufTy).Contents (Elt F) → (⟨S20000, .f32⟩ : BufTy).Contents (Elt F)),
    StableHlo.binary main_v91 main_v93 main_v94 (addf : (⟨S20000, .f32⟩ : BufTy).Contents (Elt F) → (⟨S20000, .f32⟩ : BufTy).Contents (Elt F) → (⟨S20000, .f32⟩ : BufTy).Contents (Elt F)),
    StableHlo.unary main_arg2 main_v95 ((extractStridedSlice S20000x1 ![0, 1] · slices_S20000x4_S20000x1_0_1) : (⟨S20000x4, .f32⟩ : BufTy).Contents (Elt F) → (⟨S20000x1, .f32⟩ : BufTy).Contents (Elt F)),
    StableHlo.reshape main_v95 main_v96 (rfl : (.f32 : EltTy) = .f32) shapeCasts_S20000x1_S20000,
    StableHlo.nullary main_cst_12 (constant S_ .f32 0x3F000000#32),
    StableHlo.unary main_cst_12 main_v97 (broadcastInDim S20000 ![] bcast_S_S20000 : (⟨S_, .f32⟩ : BufTy).Contents (Elt F) → (⟨S20000, .f32⟩ : BufTy).Contents (Elt F)),
    StableHlo.binary main_v97 main_v89 main_v98 (mulf : (⟨S20000, .f32⟩ : BufTy).Contents (Elt F) → (⟨S20000, .f32⟩ : BufTy).Contents (Elt F) → (⟨S20000, .f32⟩ : BufTy).Contents (Elt F)),
    StableHlo.binary main_v96 main_v98 main_v99 (addf : (⟨S20000, .f32⟩ : BufTy).Contents (Elt F) → (⟨S20000, .f32⟩ : BufTy).Contents (Elt F) → (⟨S20000, .f32⟩ : BufTy).Contents (Elt F)),
    StableHlo.unary main_v79 main_v100 ((extractStridedSlice S8x20000x1 ![0, 0, 2] · slices_S8x20000x4_S8x20000x1_0_0_2) : (⟨S8x20000x4, .f32⟩ : BufTy).Contents (Elt F) → (⟨S8x20000x1, .f32⟩ : BufTy).Contents (Elt F)),
    StableHlo.reshape main_v100 main_v101 (rfl : (.f32 : EltTy) = .f32) shapeCasts_S8x20000x1_S8x20000,
    StableHlo.unary main_v79 main_v102 ((extractStridedSlice S8x20000x1 ![0, 0, 0] · slices_S8x20000x4_S8x20000x1_0_0_0) : (⟨S8x20000x4, .f32⟩ : BufTy).Contents (Elt F) → (⟨S8x20000x1, .f32⟩ : BufTy).Contents (Elt F)),
    StableHlo.reshape main_v102 main_v103 (rfl : (.f32 : EltTy) = .f32) shapeCasts_S8x20000x1_S8x20000,
    StableHlo.binary main_v101 main_v103 main_v104 (subf : (⟨S8x20000, .f32⟩ : BufTy).Contents (Elt F) → (⟨S8x20000, .f32⟩ : BufTy).Contents (Elt F) → (⟨S8x20000, .f32⟩ : BufTy).Contents (Elt F)) ]
/-- The buffers stage G writes, in order. -/
abbrev outsG : List (Ref sig .tc) :=
  [main_v78, main_v79, main_v80, main_v81, main_v82, main_v83, main_v84, main_v85, main_v86, main_v87, main_v88, main_v89, main_v90, main_v91, main_cst_11, main_v92, main_v93, main_v94, main_v95, main_v96, main_cst_12, main_v97, main_v98, main_v99, main_v100, main_v101, main_v102, main_v103, main_v104]
theorem subG : (opsG : List (HloOp τ sig (Elt F))).Forall fun op => op.bufs ⊆ StableHlo.tcRefs τ sig :=
  ⟨StableHlo.unary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.binary_bufs_sub ..⟩
theorem freshG : (opsG : List (HloOp τ sig (Elt F))).Forall fun op => op.fresh = ∅ :=
  StableHlo.forall_fresh_of_map rfl
theorem writesG : (opsG : List (HloOp τ sig (Elt F))).Forall fun op => op.writes ⊆ (outsG.map (Proc.devRef (τ := τ) .tc)).toFinset :=
  StableHlo.forall_writes_sub_of_map rfl

/-- Stage H: the centres. -/
abbrev opsH : List (HloOp τ sig (Elt F)) :=
  [ StableHlo.unary main_v79 main_v105 ((extractStridedSlice S8x20000x1 ![0, 0, 3] · slices_S8x20000x4_S8x20000x1_0_0_3) : (⟨S8x20000x4, .f32⟩ : BufTy).Contents (Elt F) → (⟨S8x20000x1, .f32⟩ : BufTy).Contents (Elt F)),
    StableHlo.reshape main_v105 main_v106 (rfl : (.f32 : EltTy) = .f32) shapeCasts_S8x20000x1_S8x20000,
    StableHlo.unary main_v79 main_v107 ((extractStridedSlice S8x20000x1 ![0, 0, 1] · slices_S8x20000x4_S8x20000x1_0_0_1) : (⟨S8x20000x4, .f32⟩ : BufTy).Contents (Elt F) → (⟨S8x20000x1, .f32⟩ : BufTy).Contents (Elt F)),
    StableHlo.reshape main_v107 main_v108 (rfl : (.f32 : EltTy) = .f32) shapeCasts_S8x20000x1_S8x20000,
    StableHlo.binary main_v106 main_v108 main_v109 (subf : (⟨S8x20000, .f32⟩ : BufTy).Contents (Elt F) → (⟨S8x20000, .f32⟩ : BufTy).Contents (Elt F) → (⟨S8x20000, .f32⟩ : BufTy).Contents (Elt F)),
    StableHlo.unary main_v79 main_v110 ((extractStridedSlice S8x20000x1 ![0, 0, 0] · slices_S8x20000x4_S8x20000x1_0_0_0) : (⟨S8x20000x4, .f32⟩ : BufTy).Contents (Elt F) → (⟨S8x20000x1, .f32⟩ : BufTy).Contents (Elt F)),
    StableHlo.reshape main_v110 main_v111 (rfl : (.f32 : EltTy) = .f32) shapeCasts_S8x20000x1_S8x20000,
    StableHlo.nullary main_cst_13 (constant S_ .f32 0x3F000000#32),
    StableHlo.unary main_cst_13 main_v112 (broadcastInDim S8x20000 ![] bcast_S_S8x20000 : (⟨S_, .f32⟩ : BufTy).Contents (Elt F) → (⟨S8x20000, .f32⟩ : BufTy).Contents (Elt F)),
    StableHlo.binary main_v112 main_v104 main_v113 (mulf : (⟨S8x20000, .f32⟩ : BufTy).Contents (Elt F) → (⟨S8x20000, .f32⟩ : BufTy).Contents (Elt F) → (⟨S8x20000, .f32⟩ : BufTy).Contents (Elt F)),
    StableHlo.binary main_v111 main_v113 main_v114 (addf : (⟨S8x20000, .f32⟩ : BufTy).Contents (Elt F) → (⟨S8x20000, .f32⟩ : BufTy).Contents (Elt F) → (⟨S8x20000, .f32⟩ : BufTy).Contents (Elt F)),
    StableHlo.unary main_v79 main_v115 ((extractStridedSlice S8x20000x1 ![0, 0, 1] · slices_S8x20000x4_S8x20000x1_0_0_1) : (⟨S8x20000x4, .f32⟩ : BufTy).Contents (Elt F) → (⟨S8x20000x1, .f32⟩ : BufTy).Contents (Elt F)),
    StableHlo.reshape main_v115 main_v116 (rfl : (.f32 : EltTy) = .f32) shapeCasts_S8x20000x1_S8x20000,
    StableHlo.nullary main_cst_14 (constant S_ .f32 0x3F000000#32),
    StableHlo.unary main_cst_14 main_v117 (broadcastInDim S8x20000 ![] bcast_S_S8x20000 : (⟨S_, .f32⟩ : BufTy).Contents (Elt F) → (⟨S8x20000, .f32⟩ : BufTy).Contents (Elt F)),
    StableHlo.binary main_v117 main_v109 main_v118 (mulf : (⟨S8x20000, .f32⟩ : BufTy).Contents (Elt F) → (⟨S8x20000, .f32⟩ : BufTy).Contents (Elt F) → (⟨S8x20000, .f32⟩ : BufTy).Contents (Elt F)),
    StableHlo.binary main_v116 main_v118 main_v119 (addf : (⟨S8x20000, .f32⟩ : BufTy).Contents (Elt F) → (⟨S8x20000, .f32⟩ : BufTy).Contents (Elt F) → (⟨S8x20000, .f32⟩ : BufTy).Contents (Elt F)) ]
/-- The buffers stage H writes, in order. -/
abbrev outsH : List (Ref sig .tc) :=
  [main_v105, main_v106, main_v107, main_v108, main_v109, main_v110, main_v111, main_cst_13, main_v112, main_v113, main_v114, main_v115, main_v116, main_cst_14, main_v117, main_v118, main_v119]
theorem subH : (opsH : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub ..⟩
theorem freshH : (opsH : List (HloOp τ sig (Elt F))).Forall fun op => op.fresh = ∅ :=
  StableHlo.forall_fresh_of_map rfl
theorem writesH : (opsH : List (HloOp τ sig (Elt F))).Forall fun op => op.writes ⊆ (outsH.map (Proc.devRef (τ := τ) .tc)).toFinset :=
  StableHlo.forall_writes_sub_of_map rfl

/-- Stage I: the four regression targets. -/
abbrev opsI : List (HloOp τ sig (Elt F)) :=
  [ StableHlo.unary main_v94 main_v120 (broadcastInDim S1x20000 ![1] bcast_S20000_S1x20000_1 : (⟨S20000, .f32⟩ : BufTy).Contents (Elt F) → (⟨S1x20000, .f32⟩ : BufTy).Contents (Elt F)),
    StableHlo.unary main_v120 main_v121 (broadcastInDim S8x20000 ![0, 1] bcast_S1x20000_S8x20000_0_1 : (⟨S1x20000, .f32⟩ : BufTy).Contents (Elt F) → (⟨S8x20000, .f32⟩ : BufTy).Contents (Elt F)),
    StableHlo.binary main_v114 main_v121 main_v122 (subf : (⟨S8x20000, .f32⟩ : BufTy).Contents (Elt F) → (⟨S8x20000, .f32⟩ : BufTy).Contents (Elt F) → (⟨S8x20000, .f32⟩ : BufTy).Contents (Elt F)),
    StableHlo.nullary main_cst_15 (constant S_ .f32 0x3F800000#32),
    StableHlo.unary main_cst_15 main_v123 (broadcastInDim S8x20000 ![] bcast_S_S8x20000 : (⟨S_, .f32⟩ : BufTy).Contents (Elt F) → (⟨S8x20000, .f32⟩ : BufTy).Contents (Elt F)),
    StableHlo.binary main_v123 main_v122 main_v124 (mulf : (⟨S8x20000, .f32⟩ : BufTy).Contents (Elt F) → (⟨S8x20000, .f32⟩ : BufTy).Contents (Elt F) → (⟨S8x20000, .f32⟩ : BufTy).Contents (Elt F)),
    StableHlo.unary main_v84 main_v125 (broadcastInDim S1x20000 ![1] bcast_S20000_S1x20000_1 : (⟨S20000, .f32⟩ : BufTy).Contents (Elt F) → (⟨S1x20000, .f32⟩ : BufTy).Contents (Elt F)),
    StableHlo.unary main_v125 main_v126 (broadcastInDim S8x20000 ![0, 1] bcast_S1x20000_S8x20000_0_1 : (⟨S1x20000, .f32⟩ : BufTy).Contents (Elt F) → (⟨S8x20000, .f32⟩ : BufTy).Contents (Elt F)),
    StableHlo.binary main_v124 main_v126 main_v127 (Host.divf : (⟨S8x20000, .f32⟩ : BufTy).Contents (Elt F) → (⟨S8x20000, .f32⟩ : BufTy).Contents (Elt F) → (⟨S8x20000, .f32⟩ : BufTy).Contents (Elt F)),
    StableHlo.unary main_v99 main_v128 (broadcastInDim S1x20000 ![1] bcast_S20000_S1x20000_1 : (⟨S20000, .f32⟩ : BufTy).Contents (Elt F) → (⟨S1x20000, .f32⟩ : BufTy).Contents (Elt F)),
    StableHlo.unary main_v128 main_v129 (broadcastInDim S8x20000 ![0, 1] bcast_S1x20000_S8x20000_0_1 : (⟨S1x20000, .f32⟩ : BufTy).Contents (Elt F) → (⟨S8x20000, .f32⟩ : BufTy).Contents (Elt F)),
    StableHlo.binary main_v119 main_v129 main_v130 (subf : (⟨S8x20000, .f32⟩ : BufTy).Contents (Elt F) → (⟨S8x20000, .f32⟩ : BufTy).Contents (Elt F) → (⟨S8x20000, .f32⟩ : BufTy).Contents (Elt F)),
    StableHlo.nullary main_cst_16 (constant S_ .f32 0x3F800000#32),
    StableHlo.unary main_cst_16 main_v131 (broadcastInDim S8x20000 ![] bcast_S_S8x20000 : (⟨S_, .f32⟩ : BufTy).Contents (Elt F) → (⟨S8x20000, .f32⟩ : BufTy).Contents (Elt F)),
    StableHlo.binary main_v131 main_v130 main_v132 (mulf : (⟨S8x20000, .f32⟩ : BufTy).Contents (Elt F) → (⟨S8x20000, .f32⟩ : BufTy).Contents (Elt F) → (⟨S8x20000, .f32⟩ : BufTy).Contents (Elt F)),
    StableHlo.unary main_v89 main_v133 (broadcastInDim S1x20000 ![1] bcast_S20000_S1x20000_1 : (⟨S20000, .f32⟩ : BufTy).Contents (Elt F) → (⟨S1x20000, .f32⟩ : BufTy).Contents (Elt F)),
    StableHlo.unary main_v133 main_v134 (broadcastInDim S8x20000 ![0, 1] bcast_S1x20000_S8x20000_0_1 : (⟨S1x20000, .f32⟩ : BufTy).Contents (Elt F) → (⟨S8x20000, .f32⟩ : BufTy).Contents (Elt F)),
    StableHlo.binary main_v132 main_v134 main_v135 (Host.divf : (⟨S8x20000, .f32⟩ : BufTy).Contents (Elt F) → (⟨S8x20000, .f32⟩ : BufTy).Contents (Elt F) → (⟨S8x20000, .f32⟩ : BufTy).Contents (Elt F)),
    StableHlo.unary main_v84 main_v136 (broadcastInDim S1x20000 ![1] bcast_S20000_S1x20000_1 : (⟨S20000, .f32⟩ : BufTy).Contents (Elt F) → (⟨S1x20000, .f32⟩ : BufTy).Contents (Elt F)),
    StableHlo.unary main_v136 main_v137 (broadcastInDim S8x20000 ![0, 1] bcast_S1x20000_S8x20000_0_1 : (⟨S1x20000, .f32⟩ : BufTy).Contents (Elt F) → (⟨S8x20000, .f32⟩ : BufTy).Contents (Elt F)),
    StableHlo.binary main_v104 main_v137 main_v138 (Host.divf : (⟨S8x20000, .f32⟩ : BufTy).Contents (Elt F) → (⟨S8x20000, .f32⟩ : BufTy).Contents (Elt F) → (⟨S8x20000, .f32⟩ : BufTy).Contents (Elt F)),
    StableHlo.unary main_v138 main_v139 (Host.log : (⟨S8x20000, .f32⟩ : BufTy).Contents (Elt F) → (⟨S8x20000, .f32⟩ : BufTy).Contents (Elt F)),
    StableHlo.nullary main_cst_17 (constant S_ .f32 0x3F800000#32),
    StableHlo.unary main_cst_17 main_v140 (broadcastInDim S8x20000 ![] bcast_S_S8x20000 : (⟨S_, .f32⟩ : BufTy).Contents (Elt F) → (⟨S8x20000, .f32⟩ : BufTy).Contents (Elt F)),
    StableHlo.binary main_v140 main_v139 main_v141 (mulf : (⟨S8x20000, .f32⟩ : BufTy).Contents (Elt F) → (⟨S8x20000, .f32⟩ : BufTy).Contents (Elt F) → (⟨S8x20000, .f32⟩ : BufTy).Contents (Elt F)),
    StableHlo.unary main_v89 main_v142 (broadcastInDim S1x20000 ![1] bcast_S20000_S1x20000_1 : (⟨S20000, .f32⟩ : BufTy).Contents (Elt F) → (⟨S1x20000, .f32⟩ : BufTy).Contents (Elt F)),
    StableHlo.unary main_v142 main_v143 (broadcastInDim S8x20000 ![0, 1] bcast_S1x20000_S8x20000_0_1 : (⟨S1x20000, .f32⟩ : BufTy).Contents (Elt F) → (⟨S8x20000, .f32⟩ : BufTy).Contents (Elt F)),
    StableHlo.binary main_v109 main_v143 main_v144 (Host.divf : (⟨S8x20000, .f32⟩ : BufTy).Contents (Elt F) → (⟨S8x20000, .f32⟩ : BufTy).Contents (Elt F) → (⟨S8x20000, .f32⟩ : BufTy).Contents (Elt F)),
    StableHlo.unary main_v144 main_v145 (Host.log : (⟨S8x20000, .f32⟩ : BufTy).Contents (Elt F) → (⟨S8x20000, .f32⟩ : BufTy).Contents (Elt F)),
    StableHlo.nullary main_cst_18 (constant S_ .f32 0x3F800000#32),
    StableHlo.unary main_cst_18 main_v146 (broadcastInDim S8x20000 ![] bcast_S_S8x20000 : (⟨S_, .f32⟩ : BufTy).Contents (Elt F) → (⟨S8x20000, .f32⟩ : BufTy).Contents (Elt F)),
    StableHlo.binary main_v146 main_v145 main_v147 (mulf : (⟨S8x20000, .f32⟩ : BufTy).Contents (Elt F) → (⟨S8x20000, .f32⟩ : BufTy).Contents (Elt F) → (⟨S8x20000, .f32⟩ : BufTy).Contents (Elt F)) ]
/-- The buffers stage I writes, in order. -/
abbrev outsI : List (Ref sig .tc) :=
  [main_v120, main_v121, main_v122, main_cst_15, main_v123, main_v124, main_v125, main_v126, main_v127, main_v128, main_v129, main_v130, main_cst_16, main_v131, main_v132, main_v133, main_v134, main_v135, main_v136, main_v137, main_v138, main_v139, main_cst_17, main_v140, main_v141, main_v142, main_v143, main_v144, main_v145, main_cst_18, main_v146, main_v147]
theorem subI : (opsI : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub ..⟩
theorem freshI : (opsI : List (HloOp τ sig (Elt F))).Forall fun op => op.fresh = ∅ :=
  StableHlo.forall_fresh_of_map rfl
theorem writesI : (opsI : List (HloOp τ sig (Elt F))).Forall fun op => op.writes ⊆ (outsI.map (Proc.devRef (τ := τ) .tc)).toFinset :=
  StableHlo.forall_writes_sub_of_map rfl

/-- Stage J: the targets as one array. -/
abbrev opsJ : List (HloOp τ sig (Elt F)) :=
  [ StableHlo.unary main_v127 main_v148 (broadcastInDim S8x20000x1 ![0, 1] bcast_S8x20000_S8x20000x1_0_1 : (⟨S8x20000, .f32⟩ : BufTy).Contents (Elt F) → (⟨S8x20000x1, .f32⟩ : BufTy).Contents (Elt F)),
    StableHlo.unary main_v135 main_v149 (broadcastInDim S8x20000x1 ![0, 1] bcast_S8x20000_S8x20000x1_0_1 : (⟨S8x20000, .f32⟩ : BufTy).Contents (Elt F) → (⟨S8x20000x1, .f32⟩ : BufTy).Contents (Elt F)),
    StableHlo.unary main_v141 main_v150 (broadcastInDim S8x20000x1 ![0, 1] bcast_S8x20000_S8x20000x1_0_1 : (⟨S8x20000, .f32⟩ : BufTy).Contents (Elt F) → (⟨S8x20000x1, .f32⟩ : BufTy).Contents (Elt F)),
    StableHlo.unary main_v147 main_v151 (broadcastInDim S8x20000x1 ![0, 1] bcast_S8x20000_S8x20000x1_0_1 : (⟨S8x20000, .f32⟩ : BufTy).Contents (Elt F) → (⟨S8x20000x1, .f32⟩ : BufTy).Contents (Elt F)),
    StableHlo.nary ![main_v148, main_v149, main_v150, main_v151] main_v152 (fun u => (concatenate S8x20000x4 2 [⟨S8x20000x1, (u 0 : (⟨S8x20000x1, .f32⟩ : BufTy).Contents (Elt F))⟩, ⟨S8x20000x1, (u 1 : (⟨S8x20000x1, .f32⟩ : BufTy).Contents (Elt F))⟩, ⟨S8x20000x1, (u 2 : (⟨S8x20000x1, .f32⟩ : BufTy).Contents (Elt F))⟩, ⟨S8x20000x1, (u 3 : (⟨S8x20000x1, .f32⟩ : BufTy).Contents (Elt F))⟩] concatenates_S8x20000x1_S8x20000x1_S8x20000x1_S8x20000x1_S8x20000x4_d2 : (⟨S8x20000x4, .f32⟩ : BufTy).Contents (Elt F))) ]
/-- The buffers stage J writes, in order. -/
abbrev outsJ : List (Ref sig .tc) :=
  [main_v148, main_v149, main_v150, main_v151, main_v152]
theorem subJ : (opsJ : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.nary_bufs_sub ..⟩
theorem freshJ : (opsJ : List (HloOp τ sig (Elt F))).Forall fun op => op.fresh = ∅ :=
  StableHlo.forall_fresh_of_map rfl
theorem writesJ : (opsJ : List (HloOp τ sig (Elt F))).Forall fun op => op.writes ⊆ (outsJ.map (Proc.devRef (τ := τ) .tc)).toFinset :=
  StableHlo.forall_writes_sub_of_map rfl

/-- Stage K: the masked differences and the mask as words. -/
abbrev opsK : List (HloOp τ sig (Elt F)) :=
  [ StableHlo.unary main_v71 main_v153 (broadcastInDim S8x20000x1 ![0, 1] bcast_S8x20000_S8x20000x1_0_1 : (⟨S8x20000, .i1⟩ : BufTy).Contents (Elt F) → (⟨S8x20000x1, .i1⟩ : BufTy).Contents (Elt F)),
    StableHlo.binary main_arg1 main_v152 main_v154 (subf : (⟨S8x20000x4, .f32⟩ : BufTy).Contents (Elt F) → (⟨S8x20000x4, .f32⟩ : BufTy).Contents (Elt F) → (⟨S8x20000x4, .f32⟩ : BufTy).Contents (Elt F)),
    StableHlo.unary main_v154 main_v155 (Host.absf : (⟨S8x20000x4, .f32⟩ : BufTy).Contents (Elt F) → (⟨S8x20000x4, .f32⟩ : BufTy).Contents (Elt F)),
    StableHlo.nullary main_cst_19 (constant S_ .f32 0x00000000#32),
    StableHlo.unary main_cst_19 main_call6_v0 (id : (⟨S_, .f32⟩ : BufTy).Contents (Elt F) → (⟨S_, .f32⟩ : BufTy).Contents (Elt F)),
    StableHlo.unary main_v153 main_call6_v1 (broadcastInDim S8x20000x4 ![0, 1, 2] bcast_S8x20000x1_S8x20000x4_0_1_2 : (⟨S8x20000x1, .i1⟩ : BufTy).Contents (Elt F) → (⟨S8x20000x4, .i1⟩ : BufTy).Contents (Elt F)),
    StableHlo.unary main_call6_v0 main_call6_v2 (broadcastInDim S20000x4 ![] bcast_S_S20000x4 : (⟨S_, .f32⟩ : BufTy).Contents (Elt F) → (⟨S20000x4, .f32⟩ : BufTy).Contents (Elt F)),
    StableHlo.unary main_call6_v2 main_call6_v3 (broadcastInDim S8x20000x4 ![1, 2] bcast_S20000x4_S8x20000x4_1_2 : (⟨S20000x4, .f32⟩ : BufTy).Contents (Elt F) → (⟨S8x20000x4, .f32⟩ : BufTy).Contents (Elt F)),
    StableHlo.ternary main_call6_v1 main_v155 main_call6_v3 main_v156 (select : (⟨S8x20000x4, .i1⟩ : BufTy).Contents (Elt F) → (⟨S8x20000x4, .f32⟩ : BufTy).Contents (Elt F) → (⟨S8x20000x4, .f32⟩ : BufTy).Contents (Elt F) → (⟨S8x20000x4, .f32⟩ : BufTy).Contents (Elt F)),
    StableHlo.unary main_v71 main_v157 ((extui 32 · natLt_1_32) : (⟨S8x20000, .i1⟩ : BufTy).Contents (Elt F) → (⟨S8x20000, .i32⟩ : BufTy).Contents (Elt F)) ]
/-- The buffers stage K writes, in order. -/
abbrev outsK : List (Ref sig .tc) :=
  [main_v153, main_v154, main_v155, main_cst_19, main_call6_v0, main_call6_v1, main_call6_v2, main_call6_v3, main_v156, main_v157]
theorem subK : (opsK : List (HloOp τ sig (Elt F))).Forall fun op => op.bufs ⊆ StableHlo.tcRefs τ sig :=
  ⟨StableHlo.unary_bufs_sub .., StableHlo.binary_bufs_sub .., StableHlo.unary_bufs_sub .., StableHlo.nullary_bufs_sub .., StableHlo.unary_bufs_sub .., StableHlo.unary_bufs_sub .., StableHlo.unary_bufs_sub .., StableHlo.unary_bufs_sub .., StableHlo.ternary_bufs_sub .., StableHlo.unary_bufs_sub ..⟩
theorem freshK : (opsK : List (HloOp τ sig (Elt F))).Forall fun op => op.fresh = ∅ :=
  StableHlo.forall_fresh_of_map rfl
theorem writesK : (opsK : List (HloOp τ sig (Elt F))).Forall fun op => op.writes ⊆ (outsK.map (Proc.devRef (τ := τ) .tc)).toFinset :=
  StableHlo.forall_writes_sub_of_map rfl

/-- Stage L: the mean. -/
abbrev opsL : List (HloOp τ sig (Elt F)) :=
  [ StableHlo.nullary main_c_20 (constantI S_ 32 0#32),
    StableHlo.binary main_v157 main_c_20 main_v158 ((fun x v => Host.reduce IntOp.addi x v reducesTo_S8x20000_S8_d1 h_S_) : (⟨S8x20000, .i32⟩ : BufTy).Contents (Elt F) → (⟨S_, .i32⟩ : BufTy).Contents (Elt F) → (⟨S8, .i32⟩ : BufTy).Contents (Elt F)),
    StableHlo.nullary main_cst_21 (constant S_ .f32 0x00000000#32),
    StableHlo.binary main_v156 main_cst_21 main_v159 ((fun x v => Host.reduceAdd x v reducesTo_S8x20000x4_S8_d1_2 h_S_) : (⟨S8x20000x4, .f32⟩ : BufTy).Contents (Elt F) → (⟨S_, .f32⟩ : BufTy).Contents (Elt F) → (⟨S8, .f32⟩ : BufTy).Contents (Elt F)),
    StableHlo.nullary main_c_22 (constantI S_ 32 1#32),
    StableHlo.unary main_c_22 main_v160 (broadcastInDim S8 ![] bcast_S_S8 : (⟨S_, .i32⟩ : BufTy).Contents (Elt F) → (⟨S8, .i32⟩ : BufTy).Contents (Elt F)),
    StableHlo.binary main_v160 main_v158 main_v161 (maxsi : (⟨S8, .i32⟩ : BufTy).Contents (Elt F) → (⟨S8, .i32⟩ : BufTy).Contents (Elt F) → (⟨S8, .i32⟩ : BufTy).Contents (Elt F)),
    StableHlo.unary main_v161 main_v162 (sitofp .f32 : (⟨S8, .i32⟩ : BufTy).Contents (Elt F) → (⟨S8, .f32⟩ : BufTy).Contents (Elt F)),
    StableHlo.binary main_v159 main_v162 main_v163 (Host.divf : (⟨S8, .f32⟩ : BufTy).Contents (Elt F) → (⟨S8, .f32⟩ : BufTy).Contents (Elt F) → (⟨S8, .f32⟩ : BufTy).Contents (Elt F)),
    StableHlo.nullary main_cst_23 (constant S_ .f32 0x00000000#32),
    StableHlo.binary main_v163 main_cst_23 main_v164 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    StableHlo.nullary main_cst_24 (constant S_ .f32 0x41000000#32),
    StableHlo.binary main_v164 main_cst_24 main_v165 (Host.divf : (⟨S_, .f32⟩ : BufTy).Contents (Elt F) → (⟨S_, .f32⟩ : BufTy).Contents (Elt F) → (⟨S_, .f32⟩ : BufTy).Contents (Elt F)) ]
/-- The buffers stage L writes, in order. -/
abbrev outsL : List (Ref sig .tc) :=
  [main_c_20, main_v158, main_cst_21, main_v159, main_c_22, main_v160, main_v161, main_v162, main_v163, main_cst_23, main_v164, main_cst_24, main_v165]
theorem subL : (opsL : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.binary_bufs_sub .., StableHlo.nullary_bufs_sub .., StableHlo.binary_bufs_sub ..⟩
theorem freshL : (opsL : List (HloOp τ sig (Elt F))).Forall fun op => op.fresh = ∅ :=
  StableHlo.forall_fresh_of_map rfl
theorem writesL : (opsL : List (HloOp τ sig (Elt F))).Forall fun op => op.writes ⊆ (outsL.map (Proc.devRef (τ := τ) .tc)).toFinset :=
  StableHlo.forall_writes_sub_of_map rfl

/-- The whole reference, in order. -/
abbrev ops : List (HloOp τ sig (Elt F)) :=
  (opsA ++ (opsB ++ (opsC ++ opsD))) ++ ((opsE ++ (opsF ++ opsG)) ++ ((opsH ++ (opsI ++ (opsJ ++ opsK))) ++ opsL))

theorem part0_eq (c : Dev nD) : main_part0 (F := F) c = seq (opsA ++ (opsB ++ (opsC ++ opsD))) := by
  chain_rfl
theorem part1_eq (c : Dev nD) : main_part1 (F := F) c = seq (opsE ++ (opsF ++ opsG)) := by
  chain_rfl
theorem part2_eq (c : Dev nD) : main_part2 (F := F) c = seq (opsH ++ (opsI ++ (opsJ ++ opsK))) := by
  chain_rfl
theorem part3_eq (c : Dev nD) : main_part3 (F := F) c = seq opsL := by
  chain_rfl

theorem main_eq (c : Dev nD) : main (F := F) c = seq ops := by
  unfold main
  rw [part0_eq, part1_eq, part2_eq, part3_eq, seq_append (opsA ++ (opsB ++ (opsC ++ opsD))), seq_append (opsE ++ (opsF ++ opsG)), seq_append (opsH ++ (opsI ++ (opsJ ++ opsK)))]

end Cert.ReferenceIdeal.Ops

end
-- ==== Proof.RefRun.lean ====
/- The reference's run: every buffer ends at the fold of its operations, the arguments at what they held. -/
module

public import proofs.«01_k».proof.Defs
public import proofs.«01_k».proof.Proof.RefOps

@[expose] public section

set_option maxRecDepth 16384

noncomputable section

namespace Cert.ReferenceIdeal.Ops

open Idealize.ShloMosaic Idealize.ShloMosaic.TcCoe Idealize.ShloMosaic.StableHlo Idealize.SL.Sem

variable {F : FTy → Type} [FloatOps F]

/-- A line in two pieces is the second run on what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- What the stages leave, one after the other. -/
theorem after_ops (V : Valuation τ sig (Elt F)) :
    after ops V = after opsL (after opsK (after opsJ (after opsI (after opsH (after opsG (after opsF (after opsE (after opsD
      (after opsC (after opsB (after opsA V))))))))))) := by
  simp only [ops, after_append]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ StableHlo.tcRefs τ sig :=
  List.forall_append.mpr ⟨List.forall_append.mpr ⟨subA, List.forall_append.mpr ⟨subB, List.forall_append.mpr ⟨subC, subD⟩⟩⟩, List.forall_append.mpr ⟨List.forall_append.mpr ⟨subE, List.forall_append.mpr ⟨subF, subG⟩⟩, List.forall_append.mpr ⟨List.forall_append.mpr ⟨subH, List.forall_append.mpr ⟨subI, List.forall_append.mpr ⟨subJ, subK⟩⟩⟩, subL⟩⟩⟩

theorem ops_fresh : (ops : List (HloOp τ sig (Elt F))).Forall fun op => op.fresh = ∅ :=
  List.forall_append.mpr ⟨List.forall_append.mpr ⟨freshA, List.forall_append.mpr ⟨freshB, List.forall_append.mpr ⟨freshC, freshD⟩⟩⟩, List.forall_append.mpr ⟨List.forall_append.mpr ⟨freshE, List.forall_append.mpr ⟨freshF, freshG⟩⟩, List.forall_append.mpr ⟨List.forall_append.mpr ⟨freshH, List.forall_append.mpr ⟨freshI, List.forall_append.mpr ⟨freshJ, freshK⟩⟩⟩, freshL⟩⟩⟩

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.mp ops_fresh)

/-- A buffer that no stage writes keeps its contents. -/
theorem kept (V : Valuation τ sig (Elt F)) (r : Ref sig .tc)
    (hA : r ∉ outsA) (hB : r ∉ outsB) (hC : r ∉ outsC) (hD : r ∉ outsD) (hE : r ∉ outsE) (hF : r ∉ outsF) (hG : r ∉ outsG) (hH : r ∉ outsH) (hI : r ∉ outsI) (hJ : r ∉ outsJ) (hK : r ∉ outsK) (hL : r ∉ outsL) :
    after ops V (r : DevRef τ sig) = V (r : DevRef τ sig) := by
  rw [after_ops, after_of_writes_sub opsL _ writesL hL, after_of_writes_sub opsK _ writesK hK, after_of_writes_sub opsJ _ writesJ hJ, after_of_writes_sub opsI _ writesI hI, after_of_writes_sub opsH _ writesH hH, after_of_writes_sub opsG _ writesG hG, after_of_writes_sub opsF _ writesF hF, after_of_writes_sub opsE _ writesE hE, after_of_writes_sub opsD _ writesD hD, after_of_writes_sub opsC _ writesC hC, after_of_writes_sub opsB _ writesB hB, after_of_writes_sub opsA _ writesA hA]

theorem kept0 (V : Valuation τ sig (Elt F)) : after ops V (main_arg0 : DevRef τ sig) = V (main_arg0 : DevRef τ sig) :=
  kept V main_arg0 (by decide) (by decide) (by decide) (by decide) (by decide) (by decide) (by decide) (by decide) (by decide) (by decide) (by decide) (by decide)

theorem kept1 (V : Valuation τ sig (Elt F)) : after ops V (main_arg1 : DevRef τ sig) = V (main_arg1 : DevRef τ sig) :=
  kept V main_arg1 (by decide) (by decide) (by decide) (by decide) (by decide) (by decide) (by decide) (by decide) (by decide) (by decide) (by decide) (by decide)

theorem kept2 (V : Valuation τ sig (Elt F)) : after ops V (main_arg2 : DevRef τ sig) = V (main_arg2 : DevRef τ sig) :=
  kept V main_arg2 (by decide) (by decide) (by decide) (by decide) (by decide) (by decide) (by decide) (by decide) (by decide) (by decide) (by decide) (by decide)

/-- The reference's frame: it ends, its arguments unchanged; it has no semaphore. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono
    (fun r h => ⟨fun c => ⟨(h c main_arg0).trans (kept0 _), (h c main_arg1).trans (kept1 _), (h c main_arg2).trans (kept2 _)⟩,
      sem_eq_zero_of_no_sems (by decide) r.2⟩)
    (run_main m ρ)

end Cert.ReferenceIdeal.Ops

end
-- ==== Proof.KerBlocks.lean ====
/- The blocks the body is given at one point, read off the arrays as the launch finds them. -/
module

public import proofs.«01_k».proof.Proof.Frame
public import Idealize.ShloMosaic.Lib.Pipeline.ValueKit
public import Idealize.ShloMosaic.Lib.Pointwise

@[expose] public section

set_option maxRecDepth 16384

noncomputable section

namespace Cert.KernelIdeal.Body

open Idealize.ShloMosaic Idealize.ShloMosaic.TcCoe Idealize.ShloMosaic.Tactic
open Cert.KernelIdeal.Gen

variable {F : FTy → Type} [FloatOps F] (m : (ℓ : Loc nD τ sig) → Buf (Elt F) ℓ)

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0, 0] := (by decide +kernel : ∀ t : Fin grid0.N, _)
theorem idx3 : ∀ t : Fin cfg0.N, win0_3.index t = ![t.val, 0, 0] := (by decide +kernel : ∀ t : Fin grid0.N, _)
theorem idx4 : ∀ t : Fin cfg0.N, win0_4.index t = ![t.val, 0, 0] := (by decide +kernel : ∀ t : Fin grid0.N, _)

theorem block0 (c : Dev nD) (t : Fin cfg0.N) : iblk m c 0 t = V m c main_v12 := by
  blk_ext! [iblk, V, idx0 t]

theorem block1 (c : Dev nD) (t : Fin cfg0.N) : iblk m c 1 t = V m c main_v15 := by
  blk_ext! [iblk, V, idx1 t]

theorem block2 (c : Dev nD) (t : Fin cfg0.N) (b : Fin 8) (hb : b.val = t.val) (i : Fin 104) (j : Fin 8) :
    iblk m c 2 t (ix3 0 i j) = V m c main_v37 (ix3 b i j) := by
  blk_ext! [iblk, V, idx2 t]

theorem block3 (c : Dev nD) (t : Fin cfg0.N) (b : Fin 8) (hb : b.val = t.val) (j : Fin 8) (i : Fin 104) :
    iblk m c 3 t (ix3 0 j i) = V m c main_v44 (ix3 b j i) := by
  blk_ext! [iblk, V, idx3 t]

theorem block4 (c : Dev nD) (t : Fin cfg0.N) (b : Fin 8) (hb : b.val = t.val) (j : Fin 4) (n : Fin 20480) :
    iblk m c 4 t (ix3 0 j n) = V m c main_v47 (ix3 b j n) := by
  blk_ext! [iblk, V, idx4 t]

/-- The output array after the run: what the body left after the last point. -/
theorem final (c : Dev nD) : (dats m 0 c).arrAt 5 cfg0.N = outAt m c 7 (by decide) := by
  refine (dats m 0 c).arrAt_eq_of_after_last 5 t0_7 (by decide +kernel) _ fun j => ?_
  blk_simp
  rw [after0_5]
  rfl

end Cert.KernelIdeal.Body
-- ==== Proof.KerHost.lean ====
/- The tables the launch finds, as functions of the arguments. -/
module

public import proofs.«01_k».proof.Proof.KerBlocks
public import Idealize.ShloMosaic.Lib.StableHlo.Run

@[expose] public section

set_option maxRecDepth 16384

noncomputable section

namespace Cert.KernelIdeal.Body

open Idealize.ShloMosaic Idealize.ShloMosaic.TcCoe Idealize.ShloMosaic.Tactic
open Idealize.ShloMosaic.StableHlo (after)
open Cert.KernelIdeal.Gen

variable {F : FTy → Type} [FloatOps F]

/-- The anchors, corner by corner, with the padding anchors. -/
def padAnchors (a2 : FVec F S20000x4 .f32) : FVec F S4x20480 .f32 :=
  let cst : FVec F S4x1 .f32 := fun i => FloatOps.ofBits .f32 (lit0 (S4x1.rowMajor i))
  let v0 : FVec F S1x4x1x1 .f32 := shapeCast S1x4x1x1 cst shapeCasts_S4x1_S1x4x1x1
  let v1 : FVec F S1x4x480x1 .f32 := broadcastInDim S1x4x480x1 ![0, 1, 2, 3] bcast_S1x4x1x1_S1x4x480x1_0_1_2_3 v0
  let v2 : FVec F S4x480 .f32 := shapeCast S4x480 v1 shapeCasts_S1x4x480x1_S4x480
  let v3 : FVec F S4x20000 .f32 := transpose S4x20000 [1, 0] a2 transposes_S20000x4_S4x20000_1_0
  concatenate S4x20480 1 [⟨S4x20000, v3⟩, ⟨S4x480, v2⟩] concatenates_S4x20000_S4x480_S4x20480_d1

/-- The anchor table: the padded anchors and their areas. -/
def tab0 (a2 : FVec F S20000x4 .f32) : FVec F S5x20480 .f32 :=
  let v4 : FVec F S4x20480 .f32 := padAnchors a2
  let v5 : FVec F S1x20480 .f32 := extractStridedSlice S1x20480 ![2, 0] v4 slices_S4x20480_S1x20480_2_0
  let v6 : FVec F S1x20480 .f32 := extractStridedSlice S1x20480 ![0, 0] v4 slices_S4x20480_S1x20480_0_0
  let v7 : FVec F S1x20480 .f32 := subf v5 v6
  let v8 : FVec F S1x20480 .f32 := extractStridedSlice S1x20480 ![3, 0] v4 slices_S4x20480_S1x20480_3_0
  let v9 : FVec F S1x20480 .f32 := extractStridedSlice S1x20480 ![1, 0] v4 slices_S4x20480_S1x20480_1_0
  let v10 : FVec F S1x20480 .f32 := subf v8 v9
  let v11 : FVec F S1x20480 .f32 := mulf v7 v10
  concatenate S5x20480 0 [⟨S4x20480, v4⟩, ⟨S1x20480, v11⟩] concatenates_S4x20480_S1x20480_S5x20480_d0

/-- One at an anchor, zero at a padding anchor. -/
def tab1 : FVec F S1x20480 .f32 :=
  let v13 : FVec F S1x20000 .f32 := broadcastInDim S1x20000 ![] bcast_S_S1x20000 (constant S_ .f32 0x3F800000#32)
  let v14 : FVec F S1x480 .f32 := broadcastInDim S1x480 ![] bcast_S_S1x480 (constant S_ .f32 0x00000000#32)
  concatenate S1x20480 1 [⟨S1x20000, v13⟩, ⟨S1x480, v14⟩] concatenates_S1x20000_S1x480_S1x20480_d1

/-- The boxes with the padding boxes. -/
def padBoxes (a0 : FVec F S8x100x4 .f32) : FVec F S8x104x4 .f32 :=
  let cst_0 : FVec F S1x4 .f32 := fun i => FloatOps.ofBits .f32 (lit1 (S1x4.rowMajor i))
  let v16 : FVec F S1x1x4 .f32 := broadcastInDim S1x1x4 ![1, 2] bcast_S1x4_S1x1x4_1_2 cst_0
  let v17 : FVec F S1x1x1x1x1x4 .f32 := shapeCast S1x1x1x1x1x4 v16 shapeCasts_S1x1x4_S1x1x1x1x1x4
  let v18 : FVec F S8x1x4x1x1x4 .f32 := broadcastInDim S8x1x4x1x1x4 ![0, 1, 2, 3, 4, 5] bcast_S1x1x1x1x1x4_S8x1x4x1x1x4_0_1_2_3_4_5 v17
  let v19 : FVec F S8x4x4 .f32 := shapeCast S8x4x4 v18 shapeCasts_S8x1x4x1x1x4_S8x4x4
  concatenate S8x104x4 1 [⟨S8x100x4, a0⟩, ⟨S8x4x4, v19⟩] concatenates_S8x100x4_S8x4x4_S8x104x4_d1

/-- The areas of the padded boxes. -/
def boxAreas (v20 : FVec F S8x104x4 .f32) : FVec F S8x104x1 .f32 :=
  let v21 : FVec F S8x104x1 .f32 := extractStridedSlice S8x104x1 ![0, 0, 2] v20 slices_S8x104x4_S8x104x1_0_0_2
  let v22 : FVec F S8x104 .f32 := shapeCast S8x104 v21 shapeCasts_S8x104x1_S8x104
  let v23 : FVec F S8x104x1 .f32 := extractStridedSlice S8x104x1 ![0, 0, 0] v20 slices_S8x104x4_S8x104x1_0_0_0
  let v24 : FVec F S8x104 .f32 := shapeCast S8x104 v23 shapeCasts_S8x104x1_S8x104
  let v25 : FVec F S8x104 .f32 := subf v22 v24
  let v26 : FVec F S8x104x1 .f32 := extractStridedSlice S8x104x1 ![0, 0, 3] v20 slices_S8x104x4_S8x104x1_0_0_3
  let v27 : FVec F S8x104 .f32 := shapeCast S8x104 v26 shapeCasts_S8x104x1_S8x104
  let v28 : FVec F S8x104x1 .f32 := extractStridedSlice S8x104x1 ![0, 0, 1] v20 slices_S8x104x4_S8x104x1_0_0_1
  let v29 : FVec F S8x104 .f32 := shapeCast S8x104 v28 shapeCasts_S8x104x1_S8x104
  let v30 : FVec F S8x104 .f32 := subf v27 v29
  let v31 : FVec F S8x104 .f32 := mulf v25 v30
  broadcastInDim S8x104x1 ![0, 1] bcast_S8x104_S8x104x1_0_1 v31

/-- Zero at a box, one at a padding box. -/
def padRows : FVec F S8x104x1 .f32 :=
  let v33 : FVec F S8x100x1 .f32 := broadcastInDim S8x100x1 ![] bcast_S_S8x100x1 (constant S_ .f32 0x00000000#32)
  let v34 : FVec F S8x4x1 .f32 := broadcastInDim S8x4x1 ![] bcast_S_S8x4x1 (constant S_ .f32 0x3F800000#32)
  concatenate S8x104x1 1 [⟨S8x100x1, v33⟩, ⟨S8x4x1, v34⟩] concatenates_S8x100x1_S8x4x1_S8x104x1_d1

/-- The box table: corners, areas, padding rows marked. -/
def tab2 (a0 : FVec F S8x100x4 .f32) : FVec F S8x104x8 .f32 :=
  let v36 : FVec F S8x104x2 .f32 := broadcastInDim S8x104x2 ![] bcast_S_S8x104x2 (constant S_ .f32 0x00000000#32)
  concatenate S8x104x8 2 [⟨S8x104x4, padBoxes a0⟩, ⟨S8x104x1, boxAreas (padBoxes a0)⟩, ⟨S8x104x1, padRows⟩, ⟨S8x104x2, v36⟩]
    concatenates_S8x104x4_S8x104x1_S8x104x1_S8x104x2_S8x104x8_d2

/-- The box corners the selection reads: those of the boxes, zeros at the padding. -/
def tab3 (a0 : FVec F S8x100x4 .f32) : FVec F S8x8x104 .f32 :=
  let v38 : FVec F S8x1x104 .f32 := transpose S8x1x104 [0, 2, 1] (padRows : FVec F S8x104x1 .f32) transposes_S8x104x1_S8x1x104_0_2_1
  let v39 : FVec F S8x1x104 .f32 := broadcastInDim S8x1x104 ![] bcast_S_S8x1x104 (constant S_ .f32 0x00000000#32)
  let v40 : IVec S8x1x104 1 := cmpf .ogt v38 v39
  let v41 : FVec F S8x4x104 .f32 := transpose S8x4x104 [0, 2, 1] (padBoxes a0) transposes_S8x104x4_S8x4x104_0_2_1
  let w0 : FVec F S_ .f32 := id (constant S_ .f32 0x00000000#32)
  let w1 : IVec S8x4x104 1 := broadcastInDim S8x4x104 ![0, 1, 2] bcast_S8x1x104_S8x4x104_0_1_2 v40
  let w2 : FVec F S8x4x104 .f32 := broadcastInDim S8x4x104 ![] bcast_S_S8x4x104 w0
  let v42 : FVec F S8x4x104 .f32 := select w1 w2 v41
  let v43 : FVec F S8x4x104 .f32 := broadcastInDim S8x4x104 ![] bcast_S_S8x4x104 (constant S_ .f32 0x00000000#32)
  concatenate S8x8x104 1 [⟨S8x4x104, v42⟩, ⟨S8x4x104, v43⟩] concatenates_S8x4x104_S8x4x104_S8x8x104_d1

/-- The regression rows, corner by corner, padded. -/
def tab4 (a1 : FVec F S8x20000x4 .f32) : FVec F S8x4x20480 .f32 :=
  let v45 : FVec F S8x4x20000 .f32 := transpose S8x4x20000 [0, 2, 1] a1 transposes_S8x20000x4_S8x4x20000_0_2_1
  let v46 : FVec F S8x4x480 .f32 := broadcastInDim S8x4x480 ![] bcast_S_S8x4x480 (constant S_ .f32 0x00000000#32)
  concatenate S8x4x20480 2 [⟨S8x4x20000, v45⟩, ⟨S8x4x480, v46⟩] concatenates_S8x4x20000_S8x4x480_S8x4x20480_d2

variable (m : (ℓ : Loc nD τ sig) → Buf (Elt F) ℓ)

theorem host0 (c : Dev nD) : V m c main_v12 = tab0 (m ((c : Thread nD τ).loc main_arg2)) := by
  show after (List.flatten [hostOps0, hostOps0_1, hostOps0_2]) (fun b => m (c, b)) (main_v12 : DevRef τ sig) = _
  simp only [List.flatten_cons, List.flatten_nil, List.cons_append, List.nil_append, List.append_nil]
  after_results_simp
  rfl

theorem host1 (c : Dev nD) : V m c main_v15 = tab1 := by
  show after (List.flatten [hostOps0, hostOps0_1, hostOps0_2]) (fun b => m (c, b)) (main_v15 : DevRef τ sig) = _
  simp only [List.flatten_cons, List.flatten_nil, List.cons_append, List.nil_append, List.append_nil]
  after_results_simp
  rfl

/-- The box table of equal pieces. -/
theorem joinRows {p p' : FVec F S8x104x4 .f32} {q q' r r' : FVec F S8x104x1 .f32} {w w' : FVec F S8x104x2 .f32}
    (hp : p = p') (hq : q = q') (hr : r = r') (hw : w = w') :
    concatenate S8x104x8 2 [⟨S8x104x4, p⟩, ⟨S8x104x1, q⟩, ⟨S8x104x1, r⟩, ⟨S8x104x2, w⟩]
        concatenates_S8x104x4_S8x104x1_S8x104x1_S8x104x2_S8x104x8_d2
      = concatenate S8x104x8 2 [⟨S8x104x4, p'⟩, ⟨S8x104x1, q'⟩, ⟨S8x104x1, r'⟩, ⟨S8x104x2, w'⟩]
        concatenates_S8x104x4_S8x104x1_S8x104x1_S8x104x2_S8x104x8_d2 := by
  rw [hp, hq, hr, hw]

theorem host2 (c : Dev nD) : V m c main_v37 = tab2 (m ((c : Thread nD τ).loc main_arg0)) := by
  show after (List.flatten [hostOps0, hostOps0_1, hostOps0_2]) (fun b => m (c, b)) (main_v37 : DevRef τ sig) = _
  simp only [List.flatten_cons, List.flatten_nil, List.cons_append, List.nil_append, List.append_nil]
  after_results_simp
  dsimp only [Matrix.cons_val, Matrix.cons_val_zero, Matrix.cons_val_one]
  refine joinRows ?_ ?_ ?_ ?_
  all_goals after_results_simp
  all_goals rfl

theorem host3 (c : Dev nD) : V m c main_v44 = tab3 (m ((c : Thread nD τ).loc main_arg0)) := by
  show after (List.flatten [hostOps0, hostOps0_1, hostOps0_2]) (fun b => m (c, b)) (main_v44 : DevRef τ sig) = _
  simp only [List.flatten_cons, List.flatten_nil, List.cons_append, List.nil_append, List.append_nil]
  after_results_simp
  rfl

theorem host4 (c : Dev nD) : V m c main_v47 = tab4 (m ((c : Thread nD τ).loc main_arg1)) := by
  show after (List.flatten [hostOps0, hostOps0_1, hostOps0_2]) (fun b => m (c, b)) (main_v47 : DevRef τ sig) = _
  simp only [List.flatten_cons, List.flatten_nil, List.cons_append, List.nil_append, List.append_nil]
  after_results_simp
  rfl

end Cert.KernelIdeal.Body
-- ==== Proof.KerRead.lean ====
/- The idealized kernel's body read at one index: the overlap ratio of a row and a column, the mask of a column, the
   one-hot row of a column, and the terms one column adds to the loss and the count. -/
module

public import proofs.«01_k».proof.Proof.Body

@[expose] public section

set_option maxRecDepth 16384

noncomputable section

namespace Cert.KernelIdeal.Body

open Idealize.ShloMosaic Idealize.ShloMosaic.TcCoe Idealize.ShloMosaic.Tactic
open Cert.KernelIdeal.Gen

/-- Column `l` of chunk `k`, counted over all columns. -/
def col (k : ℕ) (hk : k < 4) (l : Fin 5120) : Fin 20480 := ⟨5120 * k + l.val, by omega⟩

/-- The overlap ratio of two boxes given by corners and areas, with the operations in the kernel's order. -/
def ratio (g0 g1 g2 g3 ga a0 a1 a2 a3 aa : EReal) : EReal :=
  Ideal.div (max (min g2 a2 - max g0 a0) 0 * max (min g3 a3 - max g1 a1) 0)
    (ga + aa - max (min g2 a2 - max g0 a0) 0 * max (min g3 a3 - max g1 a1) 0)

theorem gtCol0_at (x2 : Vec Ideal S1x104x8 .f32) (i : Fin 104) : k0_pay24 (gtCol0 x2) (ix2 i 0) = x2 (ix3 0 i 0) := by
  unfold k0_pay24 gtCol0
  pointwise

theorem gtCol1_at (x2 : Vec Ideal S1x104x8 .f32) (i : Fin 104) : k0_pay25 (gtCol1 x2) (ix2 i 0) = x2 (ix3 0 i 1) := by
  unfold k0_pay25 gtCol1
  pointwise

theorem gtCol2_at (x2 : Vec Ideal S1x104x8 .f32) (i : Fin 104) : k0_pay26 (gtCol2 x2) (ix2 i 0) = x2 (ix3 0 i 2) := by
  unfold k0_pay26 gtCol2
  pointwise

theorem gtCol3_at (x2 : Vec Ideal S1x104x8 .f32) (i : Fin 104) : k0_pay27 (gtCol3 x2) (ix2 i 0) = x2 (ix3 0 i 3) := by
  unfold k0_pay27 gtCol3
  pointwise

theorem gtCol4_at (x2 : Vec Ideal S1x104x8 .f32) (i : Fin 104) : k0_pay28 (gtCol4 x2) (ix2 i 0) = x2 (ix3 0 i 4) := by
  unfold k0_pay28 gtCol4
  pointwise

theorem anRow0_at (x0 : Vec Ideal S5x20480 .f32) (k : Fin k0_t1_loop.trips) (l : Fin 5120) :
    anRow0 x0 k (ix2 0 l) = x0 (ix2 0 (col k.val (trips1 ▸ k.isLt) l)) := by
  unfold anRow0
  pointwise [k0_off1_eq]
  rfl

theorem anRow1_at (x0 : Vec Ideal S5x20480 .f32) (k : Fin k0_t1_loop.trips) (l : Fin 5120) :
    anRow1 x0 k (ix2 0 l) = x0 (ix2 1 (col k.val (trips1 ▸ k.isLt) l)) := by
  unfold anRow1
  pointwise [k0_off2_eq]
  rfl

theorem anRow2_at (x0 : Vec Ideal S5x20480 .f32) (k : Fin k0_t1_loop.trips) (l : Fin 5120) :
    anRow2 x0 k (ix2 0 l) = x0 (ix2 2 (col k.val (trips1 ▸ k.isLt) l)) := by
  unfold anRow2
  pointwise [k0_off3_eq]
  rfl

theorem anRow3_at (x0 : Vec Ideal S5x20480 .f32) (k : Fin k0_t1_loop.trips) (l : Fin 5120) :
    anRow3 x0 k (ix2 0 l) = x0 (ix2 3 (col k.val (trips1 ▸ k.isLt) l)) := by
  unfold anRow3
  pointwise [k0_off4_eq]
  rfl

theorem anRow4_at (x0 : Vec Ideal S5x20480 .f32) (k : Fin k0_t1_loop.trips) (l : Fin 5120) :
    anRow4 x0 k (ix2 0 l) = x0 (ix2 4 (col k.val (trips1 ▸ k.isLt) l)) := by
  unfold anRow4
  pointwise [k0_off5_eq]
  rfl

/-- The overlap ratio of padded row `i` with padded column `n`, from the two tables the body is given. -/
def ratioAt (x0 : Vec Ideal S5x20480 .f32) (x2 : Vec Ideal S1x104x8 .f32) (i : Fin 104) (n : Fin 20480) : EReal :=
  ratio (x2 (ix3 0 i 0)) (x2 (ix3 0 i 1)) (x2 (ix3 0 i 2)) (x2 (ix3 0 i 3)) (x2 (ix3 0 i 4))
    (x0 (ix2 0 n)) (x0 (ix2 1 n)) (x0 (ix2 2 n)) (x0 (ix2 3 n)) (x0 (ix2 4 n))

theorem iouChunk_at (x0 : Vec Ideal S5x20480 .f32) (x2 : Vec Ideal S1x104x8 .f32) (k : Fin k0_t1_loop.trips) (i : Fin 104) (l : Fin 5120) :
    iouChunk x0 x2 k (ix2 i l) = ratioAt x0 x2 i (col k.val (trips1 ▸ k.isLt) l) := by
  unfold iouChunk k0_pay3
  pointwise
  simp only [gtCol0_at, gtCol1_at, gtCol2_at, gtCol3_at, gtCol4_at, anRow0_at, anRow1_at, anRow2_at, anRow3_at, anRow4_at]
  rfl

theorem iouStored_eq (x0 : Vec Ideal S5x20480 .f32) (x2 : Vec Ideal S1x104x8 .f32) (k : Fin k0_t1_loop.trips) (i : Fin 104) (l : Fin 5120) :
    iouStored x0 x2 k (ix2 i l) = iouChunk x0 x2 k (ix2 i l) := by
  unfold iouStored iouChunk k0_pay4
  pointwise

theorem iouAll_at (x0 : Vec Ideal S5x20480 .f32) (x2 : Vec Ideal S1x104x8 .f32) (i : Fin 104) (n : Fin 20480) :
    iouAll x0 x2 (ix2 i n) = ratioAt x0 x2 i n := by
  unfold iouAll
  rw [iouStored_eq, iouChunk_at]
  congr 1
  apply Fin.ext
  show 5120 * (n.val / 5120) + n.val % 5120 = n.val
  omega

end Cert.KernelIdeal.Body
-- ==== Proof.KerRow.lean ====
/- One pass of the first loop at one index: the running row maximum against forty slices of a chunk. -/
module

public import proofs.«01_k».proof.Proof.KerRead

@[expose] public section

set_option maxRecDepth 16384

noncomputable section

namespace Cert.KernelIdeal.Body

open Idealize.ShloMosaic Idealize.ShloMosaic.TcCoe Idealize.ShloMosaic.Tactic
open Cert.KernelIdeal.Gen

/-- The entry of a chunk `o` places to the right of lane `l` is at most `c`. -/
def Below (X : FVec Ideal S104x5120 .f32) (i : Fin 104) (l : Fin 128) (c : EReal) (o : ℕ) : Prop :=
  ∀ h : o + l.val < 5120, X (ix2 i (⟨o + l.val, h⟩ : Fin 5120)) ≤ c

theorem slice_le (A : FVec Ideal S104x128 .f32) (X : FVec Ideal S104x5120 .f32) (o : ℕ) (h : S104x5120.Slices ![0, o] S104x128)
    (ho : o + 128 ≤ 5120) (i : Fin 104) (l : Fin 128) (c : EReal) :
    maximumf A (extractStridedSlice S104x128 ![0, o] X h) (ix2 i l) ≤ c ↔ A (ix2 i l) ≤ c ∧ Below X i l c o := by
  have e : extractStridedSlice S104x128 ![0, o] X h (ix2 i l) = X (ix2 i (⟨o + l.val, by omega⟩ : Fin 5120)) := by
    pointwise
  show max _ _ ≤ c ↔ _
  rw [e, max_le_iff]
  exact and_congr_right fun _ => ⟨fun hx _ => hx, fun hx => hx _⟩

/-- One pass of the first loop takes the larger of the running maximum and forty slices of the chunk. -/
theorem rowStep_le (x0 : Vec Ideal S5x20480 .f32) (x2 : Vec Ideal S1x104x8 .f32) (k : Fin k0_t1_loop.trips)
    (acc : FVec Ideal S104x128 .f32) (i : Fin 104) (l : Fin 128) (c : EReal) :
    rowStep x0 x2 k acc (ix2 i l) ≤ c ↔
      acc (ix2 i l) ≤ c ∧ ∀ q < 40, Below (iouChunk x0 x2 k) i l c (128 * q) := by
  have e : ∀ X : FVec Ideal S104x5120 .f32,
      (k0_pay30 X (k0_pay7 X (maximumf (maximumf acc (extractStridedSlice S104x128 ![0, 0] X slices_S104x5120_o0_0_S104x128))
        (extractStridedSlice S104x128 ![0, 128] X slices_S104x5120_o0_128_S104x128))
        (extractStridedSlice S104x128 ![0, 256] X slices_S104x5120_o0_256_S104x128)) (k0_pay8 X) (ix2 i l) ≤ c ↔
      acc (ix2 i l) ≤ c ∧ ∀ q < 40, Below X i l c (128 * q)) := by
    intro X
    unfold k0_pay30 k0_pay7 k0_pay8
    rw [show (40 : ℕ) = 39 + 1 from rfl]
    norm_num [slice_le, Nat.forall_lt_succ_right, and_assoc, Nat.le_one_iff_eq_zero_or_eq_one, or_imp, forall_and]
  exact e _

end Cert.KernelIdeal.Body
-- ==== Proof.Spec.lean ====
/- The loss both programs compute, over the extended reals: the overlap ratio of two boxes, the mask of an anchor, the
   regression target of a pair of boxes, and the loss of one image. -/
module

public import Idealize.ShloMosaic.Lib.Pointwise

@[expose] public section

set_option maxRecDepth 16384

noncomputable section

namespace Cert.Spec

open Idealize.ShloMosaic

/-- The area two corners span. -/
def area (b : Fin 4 → EReal) : EReal := (b 2 - b 0) * (b 3 - b 1)

/-- The area two boxes share. -/
def inter (g a : Fin 4 → EReal) : EReal :=
  max (min (g 2) (a 2) - max (g 0) (a 0)) 0 * max (min (g 3) (a 3) - max (g 1) (a 1)) 0

/-- The overlap ratio of two boxes. -/
def ratio (g a : Fin 4 → EReal) : EReal := Ideal.div (inter g a) (area g + area a - inter g a)

/-- One half, as both programs spell it. -/
def half : EReal := Ideal.ofBits .f32 0x3F000000#32

/-- The largest ratio an anchor reaches with any box of the image. -/
def colMax (S : Fin 100 → Fin 20000 → EReal) (n : Fin 20000) : EReal := Finset.univ.sup fun k => S k n

/-- The largest ratio a box reaches with any anchor. -/
def rowMax (S : Fin 100 → Fin 20000 → EReal) (k : Fin 100) : EReal := Finset.univ.sup fun n => S k n

/-- An anchor counts when its best ratio is at least one half, or it is a best anchor of some box. -/
def Counts (S : Fin 100 → Fin 20000 → EReal) (n : Fin 20000) : Prop := half ≤ colMax S n ∨ ∃ k, S k n = rowMax S k

/-- The first box that reaches the anchor's best ratio. -/
def IsBest (S : Fin 100 → Fin 20000 → EReal) (n : Fin 20000) (k : Fin 100) : Prop :=
  S k n = colMax S n ∧ ∀ i < k, S i n ≠ colMax S n

theorem exists_best (S : Fin 100 → Fin 20000 → EReal) (n : Fin 20000) : ∃ k, IsBest S n k := by
  classical
  obtain ⟨k₀, -, h₀⟩ := Finset.exists_mem_eq_sup (Finset.univ : Finset (Fin 100)) ⟨0, Finset.mem_univ _⟩ fun k => S k n
  have hne : (Finset.univ.filter fun k => S k n = colMax S n).Nonempty := ⟨k₀, by simp [colMax, h₀]⟩
  refine ⟨(Finset.univ.filter fun k => S k n = colMax S n).min' hne, ?_, ?_⟩
  · exact (Finset.mem_filter.mp (Finset.min'_mem _ hne)).2
  · intro i hi he
    exact absurd (Finset.min'_le _ i (by simp [he])) (not_le.mpr hi)

/-- That first box. -/
def best (S : Fin 100 → Fin 20000 → EReal) (n : Fin 20000) : Fin 100 := (exists_best S n).choose

theorem best_spec (S : Fin 100 → Fin 20000 → EReal) (n : Fin 20000) : IsBest S n (best S n) := (exists_best S n).choose_spec

theorem IsBest.unique {S : Fin 100 → Fin 20000 → EReal} {n : Fin 20000} {k k' : Fin 100} (h : IsBest S n k)
    (h' : IsBest S n k') : k = k' := by
  rcases lt_trichotomy k k' with hl | he | hl
  · exact absurd h.1 (h'.2 k hl)
  · exact he
  · exact absurd h'.1 (h.2 k' hl)

/-- The regression target of a centre coordinate: from the box's two ends and the anchor's. -/
def centre (g0 g1 a0 a1 : EReal) : EReal :=
  Ideal.div (g0 + half * (g1 - g0) - (a0 + half * (a1 - a0))) (a1 - a0)

/-- The regression target of an extent. -/
def extent (g0 g1 a0 a1 : EReal) : EReal := Ideal.log (Ideal.div (g1 - g0) (a1 - a0))

/-- The size of an extended real. -/
def size (x : EReal) : EReal := max x (-x)

/-- How far a regression row is from the target of a box and an anchor, summed over the four coordinates. -/
def miss (g a r : Fin 4 → EReal) : EReal :=
  size (r 0 - centre (g 0) (g 2) (a 0) (a 2)) + size (r 1 - centre (g 1) (g 3) (a 1) (a 3))
    + size (r 2 - extent (g 0) (g 2) (a 0) (a 2)) + size (r 3 - extent (g 1) (g 3) (a 1) (a 3))

open Classical in
/-- The loss of one image. -/
def loss (g : Fin 100 → Fin 4 → EReal) (a r : Fin 20000 → Fin 4 → EReal) : EReal :=
  Ideal.div (∑ n, if Counts (fun k n => ratio (g k) (a n)) n then miss (g (best (fun k n => ratio (g k) (a n)) n)) (a n) (r n) else 0)
    (max 1 (∑ n, if Counts (fun k n => ratio (g k) (a n)) n then 1 else 0))

/-- What is assumed of the boxes and the anchors. -/
structure InFrame (g : Fin 100 → Fin 4 → EReal) (a : Fin 20000 → Fin 4 → EReal) : Prop where
  g02 : ∀ k, g k 0 ≤ g k 2
  g13 : ∀ k, g k 1 ≤ g k 3
  reach : ∀ k, min (g k 2) (g k 3) ≤ ((4000 : ℝ) : EReal)
  a02 : ∀ n, a n 0 < a n 2
  a13 : ∀ n, a n 1 < a n 3
  start : ∀ n, ((-3999 : ℝ) : EReal) ≤ max (a n 0) (a n 1)

/-- A box with its corners in order. -/
def Proper (b : Fin 4 → EReal) : Prop := b 0 ≤ b 2 ∧ b 1 ≤ b 3

/-- A box with positive extents. -/
def Solid (b : Fin 4 → EReal) : Prop := b 0 < b 2 ∧ b 1 < b 3

/-- Dividing reals by a positive real. -/
theorem div_coe (x y : ℝ) (hy : 0 < y) : Ideal.div (x : EReal) (y : EReal) = ((x * y⁻¹ : ℝ) : EReal) := by
  have hne : (y : EReal) ≠ 0 := by exact_mod_cast hy.ne'
  unfold Ideal.div
  rw [if_neg hne, ← EReal.coe_inv, ← EReal.coe_mul]

/-- The shared extent of two intervals is at most the first one's, unless that one lies at an infinity. -/
theorem shared_le {x y : EReal} (u v : EReal) (h : x ≤ y) :
    (0 ≤ y - x ∧ max (min y v - max x u) 0 ≤ y - x) ∨ (y - x = ⊥ ∧ max (min y v - max x u) 0 = 0) := by
  by_cases h0 : 0 ≤ y - x
  · exact .inl ⟨h0, max_le (EReal.sub_le_sub (min_le_left y v) (le_max_left x u)) h0⟩
  · by_cases ht : x = ⊤
    · subst ht
      obtain rfl := top_le_iff.mp h
      refine .inr ⟨rfl, ?_⟩
      rw [max_eq_left (le_top : u ≤ ⊤), EReal.sub_top, max_eq_right bot_le]
    · by_cases hb : y = ⊥
      · subst hb
        obtain rfl := le_bot_iff.mp h
        refine .inr ⟨rfl, ?_⟩
        rw [min_eq_left (bot_le : ⊥ ≤ v), EReal.bot_sub, max_eq_right bot_le]
      · exact absurd ((EReal.sub_nonneg (.inr ht) (.inl hb)).mpr h) h0

/-- A quotient by an infinity is zero. -/
theorem div_bot (x : EReal) : Ideal.div x ⊥ = 0 := by
  unfold Ideal.div
  rw [if_neg EReal.bot_ne_zero, EReal.inv_bot, mul_zero]

theorem div_top (x : EReal) : Ideal.div x ⊤ = 0 := by
  unfold Ideal.div
  rw [if_neg EReal.top_ne_zero, EReal.inv_top, mul_zero]

/-- What is shared over what is covered: a real number at least zero, and zero if nothing is shared. -/
theorem quotient_real {I G A : EReal} (hI : 0 ≤ I) (hA : 0 < A) (hG : (0 ≤ G ∧ I ≤ G) ∨ G = ⊥) :
    (∃ v : ℝ, 0 ≤ v ∧ Ideal.div I (G + A - I) = (v : EReal)) ∧ (I = 0 → Ideal.div I (G + A - I) = 0) := by
  have zero : ∀ x : EReal, x = 0 → (∃ v : ℝ, 0 ≤ v ∧ x = (v : EReal)) ∧ (I = 0 → x = 0) := fun x h => ⟨⟨0, le_rfl, h⟩, fun _ => h⟩
  rcases hG with ⟨hG, hle⟩ | rfl
  · by_cases hIt : I = ⊤
    · refine zero _ ?_
      rw [hIt, EReal.sub_top, div_bot]
    · obtain ⟨i, rfl⟩ : ∃ i : ℝ, I = (i : EReal) := ⟨I.toReal, (EReal.coe_toReal hIt (EReal.bot_lt_zero.trans_le hI).ne').symm⟩
      by_cases hGt : G = ⊤
      · refine zero _ ?_
        rw [hGt, EReal.top_add_of_ne_bot (EReal.bot_lt_zero.trans hA).ne', EReal.top_sub_coe, div_top]
      · obtain ⟨x, rfl⟩ : ∃ x : ℝ, G = (x : EReal) := ⟨G.toReal, (EReal.coe_toReal hGt (EReal.bot_lt_zero.trans_le hG).ne').symm⟩
        by_cases hAt : A = ⊤
        · refine zero _ ?_
          rw [hAt, EReal.coe_add_top, EReal.top_sub_coe, div_top]
        · obtain ⟨y, rfl⟩ : ∃ y : ℝ, A = (y : EReal) := ⟨A.toReal, (EReal.coe_toReal hAt (EReal.bot_lt_zero.trans hA).ne').symm⟩
          have hi : 0 ≤ i := EReal.coe_nonneg.mp hI
          have hy : 0 < y := EReal.coe_pos.mp hA
          have hix : i ≤ x := EReal.coe_le_coe_iff.mp hle
          have hu : 0 < x + y - i := by linarith
          have e : Ideal.div (i : EReal) ((x : EReal) + (y : EReal) - (i : EReal)) = ((i * (x + y - i)⁻¹ : ℝ) : EReal) := by
            rw [← EReal.coe_add, ← EReal.coe_sub, div_coe _ _ hu]
          refine ⟨⟨_, mul_nonneg hi (inv_nonneg.mpr hu.le), e⟩, fun h => ?_⟩
          rw [e, EReal.coe_eq_zero.mp h, zero_mul, EReal.coe_zero]
  · refine zero _ ?_
    rw [EReal.bot_add, EReal.bot_sub, div_bot]

theorem ratio_real {g a : Fin 4 → EReal} (hg : Proper g) (ha : Solid a) :
    (∃ v : ℝ, 0 ≤ v ∧ ratio g a = (v : EReal)) ∧ (inter g a = 0 → ratio g a = 0) := by
  have hA : 0 < area a := EReal.mul_pos (EReal.sub_pos.mpr ha.1) (EReal.sub_pos.mpr ha.2)
  have p0 : 0 ≤ max (min (g 2) (a 2) - max (g 0) (a 0)) 0 := le_max_right _ _
  have q0 : 0 ≤ max (min (g 3) (a 3) - max (g 1) (a 1)) 0 := le_max_right _ _
  have flat : ∀ z : EReal, inter g a = 0 → (0 ≤ z ∨ z = ⊥) → area g = ⊥ * z → (0 ≤ area g ∧ inter g a ≤ area g) ∨ area g = ⊥ := by
    intro z hi hz e
    rw [e, hi]
    rcases hz with hz | rfl
    · rcases hz.eq_or_lt with rfl | hz
      · left
        rw [mul_zero]
        exact ⟨le_rfl, le_rfl⟩
      · exact .inr (EReal.bot_mul_of_pos hz)
    · left
      rw [EReal.bot_mul_bot]
      exact ⟨le_top, le_top⟩
  refine quotient_real (mul_nonneg p0 q0) hA ?_
  rcases shared_le (a 0) (a 2) hg.1 with ⟨u0, pu⟩ | ⟨u, p⟩
  · rcases shared_le (a 1) (a 3) hg.2 with ⟨v0, qv⟩ | ⟨v, q⟩
    · exact .inl ⟨mul_nonneg u0 v0, mul_le_mul pu qv q0 u0⟩
    · refine flat (g 2 - g 0) ?_ (.inl u0) ?_
      · unfold inter
        rw [q, mul_zero]
      · unfold area
        rw [v, mul_comm]
  · refine flat (g 3 - g 1) ?_ ?_ ?_
    · unfold inter
      rw [p, zero_mul]
    · rcases shared_le (a 1) (a 3) hg.2 with ⟨v0, -⟩ | ⟨v, -⟩
      · exact .inl v0
      · exact .inr v
    · unfold area
      rw [u]

/-- Boxes of which one ends before the other begins, along one side, share nothing. -/
theorem inter_zero {g a : Fin 4 → EReal} (h : min (g 2) (a 2) ≤ max (g 0) (a 0) ∨ min (g 3) (a 3) ≤ max (g 1) (a 1)) :
    inter g a = 0 := by
  unfold inter
  rcases h with h | h
  · rw [max_eq_right (EReal.sub_nonpos.mpr h), zero_mul]
  · rw [max_eq_right (EReal.sub_nonpos.mpr h), mul_zero]

end Cert.Spec
-- ==== Proof.KerLoss.lean ====
/- The body's steps read at one index: the selection matrix, the foreground mask, the regression targets, and one pass of
   the second loop. -/
module

public import proofs.«01_k».proof.Proof.KerRead
public import proofs.«01_k».proof.Proof.Spec

@[expose] public section

set_option maxRecDepth 16384

noncomputable section

namespace Cert.KernelIdeal.Body

open Idealize.ShloMosaic Idealize.ShloMosaic.TcCoe Idealize.ShloMosaic.Tactic
open Cert.KernelIdeal.Gen

theorem bot_word : Ideal.ofBits .f32 0xFF800000#32 = ⊥ := by simp [Ideal.ofBits, Ideal.ieee]
theorem top_word : Ideal.ofBits .f32 0x7F800000#32 = ⊤ := by simp [Ideal.ofBits, Ideal.ieee]
theorem thousand_word : Ideal.ofBits .f32 0x447A0000#32 = ((1000 : ℝ) : EReal) := by
  simp [Ideal.ofBits, Ideal.ieee, -EReal.coe_mul]
  norm_num
theorem hundred_word : Ideal.ofBits .f32 0x42C80000#32 = ((100 : ℝ) : EReal) := by
  simp [Ideal.ofBits, Ideal.ieee, -EReal.coe_mul]
  norm_num

theorem row_number (i : Fin 104) : (FloatOps.sitofp .f32 (BitVec.ofNat 32 i.val) : Ideal .f32) = ((i.val : ℝ) : EReal) := by
  have h : (BitVec.ofNat 32 i.val).toInt = (i.val : ℤ) := by
    rw [BitVec.toInt_eq_toNat_of_lt] <;> rw [BitVec.toNat_ofNat] <;> omega
  show (((BitVec.ofNat 32 i.val).toInt : ℝ) : EReal) = _
  rw [h]
  rfl

/-- The largest entry of a column of the table. -/
def colTop (iou : Vec Ideal S104x20480 .f32) (n : Fin 20480) : EReal := Finset.univ.fold max ⊥ fun i => iou (ix2 i n)

open Classical in
/-- The number of the first row that reaches the column's largest entry. -/
def firstRow (iou : Vec Ideal S104x20480 .f32) (n : Fin 20480) : EReal :=
  Finset.univ.fold min ⊤ fun x : Fin 104 => if iou (ix2 x n) = colTop iou n then ((x.val : ℝ) : EReal) else ((1000 : ℝ) : EReal)

open Classical in
/-- One at the first best row, zero elsewhere. -/
def pickAt (iou : Vec Ideal S104x20480 .f32) (i : Fin 104) (n : Fin 20480) : EReal :=
  if ((i.val : ℝ) : EReal) = firstRow iou n then 1 else 0

open Classical in
/-- The mask of one column. -/
def maskAt (hi : FVec Ideal S104x1 .f32) (iou : Vec Ideal S104x20480 .f32) (x1 : Vec Ideal S1x20480 .f32) (n : Fin 20480) : EReal :=
  max (if Spec.half ≤ colTop iou n then 1 else 0)
    (if Finset.univ.fold max ⊥ (fun i => iou (ix2 i n) - hi (ix2 i 0)) = 0 then 1 else 0) * x1 (ix2 0 n)

/-- The corner `j` of the box picked for one column. -/
def cornerAt (iou : Vec Ideal S104x20480 .f32) (x3 : Vec Ideal S1x8x104 .f32) (j : Fin 8) (n : Fin 20480) : EReal :=
  ∑ i, x3 (ix3 0 j i) * pickAt iou i n

theorem oneHot_at (iou : Vec Ideal S104x20480 .f32) (k : Fin k0_t2_loop.trips) (i : Fin 104) (l : Fin 5120) :
    oneHot iou k (ix2 i l) = pickAt iou i (col k.val (trips2 ▸ k.isLt) l) := by
  unfold oneHot k0_pay11 k0_pay32 k0_pay9
  pointwise [k0_off7_eq]
  simp only [row_number, bot_word, top_word, thousand_word]
  unfold pickAt firstRow colTop col
  congr!

theorem fgMask_at (hi : FVec Ideal S104x1 .f32) (iou : Vec Ideal S104x20480 .f32) (x1 : Vec Ideal S1x20480 .f32)
    (k : Fin k0_t2_loop.trips) (l : Fin 5120) :
    fgMask hi iou x1 k (ix2 0 l) = maskAt hi iou x1 (col k.val (trips2 ▸ k.isLt) l) := by
  unfold fgMask k0_pay10 k0_pay9
  pointwise [k0_off7_eq, k0_off8_eq]
  simp only [bot_word]
  unfold maskAt colTop col Spec.half
  congr!

theorem hi_at (x5 : Vec Ideal S1x104x1 .f32) (r : FVec Ideal S104x128 .f32) (i : Fin 104) :
    k0_pay31 x5 r (ix2 i 0) = Finset.univ.fold max ⊥ (fun l => r (ix2 i l)) + x5 (ix3 0 i 0) * ((100 : ℝ) : EReal) := by
  unfold k0_pay31
  pointwise
  rw [bot_word, hundred_word]

/-- How far the regression row of a column is from its target. -/
def missAt (iou : Vec Ideal S104x20480 .f32) (x0 : Vec Ideal S5x20480 .f32) (x3 : Vec Ideal S1x8x104 .f32) (x4 : Vec Ideal S1x4x20480 .f32)
    (n : Fin 20480) : EReal :=
  Spec.miss ![cornerAt iou x3 0 n, cornerAt iou x3 1 n, cornerAt iou x3 2 n, cornerAt iou x3 3 n]
    ![x0 (ix2 0 n), x0 (ix2 1 n), x0 (ix2 2 n), x0 (ix2 3 n)] ![x4 (ix3 0 0 n), x4 (ix3 0 1 n), x4 (ix3 0 2 n), x4 (ix3 0 3 n)]

theorem lossStep_two (hi : FVec Ideal S104x1 .f32) (iou : Vec Ideal S104x20480 .f32) (x0 : Vec Ideal S5x20480 .f32) (x1 : Vec Ideal S1x20480 .f32)
    (x3 : Vec Ideal S1x8x104 .f32) (x4 : Vec Ideal S1x4x20480 .f32) (k : Fin k0_t2_loop.trips) (acc : Ideal .f32 × Ideal .f32) :
    (lossStep hi iou x0 x1 x3 x4 k acc).2 = acc.2 + ∑ l, maskAt hi iou x1 (col k.val (trips2 ▸ k.isLt) l) := by
  unfold lossStep k0_pay34
  pointwise
  simp only [fgMask_at]
  simp

theorem lossStep_one (hi : FVec Ideal S104x1 .f32) (iou : Vec Ideal S104x20480 .f32) (x0 : Vec Ideal S5x20480 .f32) (x1 : Vec Ideal S1x20480 .f32)
    (x3 : Vec Ideal S1x8x104 .f32) (x4 : Vec Ideal S1x4x20480 .f32) (k : Fin k0_t2_loop.trips) (acc : Ideal .f32 × Ideal .f32) :
    (lossStep hi iou x0 x1 x3 x4 k acc).1 = acc.1 + ∑ l, missAt iou x0 x3 x4 (col k.val (trips2 ▸ k.isLt) l)
      * maskAt hi iou x1 (col k.val (trips2 ▸ k.isLt) l) := by
  have key : ∀ (oh : FVec Ideal S104x5120 .f32) (fg : FVec Ideal S1x5120 .f32),
      oh = oneHot iou k → fg = fgMask hi iou x1 k → (lossStep hi iou x0 x1 x3 x4 k acc).1 =
        acc.1 + ∑ l, Spec.miss ![∑ i, x3 (ix3 0 0 i) * oh (ix2 i l), ∑ i, x3 (ix3 0 1 i) * oh (ix2 i l), ∑ i, x3 (ix3 0 2 i) * oh (ix2 i l), ∑ i, x3 (ix3 0 3 i) * oh (ix2 i l)]
          ![x0 (ix2 0 (col k.val (trips2 ▸ k.isLt) l)), x0 (ix2 1 (col k.val (trips2 ▸ k.isLt) l)), x0 (ix2 2 (col k.val (trips2 ▸ k.isLt) l)), x0 (ix2 3 (col k.val (trips2 ▸ k.isLt) l))]
          ![x4 (ix3 0 0 (col k.val (trips2 ▸ k.isLt) l)), x4 (ix3 0 1 (col k.val (trips2 ▸ k.isLt) l)), x4 (ix3 0 2 (col k.val (trips2 ▸ k.isLt) l)), x4 (ix3 0 3 (col k.val (trips2 ▸ k.isLt) l))]
          * fg (ix2 0 l) := by
    intro oh fg hoh hfg
    unfold lossStep
    rw [← hoh, ← hfg]
    unfold k0_pay33 k0_pay20 k0_pay21 k0_pay22 k0_pay23 k0_pay19 k0_pay18 k0_pay17 k0_pay16 k0_pay15 k0_pay14 k0_pay13 k0_pay12
    pointwise [k0_off9_eq, k0_off10_eq, k0_off11_eq, k0_off12_eq, k0_off13_eq, k0_off14_eq, k0_off15_eq, k0_off16_eq]
    rw [Fin.sum_univ_one]
    rfl
  rw [key _ _ rfl rfl]
  simp only [oneHot_at, fgMask_at]
  rfl

end Cert.KernelIdeal.Body
-- ==== Proof.KerSum.lean ====
/- The two loops of the body summed up: the row maxima over all columns, the loss and the count over all columns. -/
module

public import proofs.«01_k».proof.Proof.KerRow
public import proofs.«01_k».proof.Proof.KerLoss

@[expose] public section

set_option maxRecDepth 16384

noncomputable section

namespace Cert.KernelIdeal.Body

open Idealize.ShloMosaic Idealize.ShloMosaic.TcCoe Idealize.ShloMosaic.Tactic
open Cert.KernelIdeal.Gen

/-- What the row maxima start from. -/
def floor : EReal := Ideal.ofBits .f32 0xCE6E6B28#32

theorem floor_nonpos : floor ≤ 0 := by
  unfold floor
  simp [Ideal.ofBits, Ideal.ieee, -EReal.coe_mul]

theorem pay29_at (i : Fin 104) (l : Fin 128) : (k0_pay29 : FVec Ideal S104x128 .f32) (ix2 i l) = floor := by
  unfold k0_pay29
  pointwise
  rfl

/-- A lane of the running maxima after the first `m` chunks. -/
theorem rowAcc_le (x0 : Vec Ideal S5x20480 .f32) (x2 : Vec Ideal S1x104x8 .f32) (i : Fin 104) (l : Fin 128) (c : EReal)
    (m : ℕ) (hm : m ≤ 4) :
    rowAcc x0 x2 m (ix2 i l) ≤ c ↔
      floor ≤ c ∧ ∀ k < m, ∀ q < 40, ∀ h : 5120 * k + (128 * q + l.val) < 20480, ratioAt x0 x2 i ⟨5120 * k + (128 * q + l.val), h⟩ ≤ c := by
  induction m with
  | zero =>
    rw [show rowAcc x0 x2 0 = (k0_pay29 : FVec Ideal S104x128 .f32) from rfl, pay29_at]
    simp
  | succ m ih =>
    have hlt : m < k0_t1_loop.trips := by rw [trips1]; omega
    have hs : rowAcc x0 x2 (m + 1) = rowStep x0 x2 ⟨m, hlt⟩ (rowAcc x0 x2 m) := by
      rw [rowAcc, dif_pos hlt]
    have hsplit : ∀ P : ℕ → Prop, (∀ k < m + 1, P k) ↔ (∀ k < m, P k) ∧ P m := fun P => Nat.forall_lt_succ_right
    rw [hs, rowStep_le, ih (by omega), hsplit, and_assoc]
    refine and_congr_right fun _ => and_congr_right fun _ => ?_
    refine forall_congr' fun q => forall_congr' fun hq => ?_
    constructor
    · intro hb h
      have := hb (by omega)
      rw [iouChunk_at] at this
      exact this
    · intro hb h
      rw [iouChunk_at]
      exact hb (by omega)

/-- The largest lane is at most `z` when the floor and all ratios of the row are. -/
theorem rowTop_le (x0 : Vec Ideal S5x20480 .f32) (x2 : Vec Ideal S1x104x8 .f32) (i : Fin 104) (z : EReal) :
    Finset.univ.fold max ⊥ (fun l => rowAcc x0 x2 k0_t1_loop.trips (ix2 i l)) ≤ z ↔
      floor ≤ z ∧ ∀ n, ratioAt x0 x2 i n ≤ z := by
  rw [Finset.fold_max_le, trips1]
  simp only [rowAcc_le _ _ _ _ _ 4 le_rfl, Finset.mem_univ, true_imp_iff, bot_le, true_and]
  constructor
  · intro h
    refine ⟨(h 0).1, fun n => ?_⟩
    have hn := n.isLt
    have := (h ⟨n.val % 128, by omega⟩).2 (n.val / 5120) (by omega) (n.val % 5120 / 128) (by omega) (by dsimp only; omega)
    have e : (⟨5120 * (n.val / 5120) + (128 * (n.val % 5120 / 128) + n.val % 128), by omega⟩ : Fin 20480) = n := by
      apply Fin.ext
      dsimp only
      omega
    rw [← e]
    exact this
  · exact fun h l => ⟨h.1, fun k _ q _ hl => h.2 _⟩

/-- Summing chunk by chunk is summing over all columns. -/
theorem sum_chunks (f : Fin 20480 → EReal) :
    ∑ k : Fin 4, ∑ l : Fin 5120, f (col k.val k.isLt l) = ∑ n, f n := by
  rw [← Fintype.sum_prod_type' (f := fun (k : Fin 4) (l : Fin 5120) => f (col k.val k.isLt l))]
  refine Fintype.sum_equiv (finProdFinEquiv : Fin 4 × Fin 5120 ≃ Fin (4 * 5120)) _ (fun n => f n) ?_
  rintro ⟨k, l⟩
  refine congrArg f (Fin.ext ?_)
  show 5120 * k.val + l.val = l.val + 5120 * k.val
  omega

/-- The second loop's sums. -/
theorem lossAcc_eq (hi : FVec Ideal S104x1 .f32) (iou : Vec Ideal S104x20480 .f32) (x0 : Vec Ideal S5x20480 .f32) (x1 : Vec Ideal S1x20480 .f32)
    (x3 : Vec Ideal S1x8x104 .f32) (x4 : Vec Ideal S1x4x20480 .f32) (m : ℕ) (hm : m ≤ 4) :
    (lossAcc hi iou x0 x1 x3 x4 (0, 0) m).1
        = ∑ k : Fin m, ∑ l, missAt iou x0 x3 x4 (col k.val (by omega) l) * maskAt hi iou x1 (col k.val (by omega) l) ∧
      (lossAcc hi iou x0 x1 x3 x4 (0, 0) m).2 = ∑ k : Fin m, ∑ l, maskAt hi iou x1 (col k.val (by omega) l) := by
  induction m with
  | zero => exact ⟨rfl, rfl⟩
  | succ m ih =>
    have hlt : m < k0_t2_loop.trips := by rw [trips2]; omega
    have hs : lossAcc hi iou x0 x1 x3 x4 (0, 0) (m + 1)
        = lossStep hi iou x0 x1 x3 x4 ⟨m, hlt⟩ (lossAcc hi iou x0 x1 x3 x4 (0, 0) m) := by
      rw [lossAcc, dif_pos hlt]
    obtain ⟨h1, h2⟩ := ih (by omega)
    rw [hs, lossStep_one, lossStep_two, h1, h2]
    constructor
    · rw [Fin.sum_univ_castSucc (n := m)]
      rfl
    · rw [Fin.sum_univ_castSucc (n := m)]
      rfl

theorem pay35_eq (a b : Ideal .f32) : k0_pay35 a b = Ideal.div a (max 1 b) := by
  have h1 : (Scalar.ofBits .f32 0x3F800000#32 : Ideal .f32) = 1 := Ideal.ofBits_one_f32
  unfold k0_pay35
  rw [h1]
  rfl

/-- The loss of one image, over all padded columns. -/
theorem bodyLoss_eq (x0 : Vec Ideal S5x20480 .f32) (x1 : Vec Ideal S1x20480 .f32) (x2 : Vec Ideal S1x104x8 .f32)
    (x3 : Vec Ideal S1x8x104 .f32) (x4 : Vec Ideal S1x4x20480 .f32) (hi : FVec Ideal S104x1 .f32) (iou : Vec Ideal S104x20480 .f32)
    (hhi : hi = k0_pay31 (gtCol5 x2) (rowAcc x0 x2 k0_t1_loop.trips)) (hiou : iou = iouAll x0 x2) :
    bodyLoss x0 x1 x2 x3 x4 =
      Ideal.div (∑ n, missAt iou x0 x3 x4 n * maskAt hi iou x1 n) (max 1 (∑ n, maskAt hi iou x1 n)) := by
  have h0 : (FloatOps.ofBits .f32 0x00000000#32 : Ideal .f32) = 0 := Ideal.ofBits_zero_f32
  obtain ⟨e1, e2⟩ := lossAcc_eq hi iou x0 x1 x3 x4 4 le_rfl
  rw [sum_chunks (fun n => missAt iou x0 x3 x4 n * maskAt hi iou x1 n)] at e1
  rw [sum_chunks (fun n => maskAt hi iou x1 n)] at e2
  unfold bodyLoss
  rw [← hhi, ← hiou, trips2, h0]
  dsimp only
  rw [pay35_eq, e1, e2]

end Cert.KernelIdeal.Body
-- ==== Proof.Padding.lean ====
/- What padding the boxes to 104 rows and the anchors to 20480 columns leaves of the column maxima, the row maxima, the
   mask and the first best row: the padded entries are zero and every entry is a real number at least zero. -/
module

public import proofs.«01_k».proof.Proof.Spec

@[expose] public section

set_option maxRecDepth 16384

noncomputable section

namespace Cert.Spec

open Idealize.ShloMosaic

/-- A box's row among the padded rows. -/
def upRow (k : Fin 100) : Fin 104 := ⟨k.val, by omega⟩

/-- An anchor's column among the padded columns. -/
def upCol (n : Fin 20000) : Fin 20480 := ⟨n.val, by omega⟩

/-- `R` is `S` padded with zeros. -/
structure Padded (R : Fin 104 → Fin 20480 → EReal) (S : Fin 100 → Fin 20000 → EReal) : Prop where
  real : ∀ i n, ∃ v : ℝ, 0 ≤ v ∧ R i n = (v : EReal)
  inner : ∀ k n, R (upRow k) (upCol n) = S k n
  row : ∀ (i : Fin 104) n, 100 ≤ i.val → R i n = 0
  column : ∀ i (n : Fin 20480), 20000 ≤ n.val → R i n = 0

variable {R : Fin 104 → Fin 20480 → EReal} {S : Fin 100 → Fin 20000 → EReal}

theorem Padded.nonneg (h : Padded R S) (i : Fin 104) (n : Fin 20480) : 0 ≤ R i n := by
  obtain ⟨v, hv, e⟩ := h.real i n
  rw [e]
  exact_mod_cast hv

theorem Padded.nonneg' (h : Padded R S) (k : Fin 100) (n : Fin 20000) : 0 ≤ S k n := h.inner k n ▸ h.nonneg _ _

theorem Padded.real' (h : Padded R S) (k : Fin 100) (n : Fin 20000) : ∃ v : ℝ, S k n = (v : EReal) := by
  obtain ⟨v, -, e⟩ := h.real (upRow k) (upCol n)
  exact ⟨v, by rw [← h.inner, e]⟩

/-- A padded row is a box's row or a zero row. -/
theorem row_cases (i : Fin 104) : (∃ k, i = upRow k) ∨ 100 ≤ i.val := by
  by_cases hi : i.val < 100
  · exact .inl ⟨⟨i.val, hi⟩, rfl⟩
  · exact .inr (by omega)

theorem col_cases (n : Fin 20480) : (∃ k, n = upCol k) ∨ 20000 ≤ n.val := by
  by_cases hn : n.val < 20000
  · exact .inl ⟨⟨n.val, hn⟩, rfl⟩
  · exact .inr (by omega)

theorem colMax_nonneg (h : Padded R S) (n : Fin 20000) : 0 ≤ colMax S n :=
  le_trans (h.nonneg' 0 n) (Finset.le_sup (f := fun k => S k n) (Finset.mem_univ 0))

theorem rowMax_nonneg (h : Padded R S) (k : Fin 100) : 0 ≤ rowMax S k :=
  le_trans (h.nonneg' k 0) (Finset.le_sup (f := fun n => S k n) (Finset.mem_univ 0))

/-- The largest entry of a column is that of its boxes. -/
theorem Padded.colMax_eq (h : Padded R S) (n : Fin 20000) :
    Finset.univ.fold max ⊥ (fun i => R i (upCol n)) = colMax S n := by
  apply le_antisymm
  · refine (Finset.fold_max_le _).mpr ⟨bot_le, fun i _ => ?_⟩
    rcases row_cases i with ⟨k, rfl⟩ | hi
    · rw [h.inner]
      exact Finset.le_sup (f := fun k => S k n) (Finset.mem_univ k)
    · rw [h.row i _ hi]
      exact colMax_nonneg h n
  · refine Finset.sup_le fun k _ => ?_
    exact (Finset.le_fold_max _).mpr (.inr ⟨upRow k, Finset.mem_univ _, (h.inner k n).ge⟩)

/-- A row maximum known by its upper bounds is the maximum over the anchors. -/
theorem Padded.hi_box (h : Padded R S) {c x : EReal} (hc : c ≤ 0) (k : Fin 100)
    (hx : ∀ z, x ≤ z ↔ c ≤ z ∧ ∀ n, R (upRow k) n ≤ z) : x = rowMax S k := by
  apply le_antisymm
  · refine (hx _).mpr ⟨hc.trans (rowMax_nonneg h k), fun n => ?_⟩
    rcases col_cases n with ⟨a, rfl⟩ | hn
    · rw [h.inner]
      exact Finset.le_sup (f := fun n => S k n) (Finset.mem_univ a)
    · rw [h.column _ n hn]
      exact rowMax_nonneg h k
  · refine Finset.sup_le fun n _ => ?_
    exact (h.inner k n) ▸ ((hx x).mp le_rfl).2 (upCol n)

/-- A padded row's maximum is zero. -/
theorem Padded.hi_pad (h : Padded R S) {c x : EReal} (hc : c ≤ 0) (i : Fin 104) (hi : 100 ≤ i.val)
    (hx : ∀ z, x ≤ z ↔ c ≤ z ∧ ∀ n, R i n ≤ z) : x = 0 := by
  apply le_antisymm
  · exact (hx _).mpr ⟨hc, fun n => (h.row i n hi).le⟩
  · exact (h.row i 0 hi) ▸ ((hx x).mp le_rfl).2 0

/-- A row maximum is reached, hence real. -/
theorem Padded.rowMax_real (h : Padded R S) (k : Fin 100) : ∃ v : ℝ, rowMax S k = (v : EReal) := by
  obtain ⟨n, -, e⟩ := Finset.exists_mem_eq_sup (Finset.univ : Finset (Fin 20000)) ⟨0, Finset.mem_univ _⟩ fun n => S k n
  obtain ⟨v, hv⟩ := h.real' k n
  exact ⟨v, by rw [rowMax, e, hv]⟩

/-- The largest gap of a column to the row maxima is zero just when the anchor is a best one of some box. -/
theorem Padded.gap_eq (h : Padded R S) (n : Fin 20000) {hi : Fin 104 → EReal}
    (hbox : ∀ k, hi (upRow k) = rowMax S k) (hpad : ∀ i : Fin 104, 100 ≤ i.val → hi i = ((100 : ℝ) : EReal)) :
    Finset.univ.fold max ⊥ (fun i => R i (upCol n) - hi i) = 0 ↔ ∃ k, S k n = rowMax S k := by
  have hle : ∀ k, S k n ≤ rowMax S k := fun k => Finset.le_sup (f := fun n => S k n) (Finset.mem_univ n)
  have hneg : ∀ i : Fin 104, 100 ≤ i.val → R i (upCol n) - hi i < 0 := by
    intro i hi'
    rw [h.row i _ hi', hpad i hi', ← EReal.coe_zero, ← EReal.coe_sub]
    exact_mod_cast (by norm_num : (0 : ℝ) - 100 < 0)
  constructor
  · intro e
    rcases (Finset.le_fold_max _).mp e.ge with hb | ⟨i, -, hi'⟩
    · exact absurd hb (by simp)
    · rcases row_cases i with ⟨k, rfl⟩ | hp
      · refine ⟨k, le_antisymm (hle k) ?_⟩
        obtain ⟨v, hv⟩ := h.real' k n
        obtain ⟨w, hw⟩ := h.rowMax_real k
        rw [h.inner, hbox, hv, hw, ← EReal.coe_sub] at hi'
        rw [hv, hw]
        have : (0 : ℝ) ≤ v - w := by exact_mod_cast hi'
        exact_mod_cast (by linarith : w ≤ v)
      · exact absurd hi' (not_le.mpr (hneg i hp))
  · rintro ⟨k, hk⟩
    apply le_antisymm
    · refine (Finset.fold_max_le _).mpr ⟨bot_le, fun i _ => ?_⟩
      rcases row_cases i with ⟨j, rfl⟩ | hp
      · rw [h.inner, hbox]
        exact EReal.sub_nonpos.mpr (hle j)
      · exact (hneg i hp).le
    · refine (Finset.le_fold_max _).mpr (.inr ⟨upRow k, Finset.mem_univ _, ?_⟩)
      obtain ⟨w, hw⟩ := h.rowMax_real k
      rw [h.inner, hbox, hk, hw, ← EReal.coe_sub]
      simp

/-- The least row number among the rows that reach the column's maximum picks the first best box. -/
theorem Padded.first_eq (h : Padded R S) (n : Fin 20000) (i : Fin 104) :
    ((i.val : ℝ) : EReal) = Finset.univ.fold min ⊤ (fun x : Fin 104 =>
        if R x (upCol n) = colMax S n then ((x.val : ℝ) : EReal) else ((1000 : ℝ) : EReal)) ↔ i = upRow (best S n) := by
  have hb := best_spec S n
  have hv : Finset.univ.fold min ⊤ (fun x : Fin 104 =>
        if R x (upCol n) = colMax S n then ((x.val : ℝ) : EReal) else ((1000 : ℝ) : EReal)) = (((best S n).val : ℝ) : EReal) := by
    apply le_antisymm
    · refine (Finset.fold_min_le _).mpr (.inr ⟨upRow (best S n), Finset.mem_univ _, ?_⟩)
      rw [h.inner, if_pos hb.1]
      exact le_rfl
    · refine (Finset.le_fold_min _).mpr ⟨le_top, fun x _ => ?_⟩
      split
      · rename_i hx
        rw [EReal.coe_le_coe_iff, Nat.cast_le]
        rcases row_cases x with ⟨k, rfl⟩ | hp
        · rw [h.inner] at hx
          by_contra hlt
          exact hb.2 k (by rw [Fin.lt_def]; simpa [upRow] using hlt) hx
        · have := (best S n).isLt
          omega
      · rw [EReal.coe_le_coe_iff]
        have := (best S n).isLt
        exact_mod_cast (by omega : (best S n).val ≤ 1000)
  rw [hv, EReal.coe_eq_coe_iff, Nat.cast_inj]
  constructor
  · intro e
    exact Fin.ext e
  · rintro rfl
    rfl

end Cert.Spec
-- ==== Proof.KerTables.lean ====
/- What the blocks of one image hold, and the loss the body makes of them. -/
module

public import proofs.«01_k».proof.Proof.KerSum
public import proofs.«01_k».proof.Proof.Padding

@[expose] public section

set_option maxRecDepth 16384

noncomputable section

namespace Cert.KernelIdeal.Body

open Idealize.ShloMosaic Idealize.ShloMosaic.TcCoe Idealize.ShloMosaic.Tactic
open Cert.KernelIdeal.Gen
open Cert.Spec (upRow upCol Padded)

/-- Row `i` of the padded box table. -/
def boxAt (x2 : Vec Ideal S1x104x8 .f32) (i : Fin 104) : Fin 4 → EReal := ![x2 (ix3 0 i 0), x2 (ix3 0 i 1), x2 (ix3 0 i 2), x2 (ix3 0 i 3)]

/-- Column `n` of the padded anchor table. -/
def anchorAt (x0 : Vec Ideal S5x20480 .f32) (n : Fin 20480) : Fin 4 → EReal := ![x0 (ix2 0 n), x0 (ix2 1 n), x0 (ix2 2 n), x0 (ix2 3 n)]

/-- The blocks hold the boxes `g`, the anchors `a` and the regression rows `r`, padded. -/
structure Tables (x0 : Vec Ideal S5x20480 .f32) (x1 : Vec Ideal S1x20480 .f32) (x2 : Vec Ideal S1x104x8 .f32)
    (x3 : Vec Ideal S1x8x104 .f32) (x4 : Vec Ideal S1x4x20480 .f32) (g : Fin 100 → Fin 4 → EReal) (a r : Fin 20000 → Fin 4 → EReal) : Prop where
  anchor : ∀ n, anchorAt x0 (upCol n) = a n
  anchorPad : ∀ n : Fin 20480, 20000 ≤ n.val →
    anchorAt x0 n = ![((4000 : ℝ) : EReal), ((4000 : ℝ) : EReal), ((4001 : ℝ) : EReal), ((4001 : ℝ) : EReal)]
  anchorArea : ∀ n, x0 (ix2 4 n) = Spec.area (anchorAt x0 n)
  valid : ∀ n, x1 (ix2 0 (upCol n)) = 1
  validPad : ∀ n : Fin 20480, 20000 ≤ n.val → x1 (ix2 0 n) = 0
  box : ∀ k, boxAt x2 (upRow k) = g k
  boxPad : ∀ i : Fin 104, 100 ≤ i.val →
    boxAt x2 i = ![((-4000 : ℝ) : EReal), ((-4000 : ℝ) : EReal), ((-3999 : ℝ) : EReal), ((-3999 : ℝ) : EReal)]
  boxArea : ∀ i, x2 (ix3 0 i 4) = Spec.area (boxAt x2 i)
  lift : ∀ k, x2 (ix3 0 (upRow k) 5) = 0
  liftPad : ∀ i : Fin 104, 100 ≤ i.val → x2 (ix3 0 i 5) = 1
  corner0 : ∀ k, x3 (ix3 0 0 (upRow k)) = g k 0
  corner1 : ∀ k, x3 (ix3 0 1 (upRow k)) = g k 1
  corner2 : ∀ k, x3 (ix3 0 2 (upRow k)) = g k 2
  corner3 : ∀ k, x3 (ix3 0 3 (upRow k)) = g k 3
  reg : ∀ n, ![x4 (ix3 0 0 (upCol n)), x4 (ix3 0 1 (upCol n)), x4 (ix3 0 2 (upCol n)), x4 (ix3 0 3 (upCol n))] = r n

variable {x0 : Vec Ideal S5x20480 .f32} {x1 : Vec Ideal S1x20480 .f32} {x2 : Vec Ideal S1x104x8 .f32}
  {x3 : Vec Ideal S1x8x104 .f32} {x4 : Vec Ideal S1x4x20480 .f32} {g : Fin 100 → Fin 4 → EReal} {a r : Fin 20000 → Fin 4 → EReal}

theorem Tables.ratioAt_eq (T : Tables x0 x1 x2 x3 x4 g a r) (i : Fin 104) (n : Fin 20480) :
    ratioAt x0 x2 i n = Spec.ratio (boxAt x2 i) (anchorAt x0 n) := by
  unfold ratioAt
  rw [T.anchorArea, T.boxArea]
  rfl

theorem Tables.proper (T : Tables x0 x1 x2 x3 x4 g a r) (P : Spec.InFrame g a) (i : Fin 104) : Spec.Proper (boxAt x2 i) := by
  rcases Spec.row_cases i with ⟨k, rfl⟩ | hi
  · rw [T.box]
    exact ⟨P.g02 k, P.g13 k⟩
  · rw [T.boxPad i hi]
    have hlt : ((-4000 : ℝ) : EReal) ≤ ((-3999 : ℝ) : EReal) := EReal.coe_le_coe_iff.mpr (by norm_num)
    exact ⟨hlt, hlt⟩

theorem Tables.solid (T : Tables x0 x1 x2 x3 x4 g a r) (P : Spec.InFrame g a) (n : Fin 20480) : Spec.Solid (anchorAt x0 n) := by
  rcases Spec.col_cases n with ⟨k, rfl⟩ | hn
  · rw [T.anchor]
    exact ⟨P.a02 k, P.a13 k⟩
  · rw [T.anchorPad n hn]
    have hlt : ((4000 : ℝ) : EReal) < ((4001 : ℝ) : EReal) := EReal.coe_lt_coe_iff.mpr (by norm_num)
    exact ⟨hlt, hlt⟩

/-- No box passes the padding anchors' corner along both sides. -/
theorem Tables.box_le (T : Tables x0 x1 x2 x3 x4 g a r) (P : Spec.InFrame g a) (i : Fin 104) :
    boxAt x2 i 2 ≤ ((4000 : ℝ) : EReal) ∨ boxAt x2 i 3 ≤ ((4000 : ℝ) : EReal) := by
  rcases Spec.row_cases i with ⟨k, rfl⟩ | hi
  · rw [T.box]
    exact min_le_iff.mp (P.reach k)
  · rw [T.boxPad i hi]
    exact .inl (EReal.coe_le_coe_iff.mpr (by norm_num))

/-- No anchor starts before the padding boxes' end along both sides. -/
theorem Tables.le_anchor (T : Tables x0 x1 x2 x3 x4 g a r) (P : Spec.InFrame g a) (n : Fin 20480) :
    ((-3999 : ℝ) : EReal) ≤ anchorAt x0 n 0 ∨ ((-3999 : ℝ) : EReal) ≤ anchorAt x0 n 1 := by
  rcases Spec.col_cases n with ⟨k, rfl⟩ | hn
  · rw [T.anchor]
    exact le_max_iff.mp (P.start k)
  · rw [T.anchorPad n hn]
    exact .inl (EReal.coe_le_coe_iff.mpr (by norm_num))

/-- The kernel's table of ratios is the images' one, padded with zeros. -/
theorem Tables.padded (T : Tables x0 x1 x2 x3 x4 g a r) (P : Spec.InFrame g a) :
    Padded (ratioAt x0 x2) (fun k n => Spec.ratio (g k) (a n)) where
  real i n := by
    rw [T.ratioAt_eq]
    exact (Spec.ratio_real (T.proper P i) (T.solid P n)).1
  inner k n := by rw [T.ratioAt_eq, T.box, T.anchor]
  row i n hi := by
    rw [T.ratioAt_eq]
    refine (Spec.ratio_real (T.proper P i) (T.solid P n)).2 (Spec.inter_zero ?_)
    have e2 : boxAt x2 i 2 = ((-3999 : ℝ) : EReal) := by
      rw [T.boxPad i hi]
      rfl
    have e3 : boxAt x2 i 3 = ((-3999 : ℝ) : EReal) := by
      rw [T.boxPad i hi]
      rfl
    exact (T.le_anchor P n).imp (fun h => (min_le_left _ _).trans (e2.le.trans (h.trans (le_max_right _ _))))
      fun h => (min_le_left _ _).trans (e3.le.trans (h.trans (le_max_right _ _)))
  column i n hn := by
    rw [T.ratioAt_eq]
    refine (Spec.ratio_real (T.proper P i) (T.solid P n)).2 (Spec.inter_zero ?_)
    have e0 : anchorAt x0 n 0 = ((4000 : ℝ) : EReal) := by
      rw [T.anchorPad n hn]
      rfl
    have e1 : anchorAt x0 n 1 = ((4000 : ℝ) : EReal) := by
      rw [T.anchorPad n hn]
      rfl
    exact (T.box_le P i).imp (fun h => (min_le_left _ _).trans (h.trans (e0.ge.trans (le_max_right _ _))))
      fun h => (min_le_left _ _).trans (h.trans (e1.ge.trans (le_max_right _ _)))

end Cert.KernelIdeal.Body
-- ==== Proof.KerEntry.lean ====
/- The tables the launch finds hold the boxes, the anchors and the regression rows of each image, padded. -/
module

public import proofs.«01_k».proof.Proof.KerHost
public import proofs.«01_k».proof.Proof.KerTables

@[expose] public section

set_option maxRecDepth 16384

noncomputable section

namespace Cert.KernelIdeal.Body

open Idealize.ShloMosaic Idealize.ShloMosaic.TcCoe Idealize.ShloMosaic.Tactic
open Cert.KernelIdeal.Gen
open Cert.Spec (upRow upCol)

theorem bits_4000 : Ideal.ofBits .f32 0x457A0000#32 = ((4000 : ℝ) : EReal) := by
  simp [Ideal.ofBits, Ideal.ieee, -EReal.coe_mul]
  norm_num

theorem bits_4001 : Ideal.ofBits .f32 0x457A1000#32 = ((4001 : ℝ) : EReal) := by
  simp [Ideal.ofBits, Ideal.ieee, -EReal.coe_mul]
  norm_num

theorem bits_neg4000 : Ideal.ofBits .f32 0xC57A0000#32 = ((-4000 : ℝ) : EReal) := by
  simp [Ideal.ofBits, Ideal.ieee, -EReal.coe_mul]
  norm_num

theorem bits_neg3999 : Ideal.ofBits .f32 0xC579F000#32 = ((-3999 : ℝ) : EReal) := by
  simp [Ideal.ofBits, Ideal.ieee, -EReal.coe_mul]
  norm_num

/-- Four values given one by one. -/
theorem four_eq {x0 x1 x2 x3 : EReal} {y : Fin 4 → EReal} (h0 : x0 = y 0) (h1 : x1 = y 1) (h2 : x2 = y 2) (h3 : x3 = y 3) :
    ![x0, x1, x2, x3] = y := by
  funext (j : Fin 4)
  obtain rfl | rfl | rfl | rfl : j = 0 ∨ j = 1 ∨ j = 2 ∨ j = 3 := by omega
  · exact h0
  · exact h1
  · exact h2
  · exact h3

theorem padAnchors_up (a2 : FVec Ideal S20000x4 .f32) (j : Fin 4) (n : Fin 20000) : padAnchors a2 (ix2 j (upCol n)) = a2 (ix2 n j) := by
  unfold padAnchors
  pointwise
  exact dif_pos n.isLt

theorem padAnchors_pad (a2 : FVec Ideal S20000x4 .f32) (j : Fin 4) (n : Fin 20480) (hn : 20000 ≤ n.val) :
    padAnchors a2 (ix2 j n) = Ideal.ofBits FTy.f32 (lit0 (S4x1.rowMajor (ix2 j 0))) := by
  unfold padAnchors
  pointwise
  exact dif_neg (by omega)

theorem tab0_corner (a2 : FVec Ideal S20000x4 .f32) (j : Fin 4) (n : Fin 20480) : tab0 a2 (ix2 j.castSucc n) = padAnchors a2 (ix2 j n) := by
  unfold tab0
  pointwise
  exact dif_pos j.isLt

theorem tab0_area (a2 : FVec Ideal S20000x4 .f32) (n : Fin 20480) : tab0 a2 (ix2 4 n)
    = (padAnchors a2 (ix2 2 n) - padAnchors a2 (ix2 0 n)) * (padAnchors a2 (ix2 3 n) - padAnchors a2 (ix2 1 n)) := by
  unfold tab0
  pointwise

theorem tab0_anchor (a2 : FVec Ideal S20000x4 .f32) (n : Fin 20480) : anchorAt (tab0 a2) n = fun j => padAnchors a2 (ix2 j n) :=
  four_eq (tab0_corner a2 0 n) (tab0_corner a2 1 n) (tab0_corner a2 2 n) (tab0_corner a2 3 n)

theorem tab1_up (n : Fin 20000) : (tab1 : FVec Ideal S1x20480 .f32) (ix2 0 (upCol n)) = 1 := by
  unfold tab1
  pointwise
  exact dif_pos n.isLt

theorem tab1_pad (n : Fin 20480) (hn : 20000 ≤ n.val) : (tab1 : FVec Ideal S1x20480 .f32) (ix2 0 n) = 0 := by
  unfold tab1
  pointwise
  exact if_neg (by omega)

theorem padBoxes_up (a0 : FVec Ideal S8x100x4 .f32) (b : Fin 8) (k : Fin 100) (j : Fin 4) :
    padBoxes a0 (ix3 b (upRow k) j) = a0 (ix3 b k j) := by
  unfold padBoxes
  pointwise
  exact dif_pos k.isLt

theorem padBoxes_pad (a0 : FVec Ideal S8x100x4 .f32) (b : Fin 8) (i : Fin 104) (j : Fin 4) (hi : 100 ≤ i.val) :
    padBoxes a0 (ix3 b i j) = Ideal.ofBits FTy.f32 (lit1 (S1x4.rowMajor (ix2 0 j))) := by
  unfold padBoxes
  pointwise
  exact dif_neg (by omega)

theorem padRows_up (b : Fin 8) (k : Fin 100) : (padRows : FVec Ideal S8x104x1 .f32) (ix3 b (upRow k) 0) = 0 := by
  unfold padRows
  pointwise
  exact if_pos k.isLt

theorem padRows_pad (b : Fin 8) (i : Fin 104) (hi : 100 ≤ i.val) : (padRows : FVec Ideal S8x104x1 .f32) (ix3 b i 0) = 1 := by
  unfold padRows
  pointwise
  exact dif_neg (by omega)

theorem tab2_corner0 (a0 : FVec Ideal S8x100x4 .f32) (b : Fin 8) (i : Fin 104) : tab2 a0 (ix3 b i 0) = padBoxes a0 (ix3 b i 0) := by
  unfold tab2
  pointwise

theorem tab2_corner1 (a0 : FVec Ideal S8x100x4 .f32) (b : Fin 8) (i : Fin 104) : tab2 a0 (ix3 b i 1) = padBoxes a0 (ix3 b i 1) := by
  unfold tab2
  pointwise

theorem tab2_corner2 (a0 : FVec Ideal S8x100x4 .f32) (b : Fin 8) (i : Fin 104) : tab2 a0 (ix3 b i 2) = padBoxes a0 (ix3 b i 2) := by
  unfold tab2
  pointwise

theorem tab2_corner3 (a0 : FVec Ideal S8x100x4 .f32) (b : Fin 8) (i : Fin 104) : tab2 a0 (ix3 b i 3) = padBoxes a0 (ix3 b i 3) := by
  unfold tab2
  pointwise

theorem tab2_area (a0 : FVec Ideal S8x100x4 .f32) (b : Fin 8) (i : Fin 104) : tab2 a0 (ix3 b i 4)
    = (padBoxes a0 (ix3 b i 2) - padBoxes a0 (ix3 b i 0)) * (padBoxes a0 (ix3 b i 3) - padBoxes a0 (ix3 b i 1)) := by
  unfold tab2
  pointwise [boxAreas]

theorem tab2_rows (a0 : FVec Ideal S8x100x4 .f32) (b : Fin 8) (i : Fin 104) : tab2 a0 (ix3 b i 5) = padRows (ix3 b i 0) := by
  unfold tab2
  pointwise

theorem not_above : ¬ ((0 : EReal) < 0) := lt_irrefl 0

theorem tab3_at0 (a0 : FVec Ideal S8x100x4 .f32) (b : Fin 8) (k : Fin 100) : tab3 a0 (ix3 b 0 (upRow k)) = a0 (ix3 b k 0) := by
  unfold tab3
  pointwise
  rw [padRows_up, if_neg not_above, padBoxes_up]

theorem tab3_at1 (a0 : FVec Ideal S8x100x4 .f32) (b : Fin 8) (k : Fin 100) : tab3 a0 (ix3 b 1 (upRow k)) = a0 (ix3 b k 1) := by
  unfold tab3
  pointwise
  rw [padRows_up, if_neg not_above, padBoxes_up]

theorem tab3_at2 (a0 : FVec Ideal S8x100x4 .f32) (b : Fin 8) (k : Fin 100) : tab3 a0 (ix3 b 2 (upRow k)) = a0 (ix3 b k 2) := by
  unfold tab3
  pointwise
  rw [padRows_up, if_neg not_above, padBoxes_up]

theorem tab3_at3 (a0 : FVec Ideal S8x100x4 .f32) (b : Fin 8) (k : Fin 100) : tab3 a0 (ix3 b 3 (upRow k)) = a0 (ix3 b k 3) := by
  unfold tab3
  pointwise
  rw [padRows_up, if_neg not_above, padBoxes_up]

theorem tab4_up (a1 : FVec Ideal S8x20000x4 .f32) (b : Fin 8) (j : Fin 4) (n : Fin 20000) :
    tab4 a1 (ix3 b j (upCol n)) = a1 (ix3 b n j) := by
  unfold tab4
  pointwise
  exact dif_pos n.isLt

variable (m : (ℓ : Loc nD τ sig) → Buf (Elt Ideal) ℓ)

/-- Box corner `j` of box `k` in image `b`, anchor corner, regression entry: the arguments of device `c`. -/
def boxIn (c : Dev nD) (b : Fin 8) (k : Fin 100) (j : Fin 4) : EReal := (m ((c : Thread nD τ).loc main_arg0) : FVec Ideal S8x100x4 .f32) (ix3 b k j)
def regIn (c : Dev nD) (b : Fin 8) (n : Fin 20000) (j : Fin 4) : EReal := (m ((c : Thread nD τ).loc main_arg1) : FVec Ideal S8x20000x4 .f32) (ix3 b n j)
def anchorIn (c : Dev nD) (n : Fin 20000) (j : Fin 4) : EReal := (m ((c : Thread nD τ).loc main_arg2) : FVec Ideal S20000x4 .f32) (ix2 n j)

/-- A block that holds a slab of the box table holds its rows. -/
theorem box_row {x2 : Vec Ideal S1x104x8 .f32} {a0 : FVec Ideal S8x100x4 .f32} {b : Fin 8}
    (h : ∀ i j, x2 (ix3 0 i j) = tab2 a0 (ix3 b i j)) (i : Fin 104) : boxAt x2 i = fun j => padBoxes a0 (ix3 b i j) :=
  four_eq
    ((h i 0).trans (tab2_corner0 a0 b i)) ((h i 1).trans (tab2_corner1 a0 b i)) ((h i 2).trans (tab2_corner2 a0 b i))
    ((h i 3).trans (tab2_corner3 a0 b i))

theorem tables_of {x0 : Vec Ideal S5x20480 .f32} {x1 : Vec Ideal S1x20480 .f32} {x2 : Vec Ideal S1x104x8 .f32}
    {x3 : Vec Ideal S1x8x104 .f32} {x4 : Vec Ideal S1x4x20480 .f32} (a0 : FVec Ideal S8x100x4 .f32) (a1 : FVec Ideal S8x20000x4 .f32)
    (a2 : FVec Ideal S20000x4 .f32) (b : Fin 8) (h0 : x0 = tab0 a2) (h1 : x1 = (tab1 : FVec Ideal S1x20480 .f32)) (h2 : ∀ i j, x2 (ix3 0 i j) = tab2 a0 (ix3 b i j))
    (h3 : ∀ j i, x3 (ix3 0 j i) = tab3 a0 (ix3 b j i)) (h4 : ∀ j n, x4 (ix3 0 j n) = tab4 a1 (ix3 b j n)) :
    Tables x0 x1 x2 x3 x4 (fun k j => a0 (ix3 b k j)) (fun n j => a2 (ix2 n j)) (fun n j => a1 (ix3 b n j)) := by
  subst h0 h1
  refine ⟨fun n => ?_, fun n hn => ?_, fun n => ?_, tab1_up, tab1_pad, fun k => ?_, fun i hi => ?_, fun i => ?_, fun k => ?_, fun i hi => ?_,
    fun k => ?_, fun k => ?_, fun k => ?_, fun k => ?_, fun n => ?_⟩
  · rw [tab0_anchor]
    exact funext fun j => padAnchors_up a2 j n
  · rw [tab0_anchor]
    funext (j : Fin 4)
    rw [padAnchors_pad a2 j n hn]
    obtain rfl | rfl | rfl | rfl : j = 0 ∨ j = 1 ∨ j = 2 ∨ j = 3 := by omega
    · exact bits_4000
    · exact bits_4000
    · exact bits_4001
    · exact bits_4001
  · rw [tab0_anchor]
    exact tab0_area a2 n
  · rw [box_row h2]
    exact funext fun j => padBoxes_up a0 b k j
  · rw [box_row h2]
    funext (j : Fin 4)
    rw [padBoxes_pad a0 b i j hi]
    obtain rfl | rfl | rfl | rfl : j = 0 ∨ j = 1 ∨ j = 2 ∨ j = 3 := by omega
    · exact bits_neg4000
    · exact bits_neg4000
    · exact bits_neg3999
    · exact bits_neg3999
  · rw [box_row h2]
    exact (h2 i 4).trans (tab2_area a0 b i)
  · rw [h2, tab2_rows, padRows_up]
  · rw [h2, tab2_rows, padRows_pad b i hi]
  · rw [h3, tab3_at0]
  · rw [h3, tab3_at1]
  · rw [h3, tab3_at2]
  · rw [h3, tab3_at3]
  · exact four_eq
      ((h4 0 _).trans (tab4_up a1 b 0 n)) ((h4 1 _).trans (tab4_up a1 b 1 n)) ((h4 2 _).trans (tab4_up a1 b 2 n)) ((h4 3 _).trans (tab4_up a1 b 3 n))

/-- The blocks of grid point `t` hold image `t`. -/
theorem tables (c : Dev nD) (t : Fin cfg0.N) (b : Fin 8) (hb : b.val = t.val) :
    Tables (iblk m c 0 t) (iblk m c 1 t) (iblk m c 2 t) (iblk m c 3 t) (iblk m c 4 t) (boxIn m c b) (anchorIn m c) (regIn m c b) := by
  refine tables_of (m ((c : Thread nD τ).loc main_arg0)) (m ((c : Thread nD τ).loc main_arg1)) (m ((c : Thread nD τ).loc main_arg2)) b
    ((block0 m c t).trans (host0 m c)) ((block1 m c t).trans (host1 m c)) (fun i j => ?_) (fun j i => ?_) (fun j n => ?_)
  · rw [block2 m c t b hb, host2]
  · rw [block3 m c t b hb, host3]
  · rw [block4 m c t b hb, host4]

end Cert.KernelIdeal.Body

end
-- ==== Proof.KerValue.lean ====
/- The loss the body makes of one image's blocks is the loss of the image. -/
module

public import proofs.«01_k».proof.Proof.KerTables

@[expose] public section

set_option maxRecDepth 16384

noncomputable section

namespace Cert.KernelIdeal.Body

open Idealize.ShloMosaic Idealize.ShloMosaic.TcCoe Idealize.ShloMosaic.Tactic
open Cert.KernelIdeal.Gen
open Cert.Spec (upRow upCol Padded)

theorem gtCol5_at (x2 : Vec Ideal S1x104x8 .f32) (i : Fin 104) : gtCol5 x2 (ix3 0 i 0) = x2 (ix3 0 i 5) := by
  unfold gtCol5
  pointwise

/-- The row maxima with the padding rows lifted. -/
def liftedTop (x0 : Vec Ideal S5x20480 .f32) (x2 : Vec Ideal S1x104x8 .f32) : FVec Ideal S104x1 .f32 :=
  k0_pay31 (gtCol5 x2) (rowAcc x0 x2 k0_t1_loop.trips)

/-- A sum over the padded columns whose padding vanishes. -/
theorem sum_cols (f : Fin 20480 → EReal) (h : Fin 20000 → EReal) (hin : ∀ n, f (upCol n) = h n)
    (hout : ∀ n : Fin 20480, 20000 ≤ n.val → f n = 0) : ∑ n, f n = ∑ n, h n := by
  symm
  refine Fintype.sum_of_injective upCol ?_ h f ?_ (fun n => (hin n).symm)
  · intro p q hpq
    exact Fin.ext (show (upCol p).val = (upCol q).val from congrArg Fin.val hpq)
  · intro n hn
    rcases Spec.col_cases n with ⟨k, rfl⟩ | hk
    · exact absurd ⟨k, rfl⟩ hn
    · exact hout n hk

variable {x0 : Vec Ideal S5x20480 .f32} {x1 : Vec Ideal S1x20480 .f32} {x2 : Vec Ideal S1x104x8 .f32}
  {x3 : Vec Ideal S1x8x104 .f32} {x4 : Vec Ideal S1x4x20480 .f32} {g : Fin 100 → Fin 4 → EReal} {a r : Fin 20000 → Fin 4 → EReal}

theorem Tables.top_box (T : Tables x0 x1 x2 x3 x4 g a r) (P : Spec.InFrame g a) (k : Fin 100) :
    liftedTop x0 x2 (ix2 (upRow k) 0) = Spec.rowMax (fun k n => Spec.ratio (g k) (a n)) k := by
  unfold liftedTop
  rw [hi_at, gtCol5_at, T.lift, zero_mul, add_zero]
  exact (T.padded P).hi_box floor_nonpos k (rowTop_le x0 x2 (upRow k))

theorem Tables.top_pad (T : Tables x0 x1 x2 x3 x4 g a r) (P : Spec.InFrame g a) (i : Fin 104) (hi : 100 ≤ i.val) :
    liftedTop x0 x2 (ix2 i 0) = ((100 : ℝ) : EReal) := by
  unfold liftedTop
  rw [hi_at, gtCol5_at, T.liftPad i hi, one_mul, (T.padded P).hi_pad floor_nonpos i hi (rowTop_le x0 x2 i), zero_add]

theorem Tables.colTop_eq (T : Tables x0 x1 x2 x3 x4 g a r) (P : Spec.InFrame g a) (n : Fin 20000) :
    colTop (iouAll x0 x2) (upCol n) = Spec.colMax (fun k n => Spec.ratio (g k) (a n)) n := by
  unfold colTop
  simp only [iouAll_at]
  exact (T.padded P).colMax_eq n

open Classical in
theorem Tables.mask_eq (T : Tables x0 x1 x2 x3 x4 g a r) (P : Spec.InFrame g a) (n : Fin 20000) :
    maskAt (liftedTop x0 x2) (iouAll x0 x2) x1 (upCol n)
      = if Spec.Counts (fun k n => Spec.ratio (g k) (a n)) n then 1 else 0 := by
  have hgap := (T.padded P).gap_eq n (hi := fun i => liftedTop x0 x2 (ix2 i 0)) (T.top_box P) (T.top_pad P)
  unfold maskAt
  rw [T.colTop_eq P, T.valid, mul_one]
  simp only [iouAll_at]
  have hC : Spec.Counts (fun k n => Spec.ratio (g k) (a n)) n ↔
      Spec.half ≤ Spec.colMax (fun k n => Spec.ratio (g k) (a n)) n ∨
        Finset.univ.fold max ⊥ (fun i => ratioAt x0 x2 i (upCol n) - liftedTop x0 x2 (ix2 i 0)) = 0 := or_congr Iff.rfl hgap.symm
  rw [if_congr hC rfl rfl]
  by_cases h1 : Spec.half ≤ Spec.colMax (fun k n => Spec.ratio (g k) (a n)) n
  · by_cases h2 : Finset.univ.fold max ⊥ (fun i => ratioAt x0 x2 i (upCol n) - liftedTop x0 x2 (ix2 i 0)) = 0
    · rw [if_pos h1, if_pos h2, if_pos (Or.inl h1), max_self]
    · rw [if_pos h1, if_neg h2, if_pos (Or.inl h1)]
      exact max_eq_left zero_le_one
  · by_cases h2 : Finset.univ.fold max ⊥ (fun i => ratioAt x0 x2 i (upCol n) - liftedTop x0 x2 (ix2 i 0)) = 0
    · rw [if_neg h1, if_pos h2, if_pos (Or.inr h2)]
      exact max_eq_right zero_le_one
    · rw [if_neg h1, if_neg h2, if_neg (not_or.mpr ⟨h1, h2⟩), max_self]

theorem Tables.mask_pad (T : Tables x0 x1 x2 x3 x4 g a r) (n : Fin 20480) (hn : 20000 ≤ n.val) :
    maskAt (liftedTop x0 x2) (iouAll x0 x2) x1 n = 0 := by
  unfold maskAt
  rw [T.validPad n hn, mul_zero]

open Classical in
theorem Tables.pick_eq (T : Tables x0 x1 x2 x3 x4 g a r) (P : Spec.InFrame g a) (i : Fin 104) (n : Fin 20000) :
    pickAt (iouAll x0 x2) i (upCol n) = if i = upRow (Spec.best (fun k n => Spec.ratio (g k) (a n)) n) then 1 else 0 := by
  have hf := (T.padded P).first_eq n i
  unfold pickAt firstRow
  rw [T.colTop_eq P]
  simp only [iouAll_at]
  refine if_congr (Iff.trans ?_ hf) rfl rfl
  refine Eq.congr_right ?_
  refine Finset.fold_congr fun x _ => ?_
  congr!

theorem Tables.corner_eq (T : Tables x0 x1 x2 x3 x4 g a r) (P : Spec.InFrame g a) (j : Fin 8) (n : Fin 20000) :
    cornerAt (iouAll x0 x2) x3 j (upCol n) = x3 (ix3 0 j (upRow (Spec.best (fun k n => Spec.ratio (g k) (a n)) n))) := by
  unfold cornerAt
  rw [Finset.sum_eq_single (upRow (Spec.best (fun k n => Spec.ratio (g k) (a n)) n))]
  · rw [T.pick_eq P, if_pos rfl, mul_one]
  · intro i _ hi
    rw [T.pick_eq P, if_neg hi, mul_zero]
  · intro h
    exact absurd (Finset.mem_univ _) h

theorem Tables.miss_eq (T : Tables x0 x1 x2 x3 x4 g a r) (P : Spec.InFrame g a) (n : Fin 20000) :
    missAt (iouAll x0 x2) x0 x3 x4 (upCol n) = Spec.miss (g (Spec.best (fun k n => Spec.ratio (g k) (a n)) n)) (a n) (r n) := by
  unfold missAt
  have hc : ∀ k, ![g k 0, g k 1, g k 2, g k 3] = g k := by
    intro k
    refine funext fun (j : Fin 4) => ?_
    obtain rfl | rfl | rfl | rfl : j = 0 ∨ j = 1 ∨ j = 2 ∨ j = 3 := by omega
    all_goals rfl
  rw [T.corner_eq P, T.corner_eq P, T.corner_eq P, T.corner_eq P, T.corner0, T.corner1, T.corner2, T.corner3, hc, T.reg]
  exact congrArg (fun b => Spec.miss _ b _) (T.anchor n)

/-- The body's loss is the image's. -/
theorem Tables.loss_eq (T : Tables x0 x1 x2 x3 x4 g a r) (P : Spec.InFrame g a) : bodyLoss x0 x1 x2 x3 x4 = Spec.loss g a r := by
  classical
  rw [bodyLoss_eq x0 x1 x2 x3 x4 (liftedTop x0 x2) (iouAll x0 x2) rfl rfl]
  unfold Spec.loss
  rw [sum_cols (fun n => missAt (iouAll x0 x2) x0 x3 x4 n * maskAt (liftedTop x0 x2) (iouAll x0 x2) x1 n)
      (fun n => if Spec.Counts (fun k n => Spec.ratio (g k) (a n)) n then
        Spec.miss (g (Spec.best (fun k n => Spec.ratio (g k) (a n)) n)) (a n) (r n) else 0) ?_ ?_,
    sum_cols (fun n => maskAt (liftedTop x0 x2) (iouAll x0 x2) x1 n) _ (T.mask_eq P) T.mask_pad]
  · intro n
    rw [T.mask_eq P, T.miss_eq P]
    by_cases hC : Spec.Counts (fun k n => Spec.ratio (g k) (a n)) n
    · rw [if_pos hC, if_pos hC, mul_one]
    · rw [if_neg hC, if_neg hC, mul_zero]
  · intro n hn
    rw [T.mask_pad n hn, mul_zero]

end Cert.KernelIdeal.Body
-- ==== Proof.SpecMean.lean ====
/- The losses are not negative, so that the mean of eight is the sum of their eighths. -/
module

public import proofs.«01_k».proof.Proof.Spec

@[expose] public section

set_option maxRecDepth 16384

noncomputable section

namespace Cert.Spec

open Idealize.ShloMosaic

theorem size_nonneg (x : EReal) : 0 ≤ size x := by
  rcases le_total 0 x with h | h
  · exact le_max_of_le_left h
  · refine le_max_of_le_right ?_
    have := EReal.neg_le_neg_iff.mpr h
    rwa [neg_zero] at this

theorem miss_nonneg (g a r : Fin 4 → EReal) : 0 ≤ miss g a r :=
  add_nonneg (add_nonneg (add_nonneg (size_nonneg _) (size_nonneg _)) (size_nonneg _)) (size_nonneg _)

theorem div_nonneg {x y : EReal} (hx : 0 ≤ x) (hy : 0 < y) : 0 ≤ Ideal.div x y := by
  unfold Ideal.div
  rw [if_neg hy.ne']
  exact mul_nonneg hx (EReal.inv_nonneg_of_nonneg hy.le)

theorem loss_nonneg (g : Fin 100 → Fin 4 → EReal) (a r : Fin 20000 → Fin 4 → EReal) : 0 ≤ loss g a r := by
  unfold loss
  refine div_nonneg (Finset.sum_nonneg fun n _ => ?_) (lt_of_lt_of_le zero_lt_one (le_max_left _ _))
  split
  · exact miss_nonneg _ _ _
  · exact le_rfl

/-- A factor goes into a sum of values that are not negative. -/
theorem sum_factor {ι : Type} (s : Finset ι) (L : ι → EReal) (e : EReal) (h : ∀ i, 0 ≤ L i) : (∑ i ∈ s, L i) * e = ∑ i ∈ s, L i * e := by
  classical
  induction s using Finset.induction_on with
  | empty => rw [Finset.sum_empty, Finset.sum_empty, zero_mul]
  | insert i s hi ih =>
    rw [Finset.sum_insert hi, Finset.sum_insert hi, EReal.right_distrib_of_nonneg (h i) (Finset.sum_nonneg fun j _ => h j), ih]

theorem eighth : Ideal.ofBits .f32 0x3E000000#32 = (((8 : ℝ)⁻¹ : ℝ) : EReal) := by
  simp [Ideal.ofBits, Ideal.ieee, -EReal.coe_mul]
  norm_num

theorem eight : Ideal.ofBits .f32 0x41000000#32 = ((8 : ℝ) : EReal) := by
  simp [Ideal.ofBits, Ideal.ieee, -EReal.coe_mul]
  norm_num

/-- Eighths added up. -/
theorem mean_eq (L : Fin 8 → EReal) (h : ∀ b, 0 ≤ L b) :
    ∑ b, L b * Ideal.ofBits .f32 0x3E000000#32 = Ideal.div (∑ b, L b) (Ideal.ofBits .f32 0x41000000#32) := by
  rw [← sum_factor Finset.univ L _ h, eighth, eight]
  have hne : ((8 : ℝ) : EReal) ≠ 0 := by
    intro h
    have := EReal.coe_eq_zero.mp h
    norm_num at this
  unfold Ideal.div
  rw [if_neg hne, EReal.coe_inv]

end Cert.Spec

end
-- ==== Proof.KerMean.lean ====
/- The idealized kernel's result: the mean of the eight losses. -/
module

public import proofs.«01_k».proof.Defs
public import proofs.«01_k».proof.Proof.KerEntry
public import proofs.«01_k».proof.Proof.KerValue
public import proofs.«01_k».proof.Proof.SpecMean

@[expose] public section

set_option maxRecDepth 16384

noncomputable section

namespace Cert.KernelIdeal.Body

open Idealize.ShloMosaic Idealize.ShloMosaic.TcCoe Idealize.ShloMosaic.Tactic Idealize.SL.Sem
open Cert.KernelIdeal.Gen

variable (m : (ℓ : Loc nD τ sig) → Buf (Elt Ideal) ℓ)

/-- The loss of image `b`. -/
def imageLoss (c : Dev nD) (b : Fin 8) : EReal := Spec.loss (boxIn m c b) (anchorIn m c) (regIn m c b)

/-- One eighth, as the kernel spells it. -/
def part : EReal := Ideal.ofBits .f32 0x3E000000#32

theorem body_loss (c : Dev nD) (P : ∀ b, Spec.InFrame (boxIn m c b) (anchorIn m c)) (t : Fin cfg0.N) (b : Fin 8) (hb : b.val = t.val) :
    bodyLoss (iblk m c 0 t) (iblk m c 1 t) (iblk m c 2 t) (iblk m c 3 t) (iblk m c 4 t) = imageLoss m c b :=
  (tables m c t b hb).loss_eq (P b)

theorem pay1_at (x : EReal) : k0_pay1 (F := Ideal) x (FloatOps.ofBits .f32 0x3E000000#32) (ix2 0 0) = x * part := rfl

theorem pay2_at (x : EReal) (acc : Vec Ideal S1x1 .f32) :
    k0_pay2 (F := Ideal) x (FloatOps.ofBits .f32 0x3E000000#32) acc (ix2 0 0) = acc (ix2 0 0) + x * part := by
  pointwise [k0_pay2, k0_pay1]
  rfl

theorem out_first (c : Dev nD) (P : ∀ b, Spec.InFrame (boxIn m c b) (anchorIn m c)) (t : Fin cfg0.N) (h1 : ¬1 ≤ t.val) (b : Fin 8) (hb : b.val = t.val) :
    outAt m c t.val t.isLt (ix2 0 0) = imageLoss m c b * part := by
  rw [outAt_first m c t h1, pay1_at, body_loss m c P t b hb]

theorem out_later (c : Dev nD) (P : ∀ b, Spec.InFrame (boxIn m c b) (anchorIn m c)) (t : Fin cfg0.N) (h1 : 1 ≤ t.val) (b : Fin 8) (hb : b.val = t.val) :
    outAt m c t.val t.isLt (ix2 0 0)
      = outAt m c (t.val - 1) (Nat.lt_of_le_of_lt (Nat.sub_le _ _) t.isLt) (ix2 0 0) + imageLoss m c b * part := by
  rw [outAt_later m c t h1, pay2_at, body_loss m c P t b hb]

theorem out_next (c : Dev nD) (P : ∀ b, Spec.InFrame (boxIn m c b) (anchorIn m c)) (n : ℕ) (hn : n + 1 < cfg0.N) (b : Fin 8) (hb : b.val = n + 1) :
    outAt m c (n + 1) hn (ix2 0 0) = outAt m c n (Nat.lt_of_succ_lt hn) (ix2 0 0) + imageLoss m c b * part :=
  out_later m c P ⟨n + 1, hn⟩ (Nat.succ_le_succ (Nat.zero_le n)) b hb

theorem out_last (c : Dev nD) (P : ∀ b, Spec.InFrame (boxIn m c b) (anchorIn m c)) (hn : 7 < cfg0.N) :
    outAt m c 7 hn (ix2 0 0) = ∑ b, imageLoss m c b * part := by
  rw [out_next m c P 6 hn 7 rfl, out_next m c P 5 _ 6 rfl, out_next m c P 4 _ 5 rfl, out_next m c P 3 _ 4 rfl, out_next m c P 2 _ 3 rfl,
    out_next m c P 1 _ 2 rfl, out_next m c P 0 _ 1 rfl, out_first m c P ⟨0, _⟩ (Nat.not_succ_le_zero 0) 0 rfl, Fin.sum_univ_eight]

/-- What the lines after the region leave in the result: the output array, as a scalar. -/
theorem result_eq (c : Dev nD) :
    Pipeline.afterTail₀ cfgs (dats m) 0 (V0 m) [hostOps1] c main_v49
      = shapeCast S_ (outAt m c 7 (by decide)) shapeCasts_S1x1_S_ := by
  unfold Pipeline.afterTail₀
  simp only [List.flatten_cons, List.flatten_nil, List.append_nil]
  rw [← final m c]
  show StableHlo.after hostOps1 _ _ = _
  rw [← Pipeline.withArrays_arr spec0 launch0.win.arr_inj c (V0 m c) (fun w => (dats m 0 c).arrAt w cfg0.N) 5]
  rfl

/-- The mean of the losses. -/
def mean (c : Dev nD) : EReal := Ideal.div (∑ b, imageLoss m c b) (Ideal.ofBits .f32 0x41000000#32)

theorem result_value (c : Dev nD) (P : ∀ b, Spec.InFrame (boxIn m c b) (anchorIn m c)) :
    Pipeline.afterTail₀ cfgs (dats m) 0 (V0 m) [hostOps1] c main_v49 = ((fun _ => mean m c) : FVec Ideal S_ .f32) := by
  rw [result_eq]
  funext i
  have e : shapeCast S_ (outAt m c 7 (by decide)) shapeCasts_S1x1_S_ i = outAt m c 7 (by decide) (ix2 0 0) := by
    generalize outAt m c 7 _ = y
    pointwise
  rw [e, out_last m c P]
  exact Spec.mean_eq _ fun b => Spec.loss_nonneg _ _ _

theorem value (ρ : Dev nD → PrngReg) (P : ∀ c b, Spec.InFrame (boxIn m c b) (anchorIn m c)) :
    θ_run defs (onTc (τ := τ) (main (F := Ideal))) ⟨m, fun _ => 0, ρ⟩ (fun r => ∀ c : Dev nD,
      r.2.mem ((c.tc : Thread nD τ).loc main_v49) = ((fun _ => mean m c) : FVec Ideal S_ .f32)) :=
  (θ_run defs _ _).mono (fun r h c => ((h c).2 main_v49 (by decide)).trans (result_value m c (P c))) (run_main m ρ)

end Cert.KernelIdeal.Body

end
-- ==== Proof.PreFrame.lean ====
/- What the precondition says of the boxes and the anchors. -/
module

public import proofs.«01_k».proof.Defs
public import proofs.«01_k».proof.Proof.KerMean

@[expose] public section

set_option maxRecDepth 16384

noncomputable section

namespace Cert.Pre_boxes_in_frame

open Idealize.ShloMosaic Idealize.ShloMosaic.Tactic

theorem holds : Facts := by
  constructor <;> decide

variable [Facts]

theorem one_of {p : Prop} [Decidable p] (h : BitVec.ofBool (decide p) = 1#1) : p := by
  have key : ∀ u : Bool, BitVec.ofBool u = 1#1 → u = true := by decide
  exact of_decide_eq_true (key _ h)

theorem fn_ordered (a0 : FVec Ideal S8x100x4 .f32) (a1 : FVec Ideal S8x20000x4 .f32) (a2 : FVec Ideal S20000x4 .f32)
    (h : (fn a0 a1 a2).1 = fun _ => 1#1) (b : Fin 8) (k : Fin 100) (j : Fin 2) :
    a0 (ix3 b k ⟨j.val, by omega⟩) ≤ a0 (ix3 b k ⟨2 + j.val, by omega⟩) := by
  have e := congrFun h (ix3 b k j)
  unfold fn at e
  pointwise at e
  exact one_of e

theorem fn_reach (a0 : FVec Ideal S8x100x4 .f32) (a1 : FVec Ideal S8x20000x4 .f32) (a2 : FVec Ideal S20000x4 .f32)
    (h : (fn a0 a1 a2).2.1 = fun _ => 1#1) (b : Fin 8) (k : Fin 100) :
    min (a0 (ix3 b k 2)) (a0 (ix3 b k 3)) ≤ ((4000 : ℝ) : EReal) := by
  have e := congrFun h (ix3 b k 0)
  unfold fn at e
  pointwise at e
  have e' := one_of e
  rw [KernelIdeal.Body.bits_4000] at e'
  exact e'

theorem fn_solid (a0 : FVec Ideal S8x100x4 .f32) (a1 : FVec Ideal S8x20000x4 .f32) (a2 : FVec Ideal S20000x4 .f32)
    (h : (fn a0 a1 a2).2.2.1 = fun _ => 1#1) (n : Fin 20000) (j : Fin 2) :
    a2 (ix2 n ⟨j.val, by omega⟩) < a2 (ix2 n ⟨2 + j.val, by omega⟩) := by
  have e := congrFun h (ix2 n j)
  unfold fn at e
  pointwise at e
  exact one_of e

theorem fn_start (a0 : FVec Ideal S8x100x4 .f32) (a1 : FVec Ideal S8x20000x4 .f32) (a2 : FVec Ideal S20000x4 .f32)
    (h : (fn a0 a1 a2).2.2.2 = fun _ => 1#1) (n : Fin 20000) :
    ((-3999 : ℝ) : EReal) ≤ max (a2 (ix2 n 0)) (a2 (ix2 n 1)) := by
  have e := congrFun h (ix2 n 0)
  unfold fn at e
  pointwise at e
  have e' := one_of e
  rw [KernelIdeal.Body.bits_neg3999] at e'
  exact e'

/-- Each image's boxes and the anchors are as the losses assume them. -/
theorem inFrame (a0 : FVec Ideal S8x100x4 .f32) (a1 : FVec Ideal S8x20000x4 .f32) (a2 : FVec Ideal S20000x4 .f32)
    (h1 : (fn a0 a1 a2).1 = fun _ => 1#1) (h2 : (fn a0 a1 a2).2.1 = fun _ => 1#1) (h3 : (fn a0 a1 a2).2.2.1 = fun _ => 1#1)
    (h4 : (fn a0 a1 a2).2.2.2 = fun _ => 1#1) (b : Fin 8) :
    Spec.InFrame (fun k j => a0 (ix3 b k j)) (fun n j => a2 (ix2 n j)) where
  g02 k := fn_ordered a0 a1 a2 h1 b k 0
  g13 k := fn_ordered a0 a1 a2 h1 b k 1
  reach k := fn_reach a0 a1 a2 h2 b k
  a02 n := fn_solid a0 a1 a2 h3 n 0
  a13 n := fn_solid a0 a1 a2 h3 n 1
  start n := fn_start a0 a1 a2 h4 n

end Cert.Pre_boxes_in_frame

end
-- ==== Proof.RefTermsA.lean ====
/- What the stages of the reference compute, as functions of what they read: the overlaps and their column maxima. -/
module

public import proofs.«01_k».proof.Proof.RefOps

@[expose] public section

set_option maxRecDepth 16384

noncomputable section

namespace Cert.ReferenceIdeal.Ops

open Idealize.ShloMosaic Idealize.ShloMosaic.TcCoe Idealize.SL.Sem
open Idealize.ShloMosaic.StableHlo (after seq seq_append)

open Facts₀ Facts

variable {F : FTy → Type} [FloatOps F]

/-- The reference's value v10 (stage A). -/
def r10 (arg0 : FVec F S8x100x4 .f32) : FVec F S8x100 .f32 :=
  let v0 : FVec F S8x100x1 .f32 := (extractStridedSlice S8x100x1 ![0, 0, 2] · slices_S8x100x4_S8x100x1_0_0_2) arg0
  let v1 : FVec F S8x100 .f32 := shapeCast S8x100 v0 shapeCasts_S8x100x1_S8x100
  let v2 : FVec F S8x100x1 .f32 := (extractStridedSlice S8x100x1 ![0, 0, 0] · slices_S8x100x4_S8x100x1_0_0_0) arg0
  let v3 : FVec F S8x100 .f32 := shapeCast S8x100 v2 shapeCasts_S8x100x1_S8x100
  let v4 : FVec F S8x100 .f32 := subf v1 v3
  let v5 : FVec F S8x100x1 .f32 := (extractStridedSlice S8x100x1 ![0, 0, 3] · slices_S8x100x4_S8x100x1_0_0_3) arg0
  let v6 : FVec F S8x100 .f32 := shapeCast S8x100 v5 shapeCasts_S8x100x1_S8x100
  let v7 : FVec F S8x100x1 .f32 := (extractStridedSlice S8x100x1 ![0, 0, 1] · slices_S8x100x4_S8x100x1_0_0_1) arg0
  let v8 : FVec F S8x100 .f32 := shapeCast S8x100 v7 shapeCasts_S8x100x1_S8x100
  let v9 : FVec F S8x100 .f32 := subf v6 v8
  mulf v4 v9

theorem afterA_v10 (V : Valuation τ sig (Elt F)) :
    after opsA V (main_v10 : DevRef τ sig) = r10 (V (main_arg0 : DevRef τ sig)) := by
  after_results_simp
  rfl

/-- The reference's value v21 (stage A). -/
def r21 (arg2 : FVec F S20000x4 .f32) : FVec F S20000 .f32 :=
  let v11 : FVec F S20000x1 .f32 := (extractStridedSlice S20000x1 ![0, 2] · slices_S20000x4_S20000x1_0_2) arg2
  let v12 : FVec F S20000 .f32 := shapeCast S20000 v11 shapeCasts_S20000x1_S20000
  let v13 : FVec F S20000x1 .f32 := (extractStridedSlice S20000x1 ![0, 0] · slices_S20000x4_S20000x1_0_0) arg2
  let v14 : FVec F S20000 .f32 := shapeCast S20000 v13 shapeCasts_S20000x1_S20000
  let v15 : FVec F S20000 .f32 := subf v12 v14
  let v16 : FVec F S20000x1 .f32 := (extractStridedSlice S20000x1 ![0, 3] · slices_S20000x4_S20000x1_0_3) arg2
  let v17 : FVec F S20000 .f32 := shapeCast S20000 v16 shapeCasts_S20000x1_S20000
  let v18 : FVec F S20000x1 .f32 := (extractStridedSlice S20000x1 ![0, 1] · slices_S20000x4_S20000x1_0_1) arg2
  let v19 : FVec F S20000 .f32 := shapeCast S20000 v18 shapeCasts_S20000x1_S20000
  let v20 : FVec F S20000 .f32 := subf v17 v19
  mulf v15 v20

theorem afterA_v21 (V : Valuation τ sig (Elt F)) :
    after opsA V (main_v21 : DevRef τ sig) = r21 (V (main_arg2 : DevRef τ sig)) := by
  after_results_simp
  rfl

/-- The reference's value v39 (stage B). -/
def r39 (arg0 : FVec F S8x100x4 .f32) (arg2 : FVec F S20000x4 .f32) : FVec F S8x100x20000x2 .f32 :=
  let v22 : FVec F S8x100x2 .f32 := (extractStridedSlice S8x100x2 ![0, 0, 0] · slices_S8x100x4_S8x100x2_0_0_0) arg0
  let v23 : FVec F S8x100x1x2 .f32 := (broadcastInDim S8x100x1x2 ![0, 1, 3] bcast_S8x100x2_S8x100x1x2_0_1_3) v22
  let v24 : FVec F S20000x2 .f32 := (extractStridedSlice S20000x2 ![0, 0] · slices_S20000x4_S20000x2_0_0) arg2
  let v25 : FVec F S1x20000x2 .f32 := (broadcastInDim S1x20000x2 ![1, 2] bcast_S20000x2_S1x20000x2_1_2) v24
  let v26 : FVec F S1x1x20000x2 .f32 := (broadcastInDim S1x1x20000x2 ![1, 2, 3] bcast_S1x20000x2_S1x1x20000x2_1_2_3) v25
  let v27 : FVec F S8x100x20000x2 .f32 := (broadcastInDim S8x100x20000x2 ![0, 1, 2, 3] bcast_S8x100x1x2_S8x100x20000x2_0_1_2_3) v23
  let v28 : FVec F S8x100x20000x2 .f32 := (broadcastInDim S8x100x20000x2 ![0, 1, 2, 3] bcast_S1x1x20000x2_S8x100x20000x2_0_1_2_3) v26
  let v29 : FVec F S8x100x20000x2 .f32 := maximumf v27 v28
  let v30 : FVec F S8x100x2 .f32 := (extractStridedSlice S8x100x2 ![0, 0, 2] · slices_S8x100x4_S8x100x2_0_0_2) arg0
  let v31 : FVec F S8x100x1x2 .f32 := (broadcastInDim S8x100x1x2 ![0, 1, 3] bcast_S8x100x2_S8x100x1x2_0_1_3) v30
  let v32 : FVec F S20000x2 .f32 := (extractStridedSlice S20000x2 ![0, 2] · slices_S20000x4_S20000x2_0_2) arg2
  let v33 : FVec F S1x20000x2 .f32 := (broadcastInDim S1x20000x2 ![1, 2] bcast_S20000x2_S1x20000x2_1_2) v32
  let v34 : FVec F S1x1x20000x2 .f32 := (broadcastInDim S1x1x20000x2 ![1, 2, 3] bcast_S1x20000x2_S1x1x20000x2_1_2_3) v33
  let v35 : FVec F S8x100x20000x2 .f32 := (broadcastInDim S8x100x20000x2 ![0, 1, 2, 3] bcast_S8x100x1x2_S8x100x20000x2_0_1_2_3) v31
  let v36 : FVec F S8x100x20000x2 .f32 := (broadcastInDim S8x100x20000x2 ![0, 1, 2, 3] bcast_S1x1x20000x2_S8x100x20000x2_0_1_2_3) v34
  let v37 : FVec F S8x100x20000x2 .f32 := minimumf v35 v36
  let v38 : FVec F S8x100x20000x2 .f32 := subf v37 v29
  let cst : FVec F S_ .f32 := constant S_ .f32 0x00000000#32
  let call0_v0 : FVec F S_ .f32 := id cst
  let call0_v1 : FVec F S8x100x20000x2 .f32 := (broadcastInDim S8x100x20000x2 ![] bcast_S_S8x100x20000x2) call0_v0
  maximumf call0_v1 v38

theorem afterB_v39 (V : Valuation τ sig (Elt F)) :
    after opsB V (main_v39 : DevRef τ sig) = r39 (V (main_arg0 : DevRef τ sig)) (V (main_arg2 : DevRef τ sig)) := by
  after_results_simp
  rfl

/-- The reference's value v52 (stage C). -/
def r52 (v39 : FVec F S8x100x20000x2 .f32) (v10 : FVec F S8x100 .f32) (v21 : FVec F S20000 .f32) : FVec F S8x100x20000 .f32 :=
  let v40 : FVec F S8x100x20000x1 .f32 := (extractStridedSlice S8x100x20000x1 ![0, 0, 0, 0] · slices_S8x100x20000x2_S8x100x20000x1_0_0_0_0) v39
  let v41 : FVec F S8x100x20000 .f32 := shapeCast S8x100x20000 v40 shapeCasts_S8x100x20000x1_S8x100x20000
  let v42 : FVec F S8x100x20000x1 .f32 := (extractStridedSlice S8x100x20000x1 ![0, 0, 0, 1] · slices_S8x100x20000x2_S8x100x20000x1_0_0_0_1) v39
  let v43 : FVec F S8x100x20000 .f32 := shapeCast S8x100x20000 v42 shapeCasts_S8x100x20000x1_S8x100x20000
  let v44 : FVec F S8x100x20000 .f32 := mulf v41 v43
  let v45 : FVec F S8x100x1 .f32 := (broadcastInDim S8x100x1 ![0, 1] bcast_S8x100_S8x100x1_0_1) v10
  let v46 : FVec F S1x20000 .f32 := (broadcastInDim S1x20000 ![1] bcast_S20000_S1x20000_1) v21
  let v47 : FVec F S1x1x20000 .f32 := (broadcastInDim S1x1x20000 ![1, 2] bcast_S1x20000_S1x1x20000_1_2) v46
  let v48 : FVec F S8x100x20000 .f32 := (broadcastInDim S8x100x20000 ![0, 1, 2] bcast_S8x100x1_S8x100x20000_0_1_2) v45
  let v49 : FVec F S8x100x20000 .f32 := (broadcastInDim S8x100x20000 ![0, 1, 2] bcast_S1x1x20000_S8x100x20000_0_1_2) v47
  let v50 : FVec F S8x100x20000 .f32 := addf v48 v49
  let v51 : FVec F S8x100x20000 .f32 := subf v50 v44
  Host.divf v44 v51

theorem afterC_v52 (V : Valuation τ sig (Elt F)) :
    after opsC V (main_v52 : DevRef τ sig) = r52 (V (main_v39 : DevRef τ sig)) (V (main_v10 : DevRef τ sig)) (V (main_v21 : DevRef τ sig)) := by
  after_results_simp
  rfl

/-- The reference's value v53 (stage D). -/
def r53 (v52 : FVec F S8x100x20000 .f32) : FVec F S8x20000 .f32 :=
  let cst_0 : FVec F S_ .f32 := constant S_ .f32 0xFF800000#32
  (fun x v => Host.reduce FloatOps.maximumf x v reducesTo_S8x100x20000_S8x20000_d1 h_S_) v52 cst_0

theorem afterD_v53 (V : Valuation τ sig (Elt F)) :
    after opsD V (main_v53 : DevRef τ sig) = r53 (V (main_v52 : DevRef τ sig)) := by
  after_results_simp
  rfl

/-- The second components of a family of pairs. -/
def seconds {ι α β : Type} (f : ι → α × β) : ι → β := fun j => (f j).2

theorem seconds_at {ι α β : Type} {f : ι → α × β} {j : ι} {v : α} {w : β} (h : f j = (v, w)) : seconds f j = w := by
  unfold seconds
  rw [h]

/-- The reference's value v54 (stage D). -/
def r54 (v52 : FVec F S8x100x20000 .f32) : IVec S8x20000 32 :=
  let call1_v0 : IVec S8x100x20000 32 := iotaInDim S8x100x20000 32 1
  let call1_cst : FVec F S_ .f32 := constant S_ .f32 0xFF800000#32
  let call1_c : IVec S_ 32 := constantI S_ 32 0#32
  seconds (Host.argReduce reducer_argmax_f32_i32 v52 call1_v0 call1_cst call1_c reducesTo_S8x100x20000_S8x20000_d1 h_S_)

theorem afterD_v54 (V : Valuation τ sig (Elt F)) :
    after opsD V (main_v54 : DevRef τ sig) = r54 (V (main_v52 : DevRef τ sig)) := by
  after_results_simp
  rfl

/-- The reference's value v56 (stage D). -/
def r56 (v52 : FVec F S8x100x20000 .f32) : IVec S8x20000 1 :=
  let cst_0 : FVec F S_ .f32 := constant S_ .f32 0xFF800000#32
  let v53 : FVec F S8x20000 .f32 := (fun x v => Host.reduce FloatOps.maximumf x v reducesTo_S8x100x20000_S8x20000_d1 h_S_) v52 cst_0
  let cst_1 : FVec F S_ .f32 := constant S_ .f32 0x3ECCCCCD#32
  let v55 : FVec F S8x20000 .f32 := (broadcastInDim S8x20000 ![] bcast_S_S8x20000) cst_1
  (cmpf .olt) v53 v55

theorem afterD_v56 (V : Valuation τ sig (Elt F)) :
    after opsD V (main_v56 : DevRef τ sig) = r56 (V (main_v52 : DevRef τ sig)) := by
  after_results_simp
  rfl

end Cert.ReferenceIdeal.Ops

end
-- ==== Proof.RefTermsB.lean ====
/- What the stages of the reference compute, as functions of what they read: the matching. -/
module

public import proofs.«01_k».proof.Proof.RefOps

@[expose] public section

set_option maxRecDepth 16384

noncomputable section

namespace Cert.ReferenceIdeal.Ops

open Idealize.ShloMosaic Idealize.ShloMosaic.TcCoe Idealize.SL.Sem
open Idealize.ShloMosaic.StableHlo (after seq seq_append)

open Facts₀ Facts

variable {F : FTy → Type} [FloatOps F]

/-- The reference's value v69 (stage E). -/
def r69 (v52 : FVec F S8x100x20000 .f32) (v54 : IVec S8x20000 32) (v53 : FVec F S8x20000 .f32) (v56 : IVec S8x20000 1) : IVec S8x20000 32 :=
  let cst_2 : FVec F S_ .f32 := constant S_ .f32 0x3ECCCCCD#32
  let v57 : FVec F S8x20000 .f32 := (broadcastInDim S8x20000 ![] bcast_S_S8x20000) cst_2
  let v58 : IVec S8x20000 1 := (cmpf .oge) v53 v57
  let cst_3 : FVec F S_ .f32 := constant S_ .f32 0x3F000000#32
  let v59 : FVec F S8x20000 .f32 := (broadcastInDim S8x20000 ![] bcast_S_S8x20000) cst_3
  let v60 : IVec S8x20000 1 := (cmpf .olt) v53 v59
  let v61 : IVec S8x20000 1 := andi v58 v60
  let c : IVec S_ 32 := constantI S_ 32 4294967295#32
  let call2_v0 : IVec S20000 32 := (broadcastInDim S20000 ![] bcast_S_S20000) c
  let call2_v1 : IVec S8x20000 32 := (broadcastInDim S8x20000 ![1] bcast_S20000_S8x20000_1) call2_v0
  let v62 : IVec S8x20000 32 := select v56 call2_v1 v54
  let c_4 : IVec S_ 32 := constantI S_ 32 4294967294#32
  let call3_v0 : IVec S20000 32 := (broadcastInDim S20000 ![] bcast_S_S20000) c_4
  let call3_v1 : IVec S8x20000 32 := (broadcastInDim S8x20000 ![1] bcast_S20000_S8x20000_1) call3_v0
  let v63 : IVec S8x20000 32 := select v61 call3_v1 v62
  let cst_5 : FVec F S_ .f32 := constant S_ .f32 0xFF800000#32
  let v64 : FVec F S8x100 .f32 := (fun x v => Host.reduce FloatOps.maximumf x v reducesTo_S8x100x20000_S8x100_d2 h_S_) v52 cst_5
  let v65 : FVec F S8x100x1 .f32 := (broadcastInDim S8x100x1 ![0, 1] bcast_S8x100_S8x100x1_0_1) v64
  let v66 : FVec F S8x100x20000 .f32 := (broadcastInDim S8x100x20000 ![0, 1, 2] bcast_S8x100x1_S8x100x20000_0_1_2) v65
  let v67 : IVec S8x100x20000 1 := (cmpf .oeq) v52 v66
  let c_6 : IVec S_ 1 := constantI S_ 1 0#1
  let v68 : IVec S8x20000 1 := (fun x v => Host.reduce IntOp.ori x v reducesTo_S8x100x20000_S8x20000_d1 h_S_) v67 c_6
  select v68 v54 v63

theorem afterE_v69 (V : Valuation τ sig (Elt F)) :
    after opsE V (main_v69 : DevRef τ sig) = r69 (V (main_v52 : DevRef τ sig)) (V (main_v54 : DevRef τ sig)) (V (main_v53 : DevRef τ sig)) (V (main_v56 : DevRef τ sig)) := by
  after_results_simp
  rfl

/-- The reference's value v71 (stage F). -/
def r71 (v69 : IVec S8x20000 32) : IVec S8x20000 1 :=
  let c_7 : IVec S_ 32 := constantI S_ 32 0#32
  let v70 : IVec S8x20000 32 := (broadcastInDim S8x20000 ![] bcast_S_S8x20000) c_7
  (cmpi .sge) v69 v70

theorem afterF_v71 (V : Valuation τ sig (Elt F)) :
    after opsF V (main_v71 : DevRef τ sig) = r71 (V (main_v69 : DevRef τ sig)) := by
  after_results_simp
  rfl

/-- The reference's value v77 (stage F). -/
def r77 (v69 : IVec S8x20000 32) : IVec S8x20000 32 :=
  let c_8 : IVec S_ 32 := constantI S_ 32 0#32
  let call5_v0 : IVec S_ 32 := id c_8
  let call5_v1 : IVec S8x20000 32 := (broadcastInDim S8x20000 ![] bcast_S_S8x20000) call5_v0
  let v72 : IVec S8x20000 32 := maxsi call5_v1 v69
  let c_9 : IVec S_ 32 := constantI S_ 32 0#32
  let v73 : IVec S8x20000 32 := (broadcastInDim S8x20000 ![] bcast_S_S8x20000) c_9
  let v74 : IVec S8x20000 1 := (cmpi .slt) v72 v73
  let c_10 : IVec S_ 32 := constantI S_ 32 100#32
  let v75 : IVec S8x20000 32 := (broadcastInDim S8x20000 ![] bcast_S_S8x20000) c_10
  let v76 : IVec S8x20000 32 := addi v72 v75
  select v74 v76 v72

theorem afterF_v77 (V : Valuation τ sig (Elt F)) :
    after opsF V (main_v77 : DevRef τ sig) = r77 (V (main_v69 : DevRef τ sig)) := by
  after_results_simp
  rfl

/-- The reference's value v79 (stage G). -/
def r79 (arg0 : FVec F S8x100x4 .f32) (v77 : IVec S8x20000 32) : FVec F S8x20000x4 .f32 :=
  let v78 : IVec S8x20000x1 32 := (broadcastInDim S8x20000x1 ![0, 1] bcast_S8x20000_S8x20000x1_0_1) v77
  (fun x i => Host.gather gather_S8x100x4_S8x20000x1_S8x20000x4_2_1_0_0_1_2_114 x i) arg0 v78

theorem afterG_v79 (V : Valuation τ sig (Elt F)) :
    after opsG V (main_v79 : DevRef τ sig) = r79 (V (main_arg0 : DevRef τ sig)) (V (main_v77 : DevRef τ sig)) := by
  after_results_simp
  rfl

/-- The reference's value v84 (stage G). -/
def r84 (arg2 : FVec F S20000x4 .f32) : FVec F S20000 .f32 :=
  let v80 : FVec F S20000x1 .f32 := (extractStridedSlice S20000x1 ![0, 2] · slices_S20000x4_S20000x1_0_2) arg2
  let v81 : FVec F S20000 .f32 := shapeCast S20000 v80 shapeCasts_S20000x1_S20000
  let v82 : FVec F S20000x1 .f32 := (extractStridedSlice S20000x1 ![0, 0] · slices_S20000x4_S20000x1_0_0) arg2
  let v83 : FVec F S20000 .f32 := shapeCast S20000 v82 shapeCasts_S20000x1_S20000
  subf v81 v83

theorem afterG_v84 (V : Valuation τ sig (Elt F)) :
    after opsG V (main_v84 : DevRef τ sig) = r84 (V (main_arg2 : DevRef τ sig)) := by
  after_results_simp
  rfl

/-- The reference's value v89 (stage G). -/
def r89 (arg2 : FVec F S20000x4 .f32) : FVec F S20000 .f32 :=
  let v85 : FVec F S20000x1 .f32 := (extractStridedSlice S20000x1 ![0, 3] · slices_S20000x4_S20000x1_0_3) arg2
  let v86 : FVec F S20000 .f32 := shapeCast S20000 v85 shapeCasts_S20000x1_S20000
  let v87 : FVec F S20000x1 .f32 := (extractStridedSlice S20000x1 ![0, 1] · slices_S20000x4_S20000x1_0_1) arg2
  let v88 : FVec F S20000 .f32 := shapeCast S20000 v87 shapeCasts_S20000x1_S20000
  subf v86 v88

theorem afterG_v89 (V : Valuation τ sig (Elt F)) :
    after opsG V (main_v89 : DevRef τ sig) = r89 (V (main_arg2 : DevRef τ sig)) := by
  after_results_simp
  rfl

/-- The reference's value v94 (stage G). -/
def r94 (arg2 : FVec F S20000x4 .f32) : FVec F S20000 .f32 :=
  let v80 : FVec F S20000x1 .f32 := (extractStridedSlice S20000x1 ![0, 2] · slices_S20000x4_S20000x1_0_2) arg2
  let v81 : FVec F S20000 .f32 := shapeCast S20000 v80 shapeCasts_S20000x1_S20000
  let v82 : FVec F S20000x1 .f32 := (extractStridedSlice S20000x1 ![0, 0] · slices_S20000x4_S20000x1_0_0) arg2
  let v83 : FVec F S20000 .f32 := shapeCast S20000 v82 shapeCasts_S20000x1_S20000
  let v84 : FVec F S20000 .f32 := subf v81 v83
  let v90 : FVec F S20000x1 .f32 := (extractStridedSlice S20000x1 ![0, 0] · slices_S20000x4_S20000x1_0_0) arg2
  let v91 : FVec F S20000 .f32 := shapeCast S20000 v90 shapeCasts_S20000x1_S20000
  let cst_11 : FVec F S_ .f32 := constant S_ .f32 0x3F000000#32
  let v92 : FVec F S20000 .f32 := (broadcastInDim S20000 ![] bcast_S_S20000) cst_11
  let v93 : FVec F S20000 .f32 := mulf v92 v84
  addf v91 v93

theorem afterG_v94 (V : Valuation τ sig (Elt F)) :
    after opsG V (main_v94 : DevRef τ sig) = r94 (V (main_arg2 : DevRef τ sig)) := by
  after_results_simp
  rfl

/-- The reference's value v99 (stage G). -/
def r99 (arg2 : FVec F S20000x4 .f32) : FVec F S20000 .f32 :=
  let v85 : FVec F S20000x1 .f32 := (extractStridedSlice S20000x1 ![0, 3] · slices_S20000x4_S20000x1_0_3) arg2
  let v86 : FVec F S20000 .f32 := shapeCast S20000 v85 shapeCasts_S20000x1_S20000
  let v87 : FVec F S20000x1 .f32 := (extractStridedSlice S20000x1 ![0, 1] · slices_S20000x4_S20000x1_0_1) arg2
  let v88 : FVec F S20000 .f32 := shapeCast S20000 v87 shapeCasts_S20000x1_S20000
  let v89 : FVec F S20000 .f32 := subf v86 v88
  let v95 : FVec F S20000x1 .f32 := (extractStridedSlice S20000x1 ![0, 1] · slices_S20000x4_S20000x1_0_1) arg2
  let v96 : FVec F S20000 .f32 := shapeCast S20000 v95 shapeCasts_S20000x1_S20000
  let cst_12 : FVec F S_ .f32 := constant S_ .f32 0x3F000000#32
  let v97 : FVec F S20000 .f32 := (broadcastInDim S20000 ![] bcast_S_S20000) cst_12
  let v98 : FVec F S20000 .f32 := mulf v97 v89
  addf v96 v98

theorem afterG_v99 (V : Valuation τ sig (Elt F)) :
    after opsG V (main_v99 : DevRef τ sig) = r99 (V (main_arg2 : DevRef τ sig)) := by
  after_results_simp
  rfl

/-- The reference's value v104 (stage G). -/
def r104 (arg0 : FVec F S8x100x4 .f32) (v77 : IVec S8x20000 32) : FVec F S8x20000 .f32 :=
  let v78 : IVec S8x20000x1 32 := (broadcastInDim S8x20000x1 ![0, 1] bcast_S8x20000_S8x20000x1_0_1) v77
  let v79 : FVec F S8x20000x4 .f32 := (fun x i => Host.gather gather_S8x100x4_S8x20000x1_S8x20000x4_2_1_0_0_1_2_114 x i) arg0 v78
  let v100 : FVec F S8x20000x1 .f32 := (extractStridedSlice S8x20000x1 ![0, 0, 2] · slices_S8x20000x4_S8x20000x1_0_0_2) v79
  let v101 : FVec F S8x20000 .f32 := shapeCast S8x20000 v100 shapeCasts_S8x20000x1_S8x20000
  let v102 : FVec F S8x20000x1 .f32 := (extractStridedSlice S8x20000x1 ![0, 0, 0] · slices_S8x20000x4_S8x20000x1_0_0_0) v79
  let v103 : FVec F S8x20000 .f32 := shapeCast S8x20000 v102 shapeCasts_S8x20000x1_S8x20000
  subf v101 v103

theorem afterG_v104 (V : Valuation τ sig (Elt F)) :
    after opsG V (main_v104 : DevRef τ sig) = r104 (V (main_arg0 : DevRef τ sig)) (V (main_v77 : DevRef τ sig)) := by
  after_results_simp
  rfl

end Cert.ReferenceIdeal.Ops

end
-- ==== Proof.RefPick.lean ====
/- The reference's index of the best box, read as the first best box, and its gather of that box's corners. -/
module

public import proofs.«01_k».proof.Proof.RefTermsA
public import proofs.«01_k».proof.Proof.RefTermsB
public import proofs.«01_k».proof.Proof.Padding

@[expose] public section

set_option maxRecDepth 16384

noncomputable section

namespace Cert.ReferenceIdeal.Ops

open Idealize.ShloMosaic Idealize.ShloMosaic.TcCoe Idealize.ShloMosaic.Tactic
open Facts₀ Facts

/-- A pair beats another when its value is larger, or equal with a smaller index. -/
def Beats (p q : EReal × BitVec 32) : Prop := q.1 < p.1 ∨ (p.1 = q.1 ∧ p.2.toInt < q.2.toInt)

open Classical in
/-- The reducer keeps the pair that beats the other. -/
theorem reducer_eq (p q : EReal × BitVec 32) :
    reducer_argmax_f32_i32 (F := Ideal) p q = if Beats p q then p else q := by
  obtain ⟨v, i⟩ := p
  obtain ⟨w, j⟩ := q
  unfold reducer_argmax_f32_i32 Beats
  simp only [Ideal.cmpf_def, Ideal.cmp, IntOp.cmpi, IntOp.ori, IntOp.andi, Scalar.select]
  rcases lt_trichotomy v w with h | h | h
  · simp [h, h.ne, not_lt.mpr h.le]
  · subst h
    by_cases hij : i.toInt < j.toInt <;> simp [hij, BitVec.slt]
  · simp [h, h.ne']

theorem Beats.asymm {p q : EReal × BitVec 32} (h : Beats p q) : ¬ Beats q p := by
  rintro (h' | ⟨e', h'⟩) <;> rcases h with h | ⟨e, h⟩
  · exact lt_asymm h h'
  · exact h'.ne e
  · exact h.ne e'
  · exact lt_asymm h h'

/-- A fold that keeps the better pair ends at a pair of the list that beats every other. -/
theorem foldl_best (t : EReal × BitVec 32) (L : List (EReal × BitVec 32)) (p : EReal × BitVec 32)
    (hL : ∀ q ∈ L, q = t ∨ Beats t q) (hp : p = t ∨ Beats t p) (hm : p = t ∨ t ∈ L) :
    L.foldl (reducer_argmax_f32_i32 (F := Ideal)) p = t := by
  induction L generalizing p with
  | nil =>
    rcases hm with h | h
    · exact h
    · exact absurd h List.not_mem_nil
  | cons q L ih =>
    rw [List.foldl_cons, reducer_eq]
    have hq := hL q List.mem_cons_self
    have hL' : ∀ r ∈ L, r = t ∨ Beats t r := fun r hr => hL r (List.mem_cons_of_mem _ hr)
    by_cases hb : Beats p q
    · rw [if_pos hb]
      refine ih p hL' hp ?_
      rcases hp with h | h
      · exact .inl h
      · rcases hm with h' | h'
        · exact .inl h'
        · rcases List.mem_cons.mp h' with h'' | h''
          · exact absurd (h'' ▸ hb) h.asymm
          · exact .inr h''
    · rw [if_neg hb]
      refine ih q hL' hq ?_
      rcases hq with h | h
      · exact .inl h
      · rcases hm with h' | h'
        · exact absurd (h' ▸ h) hb
        · rcases List.mem_cons.mp h' with h'' | h''
          · exact .inl h''.symm
          · exact .inr h''

/-- A small number's word read signed. -/
theorem toInt_small (k : ℕ) (h : k < 104) : (BitVec.ofNat 32 k).toInt = k := by
  rw [BitVec.toInt_eq_toNat_of_lt] <;> rw [BitVec.toNat_ofNat] <;> omega

/-- The pair the reference's search ends at: the largest ratio of an anchor and the first box reaching it. -/
theorem argmax_at (v52 : FVec Ideal S8x100x20000 .f32) (b : Fin 8) (n : Fin 20000) (k : Fin 100)
    (hk : Spec.IsBest (fun k n => v52 (ix3 b k n)) n k) (h0 : 0 ≤ Spec.colMax (fun k n => v52 (ix3 b k n)) n) :
    Host.argReduce (reducer_argmax_f32_i32 (F := Ideal)) v52 (iotaInDim S8x100x20000 32 1) (constant S_ .f32 0xFF800000#32)
      (constantI S_ 32 0#32) reducesTo_S8x100x20000_S8x20000_d1 h_S_ (ix2 b n) = (v52 (ix3 b k n), BitVec.ofNat 32 k.val) := by
  rw [Ideal.argReduce_eq_reduce2, Host.reduce2_eq_foldl_fiber]
  have hdrop : ∀ i : S8x100x20000.Idx, reducesTo_S8x100x20000_S8x20000_d1.drop i = ix2 b n →
      ∃ k : Fin 100, i = ix3 b k n := by
    intro i hi
    refine ⟨i 1, ?_⟩
    have e0 : (reducesTo_S8x100x20000_S8x20000_d1.drop i 0 : Nat) = i 0 := Shape.ReducesTo.drop_apply_val_of_eq _ i 0 0
    have e1 : (reducesTo_S8x100x20000_S8x20000_d1.drop i 1 : Nat) = i 2 := Shape.ReducesTo.drop_apply_val_of_eq _ i 1 2
    rw [hi] at e0 e1
    funext a
    apply Fin.ext
    match a with
    | ⟨0, _⟩ => exact e0.symm
    | ⟨1, _⟩ => rfl
    | ⟨2, _⟩ => exact e1.symm
  have hdrop' : ∀ k : Fin 100, reducesTo_S8x100x20000_S8x20000_d1.drop (ix3 b k n : S8x100x20000.Idx) = ix2 b n := by
    intro k
    funext a
    apply Fin.ext
    have e0 : (reducesTo_S8x100x20000_S8x20000_d1.drop (ix3 b k n : S8x100x20000.Idx) 0 : Nat) = _ :=
      Shape.ReducesTo.drop_apply_val_of_eq _ _ 0 0
    have e1 : (reducesTo_S8x100x20000_S8x20000_d1.drop (ix3 b k n : S8x100x20000.Idx) 1 : Nat) = _ :=
      Shape.ReducesTo.drop_apply_val_of_eq _ _ 1 2
    match a with
    | ⟨0, _⟩ => exact e0
    | ⟨1, _⟩ => exact e1
  have hi : ∀ k : Fin 100, (BitVec.ofNat 32 k.val).toInt = k.val := by
    intro k
    exact toInt_small k.val (by omega)
  have hbot : (constant S_ .f32 0xFF800000#32 : FVec Ideal S_ .f32) (Shape.Idx.first h_S_) = (⊥ : EReal) := by
    show Ideal.ofBits .f32 0xFF800000#32 = ⊥
    simp [Ideal.ofBits, Ideal.ieee]
  rw [hbot]
  apply foldl_best (v52 (ix3 b k n), BitVec.ofNat 32 k.val)
  · intro q hq
    obtain ⟨p, hp, rfl⟩ := List.mem_map.mp hq
    have hd := of_decide_eq_true (List.mem_filter.mp hp).2
    obtain ⟨j, hj⟩ := hdrop _ hd
    rw [hj]
    show (v52 (ix3 b j n), BitVec.ofNat 32 j.val) = _ ∨ _
    rcases lt_or_eq_of_le (Finset.le_sup (f := fun k => v52 (ix3 b k n)) (Finset.mem_univ j)) with hlt | heq
    · exact .inr (.inl (lt_of_lt_of_eq hlt hk.1.symm))
    · rcases lt_trichotomy k j with h | h | h
      · refine .inr (.inr ⟨hk.1.trans heq.symm, ?_⟩)
        show (BitVec.ofNat 32 k.val).toInt < (BitVec.ofNat 32 j.val).toInt
        rw [hi, hi]
        exact_mod_cast h
      · exact .inl (by rw [h])
      · exact absurd heq (hk.2 j h)
  · refine .inr (.inl ?_)
    show ⊥ < v52 (ix3 b k n)
    exact lt_of_lt_of_eq (lt_of_lt_of_le (by simp) h0) hk.1.symm
  · refine .inr (List.mem_map.mpr ⟨S8x100x20000.rowMajor (ix3 b k n), ?_, ?_⟩)
    · refine List.mem_filter.mpr ⟨List.mem_finRange _, ?_⟩
      rw [Equiv.symm_apply_apply]
      exact decide_eq_true (hdrop' k)
    · rw [Equiv.symm_apply_apply]
      rfl

/-- The index of the best box of an anchor is that of the first box reaching the largest ratio. -/
theorem r54_at (v52 : FVec Ideal S8x100x20000 .f32) (b : Fin 8) (n : Fin 20000) (k : Fin 100)
    (hk : Spec.IsBest (fun k n => v52 (ix3 b k n)) n k) (h0 : 0 ≤ Spec.colMax (fun k n => v52 (ix3 b k n)) n) :
    r54 (F := Ideal) v52 (ix2 b n) = BitVec.ofNat 32 k.val := by
  unfold r54
  exact seconds_at (argmax_at v52 b n k hk h0)

end Cert.ReferenceIdeal.Ops
-- ==== Proof.RefGather.lean ====
/- The reference's gather of the corners of the box whose number an index word holds. -/
module

public import proofs.«01_k».proof.Proof.RefTermsA
public import proofs.«01_k».proof.Proof.RefTermsB
public import proofs.«01_k».proof.Proof.RefPick

@[expose] public section

set_option maxRecDepth 16384

noncomputable section

namespace Cert.ReferenceIdeal.Ops

open Idealize.ShloMosaic Idealize.ShloMosaic.TcCoe Idealize.ShloMosaic.Tactic
open Facts₀ Facts

/-- The gathered corner of an anchor whose index word is a box number. -/
theorem r79_at (A : FVec Ideal S8x100x4 .f32) (v77 : IVec S8x20000 32) (b : Fin 8) (n : Fin 20000) (j : Fin 4) (k : Fin 100)
    (hk : v77 (ix2 b n) = BitVec.ofNat 32 k.val) : r79 (F := Ideal) A v77 (ix3 b n j) = A (ix3 b k j) := by
  have e : r79 (F := Ideal) A v77 (ix3 b n j) = A (GatherDims.operandIdx gather_S8x100x4_S8x20000x1_S8x20000x4_2_1_0_0_1_2_114 (ix3 b n j)
    (broadcastInDim S8x20000x1 ![0, 1] bcast_S8x20000_S8x20000x1_0_1 v77)) := rfl
  rw [e]
  have hw : (broadcastInDim S8x20000x1 ![0, 1] bcast_S8x20000_S8x20000x1_0_1 v77) (ix3 b n 0) = BitVec.ofNat 32 k.val := by
    pointwise
    exact hk
  have a0 : (GatherDims.operandIdx gather_S8x100x4_S8x20000x1_S8x20000x4_2_1_0_0_1_2_114 (ix3 b n j)
    (broadcastInDim S8x20000x1 ![0, 1] bcast_S8x20000_S8x20000x1_0_1 v77) 0).val = b.val := by
    show GatherDims.start gather_S8x100x4_S8x20000x1_S8x20000x4_2_1_0_0_1_2_114 (ix3 b n j) _ 0 + GatherDims.batchCoord _ (ix3 b n j) 0 + GatherDims.offCoord _ (ix3 b n j) 0 = b.val
    rw [GatherDims.start_batching _ _ _ _ (by decide), GatherDims.offCoord_eq_zero _ _ _ (by decide)]
    unfold GatherDims.batchCoord
    rw [dif_pos (by decide)]
    unfold GatherDims.siCoord
    simp only [Fin.val_cast]
    rw [Nat.zero_add, Nat.add_zero]
    rfl
  have a1 : (GatherDims.operandIdx gather_S8x100x4_S8x20000x1_S8x20000x4_2_1_0_0_1_2_114 (ix3 b n j)
    (broadcastInDim S8x20000x1 ![0, 1] bcast_S8x20000_S8x20000x1_0_1 v77) 1).val = k.val := by
    show GatherDims.start gather_S8x100x4_S8x20000x1_S8x20000x4_2_1_0_0_1_2_114 (ix3 b n j) _ 1 + GatherDims.batchCoord _ (ix3 b n j) 1 + GatherDims.offCoord _ (ix3 b n j) 1 = k.val
    rw [GatherDims.batchCoord_eq_zero _ _ _ (by decide), GatherDims.offCoord_eq_zero _ _ _ (by decide)]
    unfold GatherDims.start
    rw [dif_pos (by decide)]
    have hsi : ∀ c, GatherDims.siIdx gather_S8x100x4_S8x20000x1_S8x20000x4_2_1_0_0_1_2_114 (ix3 b n j) c = ix3 b n 0 := by
      intro c
      funext x
      apply Fin.ext
      match x with
      | ⟨0, _⟩ => rfl
      | ⟨1, _⟩ => rfl
      | ⟨2, _⟩ =>
        show c.val = 0
        have : c.val < 1 := c.isLt
        omega
    rw [hsi, hw, toInt_small k.val (by omega)]
    show min k.val (100 - 1) + 0 + 0 = k.val
    omega
  have a2 : (GatherDims.operandIdx gather_S8x100x4_S8x20000x1_S8x20000x4_2_1_0_0_1_2_114 (ix3 b n j)
    (broadcastInDim S8x20000x1 ![0, 1] bcast_S8x20000_S8x20000x1_0_1 v77) 2).val = j.val := by
    show GatherDims.start gather_S8x100x4_S8x20000x1_S8x20000x4_2_1_0_0_1_2_114 (ix3 b n j) _ 2 + GatherDims.batchCoord _ (ix3 b n j) 2 + GatherDims.offCoord _ (ix3 b n j) 2 = j.val
    rw [GatherDims.batchCoord_eq_zero _ _ _ (by decide)]
    unfold GatherDims.start
    rw [dif_neg (by decide)]
    unfold GatherDims.offCoord
    rw [dif_pos (by decide), Nat.zero_add]
    rfl
  refine congrArg A (funext fun a => Fin.ext ?_)
  match a with
  | ⟨0, _⟩ => exact a0
  | ⟨1, _⟩ => exact a1
  | ⟨2, _⟩ => exact a2

end Cert.ReferenceIdeal.Ops
-- ==== Proof.RefTermsC.lean ====
/- What the stages of the reference compute, as functions of what they read: the targets and the mean. -/
module

public import proofs.«01_k».proof.Proof.RefOps

@[expose] public section

set_option maxRecDepth 16384

noncomputable section

namespace Cert.ReferenceIdeal.Ops

open Idealize.ShloMosaic Idealize.ShloMosaic.TcCoe Idealize.SL.Sem
open Idealize.ShloMosaic.StableHlo (after seq seq_append)

open Facts₀ Facts

variable {F : FTy → Type} [FloatOps F]

/-- The reference's value v109 (stage H). -/
def r109 (v79 : FVec F S8x20000x4 .f32) : FVec F S8x20000 .f32 :=
  let v105 : FVec F S8x20000x1 .f32 := (extractStridedSlice S8x20000x1 ![0, 0, 3] · slices_S8x20000x4_S8x20000x1_0_0_3) v79
  let v106 : FVec F S8x20000 .f32 := shapeCast S8x20000 v105 shapeCasts_S8x20000x1_S8x20000
  let v107 : FVec F S8x20000x1 .f32 := (extractStridedSlice S8x20000x1 ![0, 0, 1] · slices_S8x20000x4_S8x20000x1_0_0_1) v79
  let v108 : FVec F S8x20000 .f32 := shapeCast S8x20000 v107 shapeCasts_S8x20000x1_S8x20000
  subf v106 v108

theorem afterH_v109 (V : Valuation τ sig (Elt F)) :
    after opsH V (main_v109 : DevRef τ sig) = r109 (V (main_v79 : DevRef τ sig)) := by
  after_results_simp
  rfl

/-- The reference's value v114 (stage H). -/
def r114 (v79 : FVec F S8x20000x4 .f32) (v104 : FVec F S8x20000 .f32) : FVec F S8x20000 .f32 :=
  let v110 : FVec F S8x20000x1 .f32 := (extractStridedSlice S8x20000x1 ![0, 0, 0] · slices_S8x20000x4_S8x20000x1_0_0_0) v79
  let v111 : FVec F S8x20000 .f32 := shapeCast S8x20000 v110 shapeCasts_S8x20000x1_S8x20000
  let cst_13 : FVec F S_ .f32 := constant S_ .f32 0x3F000000#32
  let v112 : FVec F S8x20000 .f32 := (broadcastInDim S8x20000 ![] bcast_S_S8x20000) cst_13
  let v113 : FVec F S8x20000 .f32 := mulf v112 v104
  addf v111 v113

theorem afterH_v114 (V : Valuation τ sig (Elt F)) :
    after opsH V (main_v114 : DevRef τ sig) = r114 (V (main_v79 : DevRef τ sig)) (V (main_v104 : DevRef τ sig)) := by
  after_results_simp
  rfl

/-- The reference's value v119 (stage H). -/
def r119 (v79 : FVec F S8x20000x4 .f32) : FVec F S8x20000 .f32 :=
  let v105 : FVec F S8x20000x1 .f32 := (extractStridedSlice S8x20000x1 ![0, 0, 3] · slices_S8x20000x4_S8x20000x1_0_0_3) v79
  let v106 : FVec F S8x20000 .f32 := shapeCast S8x20000 v105 shapeCasts_S8x20000x1_S8x20000
  let v107 : FVec F S8x20000x1 .f32 := (extractStridedSlice S8x20000x1 ![0, 0, 1] · slices_S8x20000x4_S8x20000x1_0_0_1) v79
  let v108 : FVec F S8x20000 .f32 := shapeCast S8x20000 v107 shapeCasts_S8x20000x1_S8x20000
  let v109 : FVec F S8x20000 .f32 := subf v106 v108
  let v115 : FVec F S8x20000x1 .f32 := (extractStridedSlice S8x20000x1 ![0, 0, 1] · slices_S8x20000x4_S8x20000x1_0_0_1) v79
  let v116 : FVec F S8x20000 .f32 := shapeCast S8x20000 v115 shapeCasts_S8x20000x1_S8x20000
  let cst_14 : FVec F S_ .f32 := constant S_ .f32 0x3F000000#32
  let v117 : FVec F S8x20000 .f32 := (broadcastInDim S8x20000 ![] bcast_S_S8x20000) cst_14
  let v118 : FVec F S8x20000 .f32 := mulf v117 v109
  addf v116 v118

theorem afterH_v119 (V : Valuation τ sig (Elt F)) :
    after opsH V (main_v119 : DevRef τ sig) = r119 (V (main_v79 : DevRef τ sig)) := by
  after_results_simp
  rfl

/-- The reference's value v127 (stage I). -/
def r127 (v114 : FVec F S8x20000 .f32) (v94 : FVec F S20000 .f32) (v84 : FVec F S20000 .f32) : FVec F S8x20000 .f32 :=
  let v120 : FVec F S1x20000 .f32 := (broadcastInDim S1x20000 ![1] bcast_S20000_S1x20000_1) v94
  let v121 : FVec F S8x20000 .f32 := (broadcastInDim S8x20000 ![0, 1] bcast_S1x20000_S8x20000_0_1) v120
  let v122 : FVec F S8x20000 .f32 := subf v114 v121
  let cst_15 : FVec F S_ .f32 := constant S_ .f32 0x3F800000#32
  let v123 : FVec F S8x20000 .f32 := (broadcastInDim S8x20000 ![] bcast_S_S8x20000) cst_15
  let v124 : FVec F S8x20000 .f32 := mulf v123 v122
  let v125 : FVec F S1x20000 .f32 := (broadcastInDim S1x20000 ![1] bcast_S20000_S1x20000_1) v84
  let v126 : FVec F S8x20000 .f32 := (broadcastInDim S8x20000 ![0, 1] bcast_S1x20000_S8x20000_0_1) v125
  Host.divf v124 v126

theorem afterI_v127 (V : Valuation τ sig (Elt F)) :
    after opsI V (main_v127 : DevRef τ sig) = r127 (V (main_v114 : DevRef τ sig)) (V (main_v94 : DevRef τ sig)) (V (main_v84 : DevRef τ sig)) := by
  after_results_simp
  rfl

/-- The reference's value v135 (stage I). -/
def r135 (v119 : FVec F S8x20000 .f32) (v99 : FVec F S20000 .f32) (v89 : FVec F S20000 .f32) : FVec F S8x20000 .f32 :=
  let v128 : FVec F S1x20000 .f32 := (broadcastInDim S1x20000 ![1] bcast_S20000_S1x20000_1) v99
  let v129 : FVec F S8x20000 .f32 := (broadcastInDim S8x20000 ![0, 1] bcast_S1x20000_S8x20000_0_1) v128
  let v130 : FVec F S8x20000 .f32 := subf v119 v129
  let cst_16 : FVec F S_ .f32 := constant S_ .f32 0x3F800000#32
  let v131 : FVec F S8x20000 .f32 := (broadcastInDim S8x20000 ![] bcast_S_S8x20000) cst_16
  let v132 : FVec F S8x20000 .f32 := mulf v131 v130
  let v133 : FVec F S1x20000 .f32 := (broadcastInDim S1x20000 ![1] bcast_S20000_S1x20000_1) v89
  let v134 : FVec F S8x20000 .f32 := (broadcastInDim S8x20000 ![0, 1] bcast_S1x20000_S8x20000_0_1) v133
  Host.divf v132 v134

theorem afterI_v135 (V : Valuation τ sig (Elt F)) :
    after opsI V (main_v135 : DevRef τ sig) = r135 (V (main_v119 : DevRef τ sig)) (V (main_v99 : DevRef τ sig)) (V (main_v89 : DevRef τ sig)) := by
  after_results_simp
  rfl

/-- The reference's value v141 (stage I). -/
def r141 (v104 : FVec F S8x20000 .f32) (v84 : FVec F S20000 .f32) : FVec F S8x20000 .f32 :=
  let v136 : FVec F S1x20000 .f32 := (broadcastInDim S1x20000 ![1] bcast_S20000_S1x20000_1) v84
  let v137 : FVec F S8x20000 .f32 := (broadcastInDim S8x20000 ![0, 1] bcast_S1x20000_S8x20000_0_1) v136
  let v138 : FVec F S8x20000 .f32 := Host.divf v104 v137
  let v139 : FVec F S8x20000 .f32 := Host.log v138
  let cst_17 : FVec F S_ .f32 := constant S_ .f32 0x3F800000#32
  let v140 : FVec F S8x20000 .f32 := (broadcastInDim S8x20000 ![] bcast_S_S8x20000) cst_17
  mulf v140 v139

theorem afterI_v141 (V : Valuation τ sig (Elt F)) :
    after opsI V (main_v141 : DevRef τ sig) = r141 (V (main_v104 : DevRef τ sig)) (V (main_v84 : DevRef τ sig)) := by
  after_results_simp
  rfl

/-- The reference's value v147 (stage I). -/
def r147 (v109 : FVec F S8x20000 .f32) (v89 : FVec F S20000 .f32) : FVec F S8x20000 .f32 :=
  let v142 : FVec F S1x20000 .f32 := (broadcastInDim S1x20000 ![1] bcast_S20000_S1x20000_1) v89
  let v143 : FVec F S8x20000 .f32 := (broadcastInDim S8x20000 ![0, 1] bcast_S1x20000_S8x20000_0_1) v142
  let v144 : FVec F S8x20000 .f32 := Host.divf v109 v143
  let v145 : FVec F S8x20000 .f32 := Host.log v144
  let cst_18 : FVec F S_ .f32 := constant S_ .f32 0x3F800000#32
  let v146 : FVec F S8x20000 .f32 := (broadcastInDim S8x20000 ![] bcast_S_S8x20000) cst_18
  mulf v146 v145

theorem afterI_v147 (V : Valuation τ sig (Elt F)) :
    after opsI V (main_v147 : DevRef τ sig) = r147 (V (main_v109 : DevRef τ sig)) (V (main_v89 : DevRef τ sig)) := by
  after_results_simp
  rfl

/-- The reference's value v152 (stage J). -/
def r152 (v127 : FVec F S8x20000 .f32) (v135 : FVec F S8x20000 .f32) (v141 : FVec F S8x20000 .f32) (v147 : FVec F S8x20000 .f32) : FVec F S8x20000x4 .f32 :=
  let v148 : FVec F S8x20000x1 .f32 := (broadcastInDim S8x20000x1 ![0, 1] bcast_S8x20000_S8x20000x1_0_1) v127
  let v149 : FVec F S8x20000x1 .f32 := (broadcastInDim S8x20000x1 ![0, 1] bcast_S8x20000_S8x20000x1_0_1) v135
  let v150 : FVec F S8x20000x1 .f32 := (broadcastInDim S8x20000x1 ![0, 1] bcast_S8x20000_S8x20000x1_0_1) v141
  let v151 : FVec F S8x20000x1 .f32 := (broadcastInDim S8x20000x1 ![0, 1] bcast_S8x20000_S8x20000x1_0_1) v147
  concatenate S8x20000x4 2 [⟨S8x20000x1, v148⟩, ⟨S8x20000x1, v149⟩, ⟨S8x20000x1, v150⟩, ⟨S8x20000x1, v151⟩] concatenates_S8x20000x1_S8x20000x1_S8x20000x1_S8x20000x1_S8x20000x4_d2

theorem afterJ_v152 (V : Valuation τ sig (Elt F)) :
    after opsJ V (main_v152 : DevRef τ sig) = r152 (V (main_v127 : DevRef τ sig)) (V (main_v135 : DevRef τ sig)) (V (main_v141 : DevRef τ sig)) (V (main_v147 : DevRef τ sig)) := by
  after_results_simp
  rfl

/-- The reference's value v156 (stage K). -/
def r156 (v71 : IVec S8x20000 1) (arg1 : FVec F S8x20000x4 .f32) (v152 : FVec F S8x20000x4 .f32) : FVec F S8x20000x4 .f32 :=
  let v153 : IVec S8x20000x1 1 := (broadcastInDim S8x20000x1 ![0, 1] bcast_S8x20000_S8x20000x1_0_1) v71
  let v154 : FVec F S8x20000x4 .f32 := subf arg1 v152
  let v155 : FVec F S8x20000x4 .f32 := Host.absf v154
  let cst_19 : FVec F S_ .f32 := constant S_ .f32 0x00000000#32
  let call6_v0 : FVec F S_ .f32 := id cst_19
  let call6_v1 : IVec S8x20000x4 1 := (broadcastInDim S8x20000x4 ![0, 1, 2] bcast_S8x20000x1_S8x20000x4_0_1_2) v153
  let call6_v2 : FVec F S20000x4 .f32 := (broadcastInDim S20000x4 ![] bcast_S_S20000x4) call6_v0
  let call6_v3 : FVec F S8x20000x4 .f32 := (broadcastInDim S8x20000x4 ![1, 2] bcast_S20000x4_S8x20000x4_1_2) call6_v2
  select call6_v1 v155 call6_v3

theorem afterK_v156 (V : Valuation τ sig (Elt F)) :
    after opsK V (main_v156 : DevRef τ sig) = r156 (V (main_v71 : DevRef τ sig)) (V (main_arg1 : DevRef τ sig)) (V (main_v152 : DevRef τ sig)) := by
  after_results_simp
  rfl

/-- The reference's value v157 (stage K). -/
def r157 (v71 : IVec S8x20000 1) : IVec S8x20000 32 :=
  (extui 32 · natLt_1_32) v71

theorem afterK_v157 (V : Valuation τ sig (Elt F)) :
    after opsK V (main_v157 : DevRef τ sig) = r157 (V (main_v71 : DevRef τ sig)) := by
  after_results_simp
  rfl

/-- The reference's value v165 (stage L). -/
def r165 (v156 : FVec F S8x20000x4 .f32) (v157 : IVec S8x20000 32) : FVec F S_ .f32 :=
  let c_20 : IVec S_ 32 := constantI S_ 32 0#32
  let v158 : IVec S8 32 := (fun x v => Host.reduce IntOp.addi x v reducesTo_S8x20000_S8_d1 h_S_) v157 c_20
  let cst_21 : FVec F S_ .f32 := constant S_ .f32 0x00000000#32
  let v159 : FVec F S8 .f32 := (fun x v => Host.reduceAdd x v reducesTo_S8x20000x4_S8_d1_2 h_S_) v156 cst_21
  let c_22 : IVec S_ 32 := constantI S_ 32 1#32
  let v160 : IVec S8 32 := (broadcastInDim S8 ![] bcast_S_S8) c_22
  let v161 : IVec S8 32 := maxsi v160 v158
  let v162 : FVec F S8 .f32 := (sitofp .f32) v161
  let v163 : FVec F S8 .f32 := Host.divf v159 v162
  let cst_23 : FVec F S_ .f32 := constant S_ .f32 0x00000000#32
  let v164 : FVec F S_ .f32 := (fun x v => Host.reduceAdd x v reducesTo_S8_S_d0 h_S_) v163 cst_23
  let cst_24 : FVec F S_ .f32 := constant S_ .f32 0x41000000#32
  Host.divf v164 cst_24

theorem afterL_v165 (V : Valuation τ sig (Elt F)) :
    after opsL V (main_v165 : DevRef τ sig) = r165 (V (main_v156 : DevRef τ sig)) (V (main_v157 : DevRef τ sig)) := by
  after_results_simp
  rfl

end Cert.ReferenceIdeal.Ops

end
-- ==== Proof.RefMask.lean ====
/- The reference's overlap ratios, its match word of an anchor, the mask made of it and the count of the mask, read at
   one index. -/
module

public import proofs.«01_k».proof.Proof.RefPick
public import proofs.«01_k».proof.Proof.RefGather
public import proofs.«01_k».proof.Proof.RefTermsC

@[expose] public section

set_option maxRecDepth 16384

noncomputable section

namespace Cert.ReferenceIdeal.Ops

open Idealize.ShloMosaic Idealize.ShloMosaic.TcCoe Idealize.ShloMosaic.Tactic
open Facts₀ Facts

/-- The ratios of image `b`. -/
def refRatio (A0 : FVec Ideal S8x100x4 .f32) (A2 : FVec Ideal S20000x4 .f32) (b : Fin 8) : Fin 100 → Fin 20000 → EReal :=
  fun k n => Spec.ratio (fun j => A0 (ix3 b k j)) (fun j => A2 (ix2 n j))

theorem r52_at (A0 : FVec Ideal S8x100x4 .f32) (A2 : FVec Ideal S20000x4 .f32) (b : Fin 8) (k : Fin 100) (n : Fin 20000) :
    r52 (F := Ideal) (r39 A0 A2) (r10 A0) (r21 A2) (ix3 b k n) = refRatio A0 A2 b k n := by
  have h0 : (id (constant S_ .f32 0x00000000#32 : FVec Ideal S_ .f32)) ix0 = (0 : EReal) := Ideal.ofBits_zero_f32
  unfold r52 r39 r10 r21
  pointwise
  rw [h0, max_comm (0 : EReal), max_comm (0 : EReal)]
  rfl

theorem neg_inf : Ideal.ofBits .f32 0xFF800000#32 = ⊥ := by simp [Ideal.ofBits, Ideal.ieee]

theorem r53_at (v52 : FVec Ideal S8x100x20000 .f32) (b : Fin 8) (n : Fin 20000) :
    r53 (F := Ideal) v52 (ix2 b n) = Spec.colMax (fun k n => v52 (ix3 b k n)) n := by
  unfold r53
  pointwise
  rw [neg_inf]
  rfl

theorem r56_eq (v52 : FVec Ideal S8x100x20000 .f32) : r56 (F := Ideal) v52
    = cmpf .olt (r53 v52) ((broadcastInDim S8x20000 ![] bcast_S_S8x20000) (constant S_ .f32 0x3ECCCCCD#32)) := rfl

theorem lt_at (v : FVec Ideal S8x20000 .f32) (b : Fin 8) (n : Fin 20000) :
    cmpf .olt v ((broadcastInDim S8x20000 ![] bcast_S_S8x20000) (constant S_ .f32 0x3ECCCCCD#32)) (ix2 b n)
      = BitVec.ofBool (decide (v (ix2 b n) < Ideal.ofBits .f32 0x3ECCCCCD#32)) := by
  pointwise

/-- Or-ing the bits of a family tells whether some member holds. -/
theorem fold_or {ι : Type} [DecidableEq ι] (p : ι → Prop) [DecidablePred p] (s : Finset ι) [Decidable (∃ x ∈ s, p x)] :
    s.fold IntOp.ori 0#1 (fun x => BitVec.ofBool (decide (p x))) = BitVec.ofBool (decide (∃ x ∈ s, p x)) := by
  classical
  rw [show BitVec.ofBool (decide (∃ x ∈ s, p x)) = BitVec.ofBool (@decide (∃ x ∈ s, p x) (Classical.propDecidable _)) by congr!]
  clear * -
  induction s using Finset.induction_on with
  | empty => simp
  | insert a s ha ih =>
    rw [Finset.fold_insert ha, ih]
    by_cases h1 : p a <;> by_cases h2 : ∃ x ∈ s, p x <;> simp [h1, h2, IntOp.ori]

theorem low_le_half : Ideal.ofBits .f32 0x3ECCCCCD#32 ≤ Spec.half := by
  unfold Spec.half
  simp [Ideal.ofBits, Ideal.ieee, -EReal.coe_mul]
  norm_num

/-- The match word: the best box when the anchor counts, a negative word when it does not. -/
theorem match_word (any : Prop) [Decidable any] (mv lo hi : EReal) (h : lo ≤ hi) (w : BitVec 32) :
    Scalar.select (BitVec.ofBool (decide any)) w
      (Scalar.select (IntOp.andi (BitVec.ofBool (decide (lo ≤ mv))) (BitVec.ofBool (decide (mv < hi)))) (4294967294#32)
        (Scalar.select (BitVec.ofBool (decide (mv < lo))) (4294967295#32) w))
      = if hi ≤ mv ∨ any then w else if mv < lo then 4294967295#32 else 4294967294#32 := by
  by_cases ha : any
  · simp [ha, Scalar.select]
  · by_cases h1 : hi ≤ mv
    · have h2 : lo ≤ mv := h.trans h1
      simp [ha, h1, h2, not_lt.mpr h1, not_lt.mpr h2, Scalar.select, IntOp.andi]
    · by_cases h2 : lo ≤ mv
      · simp [ha, h1, h2, not_le.mp h1, not_lt.mpr h2, Scalar.select, IntOp.andi]
      · simp [ha, h1, h2, not_le.mp h2, Scalar.select, IntOp.andi]

theorem select_if {α : Type} {f : BitVec 1} {p : Prop} [Decidable p] (h : f = BitVec.ofBool (decide p)) (x y : α) :
    Scalar.select f x y = if p then x else y := by
  subst h
  by_cases hp : p <;> simp [hp, Scalar.select]

theorem r69_at (v52 : FVec Ideal S8x100x20000 .f32) (v54 : IVec S8x20000 32) (v53 : FVec Ideal S8x20000 .f32) (v56 : IVec S8x20000 1)
    (b : Fin 8) (n : Fin 20000) :
    r69 (F := Ideal) v52 v54 v53 v56 (ix2 b n) =
      Scalar.select (BitVec.ofBool (decide (∃ k, v52 (ix3 b k n) = Spec.rowMax (fun k n => v52 (ix3 b k n)) k))) (v54 (ix2 b n))
      (Scalar.select (IntOp.andi (BitVec.ofBool (decide (Ideal.ofBits .f32 0x3ECCCCCD#32 ≤ v53 (ix2 b n))))
          (BitVec.ofBool (decide (v53 (ix2 b n) < Spec.half)))) (4294967294#32)
        (Scalar.select (v56 (ix2 b n)) (4294967295#32) (v54 (ix2 b n)))) := by
  unfold r69
  pointwise
  rw [neg_inf]
  have e := fold_or (fun k : Fin 100 => v52 (ix3 b k n) = Finset.univ.fold max ⊥ (fun x => v52 (ix3 b k x))) Finset.univ
  simp only [Finset.mem_univ, true_and] at e
  have e' : ∀ k, Spec.rowMax (fun k n => v52 (ix3 b k n)) k = Finset.univ.fold max ⊥ (fun x => v52 (ix3 b k x)) := fun k => rfl
  simp only [e']
  refine select_if ?_ _ _
  convert e

theorem r71_at (v69 : IVec S8x20000 32) (b : Fin 8) (n : Fin 20000) :
    r71 v69 (ix2 b n) = BitVec.ofBool (decide (0 ≤ (v69 (ix2 b n)).toInt)) := by
  unfold r71
  pointwise
  simp [IntOp.cmpi, BitVec.sle]

/-- A word that is a small number passes the clamps before the gather unchanged. -/
theorem r77_at (v69 : IVec S8x20000 32) (b : Fin 8) (n : Fin 20000) (k : Fin 100) (hk : v69 (ix2 b n) = BitVec.ofNat 32 k.val) :
    r77 v69 (ix2 b n) = BitVec.ofNat 32 k.val := by
  have h0 : (id (constantI S_ 32 0#32 : IVec S_ 32)) ix0 = 0#32 := rfl
  have hi := toInt_small k.val (by omega)
  unfold r77
  pointwise
  rw [h0, hk]
  have hm : IntOp.maxsi 0#32 (BitVec.ofNat 32 k.val) = BitVec.ofNat 32 k.val := by
    unfold IntOp.maxsi
    simp [BitVec.slt, hi]
  rw [hm]
  have hk0 : ¬ ((k.val : ℤ) < 0) := by omega
  simp [Scalar.select, IntOp.cmpi, BitVec.slt, hi, hk0]

end Cert.ReferenceIdeal.Ops
-- ==== Proof.RefLoss.lean ====
/- The reference's result: the mean over the eight images of the loss of one image. -/
module

public import proofs.«01_k».proof.Proof.RefMask

@[expose] public section

set_option maxRecDepth 16384

noncomputable section

namespace Cert.ReferenceIdeal.Ops

open Idealize.ShloMosaic Idealize.ShloMosaic.TcCoe Idealize.ShloMosaic.Tactic
open Facts₀ Facts

theorem coe_max' (x y : ℝ) : max (x : EReal) (y : EReal) = ((max x y : ℝ) : EReal) :=
  (EReal.coe_strictMono.monotone.map_max).symm

open Classical in
/-- Adding the widened bits of a family counts its members. -/
theorem fold_count {ι : Type} (p : ι → Prop) (s : Finset ι) :
    s.fold IntOp.addi 0#32 (fun x => BitVec.setWidth 32 (BitVec.ofBool (decide (p x)))) = BitVec.ofNat 32 (s.filter p).card := by
  induction s using Finset.induction_on with
  | empty => simp
  | insert a s ha ih =>
    rw [Finset.fold_insert ha, ih, Finset.filter_insert]
    by_cases h : p a
    · rw [if_pos h, Finset.card_insert_of_notMem (fun hm => ha (Finset.mem_filter.mp hm).1)]
      simp only [h, decide_true, IntOp.addi]
      apply BitVec.eq_of_toNat_eq
      simp [BitVec.toNat_add, Nat.add_comm]
    · rw [if_neg h]
      simp [h, IntOp.addi]

/-- The count as a number, at least one. -/
theorem count_real (c : ℕ) (hc : c ≤ 20000) :
    (FloatOps.sitofp .f32 (IntOp.maxsi 1#32 (BitVec.ofNat 32 c)) : Ideal .f32) = max (1 : EReal) ((c : ℝ) : EReal) := by
  have hi : (BitVec.ofNat 32 c).toInt = c := by
    rw [BitVec.toInt_eq_toNat_of_lt] <;> rw [BitVec.toNat_ofNat] <;> omega
  have e : (IntOp.maxsi 1#32 (BitVec.ofNat 32 c)).toInt = max 1 (c : ℤ) := by
    unfold IntOp.maxsi
    by_cases h : (c : ℤ) < 1
    · simp [BitVec.slt, hi, h]
      omega
    · simp [BitVec.slt, hi, h]
      omega
  show (((IntOp.maxsi 1#32 (BitVec.ofNat 32 c)).toInt : ℝ) : EReal) = _
  rw [e, ← EReal.coe_one, coe_max']
  push_cast
  rfl

open Classical in
/-- A sum of ones over the members is their number. -/
theorem sum_ones (p : Fin 20000 → Prop) :
    (∑ n, if p n then (1 : EReal) else 0) = (((Finset.univ.filter p).card : ℝ) : EReal) := by
  rw [Finset.sum_boole]
  rfl

theorem r165_at (v156 : FVec Ideal S8x20000x4 .f32) (v157 : IVec S8x20000 32) : r165 (F := Ideal) v156 v157 ix0 =
    Ideal.div (∑ b, Ideal.div (∑ n, ∑ j, v156 (ix3 b n j))
      (FloatOps.sitofp .f32 (IntOp.maxsi 1#32 (Finset.fold IntOp.addi 0#32 (fun n => v157 (ix2 b n)) Finset.univ)) : Ideal .f32))
      (Ideal.ofBits .f32 0x41000000#32) := by
  unfold r165
  pointwise

theorem r157_at (v71 : IVec S8x20000 1) (b : Fin 8) (n : Fin 20000) : r157 v71 (ix2 b n) = BitVec.setWidth 32 (v71 (ix2 b n)) := by
  unfold r157
  pointwise

theorem r127_at (A2 : FVec Ideal S20000x4 .f32) (v79 : FVec Ideal S8x20000x4 .f32) (v104 : FVec Ideal S8x20000 .f32) (b : Fin 8) (n : Fin 20000)
    (h : v104 (ix2 b n) = v79 (ix3 b n 2) - v79 (ix3 b n 0)) :
    r127 (F := Ideal) (r114 v79 v104) (r94 A2) (r84 A2) (ix2 b n)
      = Spec.centre (v79 (ix3 b n 0)) (v79 (ix3 b n 2)) (A2 (ix2 n 0)) (A2 (ix2 n 2)) := by
  unfold r127 r114 r94 r84
  pointwise
  rw [h]
  rfl

theorem r135_at (A2 : FVec Ideal S20000x4 .f32) (v79 : FVec Ideal S8x20000x4 .f32) (b : Fin 8) (n : Fin 20000) :
    r135 (F := Ideal) (r119 v79) (r99 A2) (r89 A2) (ix2 b n)
      = Spec.centre (v79 (ix3 b n 1)) (v79 (ix3 b n 3)) (A2 (ix2 n 1)) (A2 (ix2 n 3)) := by
  unfold r135 r119 r99 r89
  pointwise
  rfl

theorem r141_at (A2 : FVec Ideal S20000x4 .f32) (v79 : FVec Ideal S8x20000x4 .f32) (v104 : FVec Ideal S8x20000 .f32) (b : Fin 8) (n : Fin 20000)
    (h : v104 (ix2 b n) = v79 (ix3 b n 2) - v79 (ix3 b n 0)) :
    r141 (F := Ideal) v104 (r84 A2) (ix2 b n)
      = Spec.extent (v79 (ix3 b n 0)) (v79 (ix3 b n 2)) (A2 (ix2 n 0)) (A2 (ix2 n 2)) := by
  unfold r141 r84
  pointwise
  rw [h]
  rfl

theorem r147_at (A2 : FVec Ideal S20000x4 .f32) (v79 : FVec Ideal S8x20000x4 .f32) (b : Fin 8) (n : Fin 20000) :
    r147 (F := Ideal) (r109 v79) (r89 A2) (ix2 b n)
      = Spec.extent (v79 (ix3 b n 1)) (v79 (ix3 b n 3)) (A2 (ix2 n 1)) (A2 (ix2 n 3)) := by
  unfold r147 r109 r89
  pointwise
  rfl

/-- The box's width the reference gathers again. -/
theorem r104_at (A0 : FVec Ideal S8x100x4 .f32) (w : IVec S8x20000 32) (b : Fin 8) (n : Fin 20000) :
    r104 (F := Ideal) A0 w (ix2 b n) = r79 A0 w (ix3 b n 2) - r79 A0 w (ix3 b n 0) := by
  unfold r104 r79
  pointwise

theorem r156_at (t0 t1 t2 t3 : FVec Ideal S8x20000 .f32) (v71 : IVec S8x20000 1) (A1 : FVec Ideal S8x20000x4 .f32) (b : Fin 8) (n : Fin 20000) :
    ∑ j, r156 (F := Ideal) v71 A1 (r152 t0 t1 t2 t3) (ix3 b n j) =
      Scalar.select (v71 (ix2 b n)) (Spec.size (A1 (ix3 b n 0) - t0 (ix2 b n)) + Spec.size (A1 (ix3 b n 1) - t1 (ix2 b n))
        + Spec.size (A1 (ix3 b n 2) - t2 (ix2 b n)) + Spec.size (A1 (ix3 b n 3) - t3 (ix2 b n))) 0 := by
  have h0 : (id (constant S_ .f32 0x00000000#32 : FVec Ideal S_ .f32)) ix0 = (0 : EReal) := Ideal.ofBits_zero_f32
  have e : ∀ j : Fin 4, r156 (F := Ideal) v71 A1 (r152 t0 t1 t2 t3) (ix3 b n j) =
      Scalar.select (v71 (ix2 b n)) (Spec.size (A1 (ix3 b n j) - ![t0 (ix2 b n), t1 (ix2 b n), t2 (ix2 b n), t3 (ix2 b n)] j)) 0 := by
    intro j
    unfold r156 r152
    pointwise
    rw [h0]
    obtain rfl | rfl | rfl | rfl : j = 0 ∨ j = 1 ∨ j = 2 ∨ j = 3 := by omega
    all_goals rfl
  rw [Fin.sum_univ_four, e, e, e, e]
  unfold Scalar.select
  split
  · rfl
  · simp

open Classical in
/-- The match word of an anchor, in terms of the ratios of its image. -/
theorem word_at (v52 : FVec Ideal S8x100x20000 .f32) (S : Fin 100 → Fin 20000 → EReal) (b : Fin 8) (n : Fin 20000)
    (hS : (fun k n => v52 (ix3 b k n)) = S) (h0 : 0 ≤ Spec.colMax S n) :
    r69 (F := Ideal) v52 (r54 v52) (r53 v52) (r56 v52) (ix2 b n) =
      if Spec.Counts S n then BitVec.ofNat 32 (Spec.best S n).val
      else if Spec.colMax S n < Ideal.ofBits .f32 0x3ECCCCCD#32 then 4294967295#32 else 4294967294#32 := by
  have e54 : r54 v52 (ix2 b n) = BitVec.ofNat 32 (Spec.best S n).val :=
    r54_at v52 b n _ (by rw [hS]; exact Spec.best_spec S n) (by rw [hS]; exact h0)
  have e53 : r53 v52 (ix2 b n) = Spec.colMax S n := by rw [r53_at, hS]
  have e56 : r56 v52 (ix2 b n) = BitVec.ofBool (decide (Spec.colMax S n < Ideal.ofBits .f32 0x3ECCCCCD#32)) := by
    rw [r56_eq, lt_at, e53]
  have eS : ∀ k n, v52 (ix3 b k n) = S k n := fun k n => congrFun (congrFun hS k) n
  rw [r69_at, hS, e54, e53, e56]
  simp only [eS]
  refine (match_word _ _ _ _ low_le_half _).trans ?_
  unfold Spec.Counts
  congr!

open Classical in
theorem mask_at (v69 : IVec S8x20000 32) (C : Prop) (k : Fin 100) (p : Prop) [Decidable p] (b : Fin 8) (n : Fin 20000)
    (hw : v69 (ix2 b n) = if C then BitVec.ofNat 32 k.val else if p then 4294967295#32 else 4294967294#32) :
    r71 v69 (ix2 b n) = BitVec.ofBool (decide C) := by
  rw [r71_at, hw]
  by_cases hC : C
  · have := toInt_small k.val (by omega)
    simp [hC, this]
  · by_cases hp : p <;> simp [hC, hp]

/-- One anchor's part of the reference's sum. -/
theorem part_at (A0 : FVec Ideal S8x100x4 .f32) (A1 : FVec Ideal S8x20000x4 .f32) (A2 : FVec Ideal S20000x4 .f32)
    (v71 : IVec S8x20000 1) (w : IVec S8x20000 32) (b : Fin 8) (n : Fin 20000) (k : Fin 100)
    (hw : w (ix2 b n) = BitVec.ofNat 32 k.val) :
    ∑ j, r156 (F := Ideal) v71 A1 (r152 (r127 (r114 (r79 A0 w) (r104 A0 w)) (r94 A2) (r84 A2)) (r135 (r119 (r79 A0 w)) (r99 A2) (r89 A2))
        (r141 (r104 A0 w) (r84 A2)) (r147 (r109 (r79 A0 w)) (r89 A2))) (ix3 b n j)
      = Scalar.select (v71 (ix2 b n)) (Spec.miss (fun j => A0 (ix3 b k j)) (fun j => A2 (ix2 n j)) (fun j => A1 (ix3 b n j))) 0 := by
  rw [r156_at, r127_at _ _ _ _ _ (r104_at _ _ _ _), r135_at, r141_at _ _ _ _ _ (r104_at _ _ _ _), r147_at]
  simp only [r79_at A0 w b n _ k hw]
  rfl

/-- A part that is masked away. -/
theorem part_zero (t0 t1 t2 t3 : FVec Ideal S8x20000 .f32) (v71 : IVec S8x20000 1) (A1 : FVec Ideal S8x20000x4 .f32) (b : Fin 8) (n : Fin 20000)
    (h : v71 (ix2 b n) = 0#1) : ∑ j, r156 (F := Ideal) v71 A1 (r152 t0 t1 t2 t3) (ix3 b n j) = 0 := by
  rw [r156_at, h]
  rfl

open Classical in
/-- The reference's value: the mean of the images' losses. -/
theorem ref_value (A0 : FVec Ideal S8x100x4 .f32) (A1 : FVec Ideal S8x20000x4 .f32) (A2 : FVec Ideal S20000x4 .f32)
    (v52 : FVec Ideal S8x100x20000 .f32) (h52 : ∀ b k n, v52 (ix3 b k n) = refRatio A0 A2 b k n)
    (v69 : IVec S8x20000 32) (h69 : v69 = r69 (F := Ideal) v52 (r54 v52) (r53 v52) (r56 v52))
    (v71 : IVec S8x20000 1) (h71 : v71 = r71 v69) (w : IVec S8x20000 32) (hw : w = r77 v69)
    (h0 : ∀ b n, 0 ≤ Spec.colMax (refRatio A0 A2 b) n) :
    r165 (F := Ideal) (r156 (F := Ideal) v71 A1 (r152 (r127 (r114 (r79 A0 w) (r104 A0 w)) (r94 A2) (r84 A2))
        (r135 (r119 (r79 A0 w)) (r99 A2) (r89 A2)) (r141 (r104 A0 w) (r84 A2)) (r147 (r109 (r79 A0 w)) (r89 A2)))) (r157 v71) ix0 =
      Ideal.div (∑ b, Spec.loss (fun k j => A0 (ix3 b k j)) (fun n j => A2 (ix2 n j)) (fun n j => A1 (ix3 b n j)))
        (Ideal.ofBits .f32 0x41000000#32) := by
  have hword := fun b n => word_at v52 (refRatio A0 A2 b) b n (funext fun k => funext fun n => h52 b k n) (h0 b n)
  rw [← h69] at hword
  have hm : ∀ b n, v71 (ix2 b n) = BitVec.ofBool (decide (Spec.Counts (refRatio A0 A2 b) n)) := fun b n => by
    rw [h71]
    exact mask_at v69 _ _ _ b n (hword b n)
  rw [r165_at]
  refine congrArg (fun x => Ideal.div x (Ideal.ofBits .f32 0x41000000#32)) ?_
  refine Finset.sum_congr rfl fun b _ => ?_
  unfold Spec.loss
  refine congrArg₂ Ideal.div ?_ ?_
  · refine Finset.sum_congr rfl fun n _ => ?_
    by_cases hC : Spec.Counts (refRatio A0 A2 b) n
    · have hk : w (ix2 b n) = BitVec.ofNat 32 (Spec.best (refRatio A0 A2 b) n).val := by
        rw [hw]
        exact r77_at v69 b n _ (by rw [hword b n, if_pos hC])
      rw [part_at A0 A1 A2 v71 w b n _ hk, hm]
      exact (select_if rfl _ _).trans ((if_pos hC).trans (if_pos hC).symm)
    · rw [part_zero _ _ _ _ v71 A1 b n (by rw [hm]; simp [hC])]
      exact (if_neg hC).symm
  · simp only [r157_at, hm]
    have hc : (Finset.univ.filter fun n : Fin 20000 => Spec.Counts (refRatio A0 A2 b) n).card ≤ 20000 :=
      (Finset.card_le_univ _).trans (by simp)
    rw [fold_count, count_real _ hc, ← sum_ones]
    rfl

end Cert.ReferenceIdeal.Ops
-- ==== Proof.RefValue.lean ====
/- The reference's result as a function of its arguments, and its value. -/
module

public import proofs.«01_k».proof.Proof.RefRun
public import proofs.«01_k».proof.Proof.RefLoss

@[expose] public section

set_option maxRecDepth 16384

noncomputable section

namespace Cert.ReferenceIdeal.Ops

open Idealize.ShloMosaic Idealize.ShloMosaic.TcCoe Idealize.ShloMosaic.StableHlo Idealize.SL.Sem
open Facts₀ Facts

variable {F : FTy → Type} [FloatOps F]

theorem keepA (V : Valuation τ sig (Elt F)) (r : Ref sig .tc) (h : r ∉ outsA) : after opsA V (r : DevRef τ sig) = V (r : DevRef τ sig) :=
  after_of_writes_sub opsA V writesA h

theorem keepB (V : Valuation τ sig (Elt F)) (r : Ref sig .tc) (h : r ∉ outsB) : after opsB V (r : DevRef τ sig) = V (r : DevRef τ sig) :=
  after_of_writes_sub opsB V writesB h

theorem keepC (V : Valuation τ sig (Elt F)) (r : Ref sig .tc) (h : r ∉ outsC) : after opsC V (r : DevRef τ sig) = V (r : DevRef τ sig) :=
  after_of_writes_sub opsC V writesC h

theorem keepD (V : Valuation τ sig (Elt F)) (r : Ref sig .tc) (h : r ∉ outsD) : after opsD V (r : DevRef τ sig) = V (r : DevRef τ sig) :=
  after_of_writes_sub opsD V writesD h

theorem keepE (V : Valuation τ sig (Elt F)) (r : Ref sig .tc) (h : r ∉ outsE) : after opsE V (r : DevRef τ sig) = V (r : DevRef τ sig) :=
  after_of_writes_sub opsE V writesE h

theorem keepF (V : Valuation τ sig (Elt F)) (r : Ref sig .tc) (h : r ∉ outsF) : after opsF V (r : DevRef τ sig) = V (r : DevRef τ sig) :=
  after_of_writes_sub opsF V writesF h

theorem keepG (V : Valuation τ sig (Elt F)) (r : Ref sig .tc) (h : r ∉ outsG) : after opsG V (r : DevRef τ sig) = V (r : DevRef τ sig) :=
  after_of_writes_sub opsG V writesG h

theorem keepH (V : Valuation τ sig (Elt F)) (r : Ref sig .tc) (h : r ∉ outsH) : after opsH V (r : DevRef τ sig) = V (r : DevRef τ sig) :=
  after_of_writes_sub opsH V writesH h

theorem keepI (V : Valuation τ sig (Elt F)) (r : Ref sig .tc) (h : r ∉ outsI) : after opsI V (r : DevRef τ sig) = V (r : DevRef τ sig) :=
  after_of_writes_sub opsI V writesI h

theorem keepJ (V : Valuation τ sig (Elt F)) (r : Ref sig .tc) (h : r ∉ outsJ) : after opsJ V (r : DevRef τ sig) = V (r : DevRef τ sig) :=
  after_of_writes_sub opsJ V writesJ h

theorem keepK (V : Valuation τ sig (Elt F)) (r : Ref sig .tc) (h : r ∉ outsK) : after opsK V (r : DevRef τ sig) = V (r : DevRef τ sig) :=
  after_of_writes_sub opsK V writesK h

theorem keepL (V : Valuation τ sig (Elt F)) (r : Ref sig .tc) (h : r ∉ outsL) : after opsL V (r : DevRef τ sig) = V (r : DevRef τ sig) :=
  after_of_writes_sub opsL V writesL h

/-- The stages' values put together. -/
theorem ops_value (V : Valuation τ sig (Elt F)) (A0 : FVec F S8x100x4 .f32) (A1 : FVec F S8x20000x4 .f32) (A2 : FVec F S20000x4 .f32)
    (e0 : V (main_arg0 : DevRef τ sig) = A0) (e1 : V (main_arg1 : DevRef τ sig) = A1) (e2 : V (main_arg2 : DevRef τ sig) = A2) :
    ∃ (v52 : FVec F S8x100x20000 .f32) (v69 : IVec S8x20000 32) (v71 : IVec S8x20000 1) (w : IVec S8x20000 32),
      v52 = r52 (r39 A0 A2) (r10 A0) (r21 A2) ∧ v69 = r69 (F := F) v52 (r54 v52) (r53 v52) (r56 v52) ∧ v71 = r71 v69 ∧ w = r77 v69 ∧
      after ops V (main_v165 : DevRef τ sig) = r165 (F := F) (r156 (F := F) v71 A1 (r152 (r127 (r114 (r79 A0 w) (r104 A0 w)) (r94 A2) (r84 A2))
        (r135 (r119 (r79 A0 w)) (r99 A2) (r89 A2)) (r141 (r104 A0 w) (r84 A2)) (r147 (r109 (r79 A0 w)) (r89 A2)))) (r157 v71) := by
  rw [after_ops]
  generalize hA : after opsA V = VA
  generalize hB : after opsB VA = VB
  generalize hC : after opsC VB = VC
  generalize hD : after opsD VC = VD
  generalize hE : after opsE VD = VE
  generalize hF : after opsF VE = VF
  generalize hG : after opsG VF = VG
  generalize hH : after opsH VG = VH
  generalize hI : after opsI VH = VI
  generalize hJ : after opsJ VI = VJ
  generalize hK : after opsK VJ = VK
  have v10A : VA (main_v10 : DevRef τ sig) = r10 A0 := by
    rw [← hA, afterA_v10, e0]
  have v21A : VA (main_v21 : DevRef τ sig) = r21 A2 := by
    rw [← hA, afterA_v21, e2]
  have arg0A : VA (main_arg0 : DevRef τ sig) = A0 := by rw [← hA, keepA _ main_arg0 (by decide), e0]
  have arg1A : VA (main_arg1 : DevRef τ sig) = A1 := by rw [← hA, keepA _ main_arg1 (by decide), e1]
  have arg2A : VA (main_arg2 : DevRef τ sig) = A2 := by rw [← hA, keepA _ main_arg2 (by decide), e2]
  have v39B : VB (main_v39 : DevRef τ sig) = r39 A0 A2 := by
    rw [← hB, afterB_v39, arg0A, arg2A]
  have arg0B : VB (main_arg0 : DevRef τ sig) = A0 := by rw [← hB, keepB _ main_arg0 (by decide), arg0A]
  have arg1B : VB (main_arg1 : DevRef τ sig) = A1 := by rw [← hB, keepB _ main_arg1 (by decide), arg1A]
  have arg2B : VB (main_arg2 : DevRef τ sig) = A2 := by rw [← hB, keepB _ main_arg2 (by decide), arg2A]
  have v10B : VB (main_v10 : DevRef τ sig) = r10 A0 := by rw [← hB, keepB _ main_v10 (by decide), v10A]
  have v21B : VB (main_v21 : DevRef τ sig) = r21 A2 := by rw [← hB, keepB _ main_v21 (by decide), v21A]
  have v52C : VC (main_v52 : DevRef τ sig) = r52 (r39 A0 A2) (r10 A0) (r21 A2) := by
    rw [← hC, afterC_v52, v39B, v10B, v21B]
  have arg0C : VC (main_arg0 : DevRef τ sig) = A0 := by rw [← hC, keepC _ main_arg0 (by decide), arg0B]
  have arg1C : VC (main_arg1 : DevRef τ sig) = A1 := by rw [← hC, keepC _ main_arg1 (by decide), arg1B]
  have arg2C : VC (main_arg2 : DevRef τ sig) = A2 := by rw [← hC, keepC _ main_arg2 (by decide), arg2B]
  obtain ⟨x52, qv52⟩ : ∃ x, x = r52 (r39 A0 A2) (r10 A0) (r21 A2) := ⟨_, rfl⟩
  rw [← qv52] at v52C
  have v53D : VD (main_v53 : DevRef τ sig) = r53 x52 := by
    rw [← hD, afterD_v53, v52C]
  have v54D : VD (main_v54 : DevRef τ sig) = r54 x52 := by
    rw [← hD, afterD_v54, v52C]
  have v56D : VD (main_v56 : DevRef τ sig) = r56 x52 := by
    rw [← hD, afterD_v56, v52C]
  have arg0D : VD (main_arg0 : DevRef τ sig) = A0 := by rw [← hD, keepD _ main_arg0 (by decide), arg0C]
  have arg1D : VD (main_arg1 : DevRef τ sig) = A1 := by rw [← hD, keepD _ main_arg1 (by decide), arg1C]
  have arg2D : VD (main_arg2 : DevRef τ sig) = A2 := by rw [← hD, keepD _ main_arg2 (by decide), arg2C]
  have v52D : VD (main_v52 : DevRef τ sig) = x52 := by rw [← hD, keepD _ main_v52 (by decide), v52C]
  have v69E : VE (main_v69 : DevRef τ sig) = r69 x52 (r54 x52) (r53 x52) (r56 x52) := by
    rw [← hE, afterE_v69, v52D, v54D, v53D, v56D]
  have arg0E : VE (main_arg0 : DevRef τ sig) = A0 := by rw [← hE, keepE _ main_arg0 (by decide), arg0D]
  have arg1E : VE (main_arg1 : DevRef τ sig) = A1 := by rw [← hE, keepE _ main_arg1 (by decide), arg1D]
  have arg2E : VE (main_arg2 : DevRef τ sig) = A2 := by rw [← hE, keepE _ main_arg2 (by decide), arg2D]
  obtain ⟨x69, qv69⟩ : ∃ x, x = r69 x52 (r54 x52) (r53 x52) (r56 x52) := ⟨_, rfl⟩
  rw [← qv69] at v69E
  have v71F : VF (main_v71 : DevRef τ sig) = r71 x69 := by
    rw [← hF, afterF_v71, v69E]
  have v77F : VF (main_v77 : DevRef τ sig) = r77 x69 := by
    rw [← hF, afterF_v77, v69E]
  have arg0F : VF (main_arg0 : DevRef τ sig) = A0 := by rw [← hF, keepF _ main_arg0 (by decide), arg0E]
  have arg1F : VF (main_arg1 : DevRef τ sig) = A1 := by rw [← hF, keepF _ main_arg1 (by decide), arg1E]
  have arg2F : VF (main_arg2 : DevRef τ sig) = A2 := by rw [← hF, keepF _ main_arg2 (by decide), arg2E]
  obtain ⟨x71, qv71⟩ : ∃ x, x = r71 x69 := ⟨_, rfl⟩
  rw [← qv71] at v71F
  obtain ⟨w, qv77⟩ : ∃ x, x = r77 x69 := ⟨_, rfl⟩
  rw [← qv77] at v77F
  have v79G : VG (main_v79 : DevRef τ sig) = r79 A0 w := by
    rw [← hG, afterG_v79, arg0F, v77F]
  have v84G : VG (main_v84 : DevRef τ sig) = r84 A2 := by
    rw [← hG, afterG_v84, arg2F]
  have v89G : VG (main_v89 : DevRef τ sig) = r89 A2 := by
    rw [← hG, afterG_v89, arg2F]
  have v94G : VG (main_v94 : DevRef τ sig) = r94 A2 := by
    rw [← hG, afterG_v94, arg2F]
  have v99G : VG (main_v99 : DevRef τ sig) = r99 A2 := by
    rw [← hG, afterG_v99, arg2F]
  have v104G : VG (main_v104 : DevRef τ sig) = r104 A0 w := by
    rw [← hG, afterG_v104, arg0F, v77F]
  have arg1G : VG (main_arg1 : DevRef τ sig) = A1 := by rw [← hG, keepG _ main_arg1 (by decide), arg1F]
  have v71G : VG (main_v71 : DevRef τ sig) = x71 := by rw [← hG, keepG _ main_v71 (by decide), v71F]
  have v109H : VH (main_v109 : DevRef τ sig) = r109 (r79 A0 w) := by
    rw [← hH, afterH_v109, v79G]
  have v114H : VH (main_v114 : DevRef τ sig) = r114 (r79 A0 w) (r104 A0 w) := by
    rw [← hH, afterH_v114, v79G, v104G]
  have v119H : VH (main_v119 : DevRef τ sig) = r119 (r79 A0 w) := by
    rw [← hH, afterH_v119, v79G]
  have arg1H : VH (main_arg1 : DevRef τ sig) = A1 := by rw [← hH, keepH _ main_arg1 (by decide), arg1G]
  have v71H : VH (main_v71 : DevRef τ sig) = x71 := by rw [← hH, keepH _ main_v71 (by decide), v71G]
  have v84H : VH (main_v84 : DevRef τ sig) = r84 A2 := by rw [← hH, keepH _ main_v84 (by decide), v84G]
  have v89H : VH (main_v89 : DevRef τ sig) = r89 A2 := by rw [← hH, keepH _ main_v89 (by decide), v89G]
  have v94H : VH (main_v94 : DevRef τ sig) = r94 A2 := by rw [← hH, keepH _ main_v94 (by decide), v94G]
  have v99H : VH (main_v99 : DevRef τ sig) = r99 A2 := by rw [← hH, keepH _ main_v99 (by decide), v99G]
  have v104H : VH (main_v104 : DevRef τ sig) = r104 A0 w := by rw [← hH, keepH _ main_v104 (by decide), v104G]
  have v127I : VI (main_v127 : DevRef τ sig) = r127 (r114 (r79 A0 w) (r104 A0 w)) (r94 A2) (r84 A2) := by
    rw [← hI, afterI_v127, v114H, v94H, v84H]
  have v135I : VI (main_v135 : DevRef τ sig) = r135 (r119 (r79 A0 w)) (r99 A2) (r89 A2) := by
    rw [← hI, afterI_v135, v119H, v99H, v89H]
  have v141I : VI (main_v141 : DevRef τ sig) = r141 (r104 A0 w) (r84 A2) := by
    rw [← hI, afterI_v141, v104H, v84H]
  have v147I : VI (main_v147 : DevRef τ sig) = r147 (r109 (r79 A0 w)) (r89 A2) := by
    rw [← hI, afterI_v147, v109H, v89H]
  have arg1I : VI (main_arg1 : DevRef τ sig) = A1 := by rw [← hI, keepI _ main_arg1 (by decide), arg1H]
  have v71I : VI (main_v71 : DevRef τ sig) = x71 := by rw [← hI, keepI _ main_v71 (by decide), v71H]
  have v152J : VJ (main_v152 : DevRef τ sig) = r152 (r127 (r114 (r79 A0 w) (r104 A0 w)) (r94 A2) (r84 A2)) (r135 (r119 (r79 A0 w)) (r99 A2) (r89 A2)) (r141 (r104 A0 w) (r84 A2)) (r147 (r109 (r79 A0 w)) (r89 A2)) := by
    rw [← hJ, afterJ_v152, v127I, v135I, v141I, v147I]
  have arg1J : VJ (main_arg1 : DevRef τ sig) = A1 := by rw [← hJ, keepJ _ main_arg1 (by decide), arg1I]
  have v71J : VJ (main_v71 : DevRef τ sig) = x71 := by rw [← hJ, keepJ _ main_v71 (by decide), v71I]
  have v156K : VK (main_v156 : DevRef τ sig) = r156 x71 A1 (r152 (r127 (r114 (r79 A0 w) (r104 A0 w)) (r94 A2) (r84 A2)) (r135 (r119 (r79 A0 w)) (r99 A2) (r89 A2)) (r141 (r104 A0 w) (r84 A2)) (r147 (r109 (r79 A0 w)) (r89 A2))) := by
    rw [← hK, afterK_v156, v71J, arg1J, v152J]
  have v157K : VK (main_v157 : DevRef τ sig) = r157 x71 := by
    rw [← hK, afterK_v157, v71J]
  refine ⟨x52, x69, x71, w, qv52, qv69, qv71, qv77, ?_⟩
  rw [afterL_v165, v156K, v157K]

/-- The reference's result is the mean of the losses. -/
theorem result_value (V : Valuation τ sig (Elt Ideal)) (A0 : FVec Ideal S8x100x4 .f32) (A1 : FVec Ideal S8x20000x4 .f32) (A2 : FVec Ideal S20000x4 .f32)
    (e0 : V (main_arg0 : DevRef τ sig) = A0) (e1 : V (main_arg1 : DevRef τ sig) = A1) (e2 : V (main_arg2 : DevRef τ sig) = A2)
    (h0 : ∀ b n, 0 ≤ Spec.colMax (refRatio A0 A2 b) n) :
    after ops V (main_v165 : DevRef τ sig) = ((fun _ => Ideal.div (∑ b, Spec.loss (fun k j => A0 (ix3 b k j)) (fun n j => A2 (ix2 n j)) (fun n j => A1 (ix3 b n j)))
      (Ideal.ofBits .f32 0x41000000#32)) : FVec Ideal S_ .f32) := by
  obtain ⟨v52, v69, v71, w, h52, h69, h71, hw, e⟩ := ops_value V A0 A1 A2 e0 e1 e2
  rw [e]
  funext i
  have hi : i = ix0 := funext fun d => d.elim0
  rw [hi]
  exact ref_value A0 A1 A2 v52 (fun b k n => by rw [h52]; exact r52_at A0 A2 b k n) v69 h69 v71 h71 w hw h0

theorem value (m : (ℓ : Loc nD τ sig) → Buf (Elt Ideal) ℓ) (ρ : Dev nD → PrngReg) (v : Dev nD → FVec Ideal S_ .f32)
    (hv : ∀ c, after ops (launchContents m c) (main_v165 : DevRef τ sig) = v c) :
    θ_run defs (onTc (τ := τ) (main (F := Ideal))) ⟨m, fun _ => 0, ρ⟩ (fun r => ∀ c : Dev nD,
      r.2.mem ((c.tc : Thread nD τ).loc main_v165) = v c) :=
  (θ_run defs _ _).mono (fun r h c => (h c main_v165).trans (hv c)) (run_main m ρ)

end Cert.ReferenceIdeal.Ops

end
-- ==== Proof.Agree.lean ====
/- The idealized kernel and the idealized reference end with the same value. -/
module

public import proofs.«01_k».proof.Proof.PreFrame
public import proofs.«01_k».proof.Proof.RefValue

@[expose] public section

set_option maxRecDepth 16384

noncomputable section

namespace Cert.Agree

open Idealize.ShloMosaic Idealize.ShloMosaic.TcCoe Idealize.ShloMosaic.Tactic Idealize.SL.Sem

/-- An anchor's best ratio is not negative. -/
theorem best_nonneg {g : Fin 100 → Fin 4 → EReal} {a : Fin 20000 → Fin 4 → EReal} (P : Spec.InFrame g a) (n : Fin 20000) :
    0 ≤ Spec.colMax (fun k n => Spec.ratio (g k) (a n)) n := by
  obtain ⟨v, hv, e⟩ := (Spec.ratio_real ⟨P.g02 0, P.g13 0⟩ ⟨P.a02 n, P.a13 n⟩).1
  have h0 : (0 : EReal) ≤ Spec.ratio (g 0) (a n) := by
    rw [e]
    exact EReal.coe_nonneg.mpr hv
  exact h0.trans (Finset.le_sup (f := fun k => Spec.ratio (g k) (a n)) (Finset.mem_univ (0 : Fin 100)))

theorem reference_value (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (P : ∀ b, Spec.InFrame (KernelIdeal.Body.boxIn m c b) (KernelIdeal.Body.anchorIn m c))
    (e0 : m' ((c.tc : Thread ReferenceIdeal.nD ReferenceIdeal.τ).loc ReferenceIdeal.main_arg0) = m ((c.tc : Thread KernelIdeal.nD KernelIdeal.τ).loc KernelIdeal.main_arg0))
    (e1 : m' ((c.tc : Thread ReferenceIdeal.nD ReferenceIdeal.τ).loc ReferenceIdeal.main_arg1) = m ((c.tc : Thread KernelIdeal.nD KernelIdeal.τ).loc KernelIdeal.main_arg1))
    (e2 : m' ((c.tc : Thread ReferenceIdeal.nD ReferenceIdeal.τ).loc ReferenceIdeal.main_arg2) = m ((c.tc : Thread KernelIdeal.nD KernelIdeal.τ).loc KernelIdeal.main_arg2)) :
    StableHlo.after ReferenceIdeal.Ops.ops (StableHlo.launchContents m' c) (ReferenceIdeal.main_v165 : DevRef ReferenceIdeal.τ ReferenceIdeal.sig)
      = ((fun _ => KernelIdeal.Body.mean m c) : FVec Ideal ReferenceIdeal.S_ .f32) :=
  ReferenceIdeal.Ops.result_value (StableHlo.launchContents m' c)
    (m ((c.tc : Thread KernelIdeal.nD KernelIdeal.τ).loc KernelIdeal.main_arg0))
    (m ((c.tc : Thread KernelIdeal.nD KernelIdeal.τ).loc KernelIdeal.main_arg1))
    (m ((c.tc : Thread KernelIdeal.nD KernelIdeal.τ).loc KernelIdeal.main_arg2)) e0 e1 e2 fun b n => best_nonneg (P b) n

end Cert.Agree

end
-- ==== Proof.lean ====
module

public import proofs.«01_k».proof.Defs
public import proofs.«01_k».proof.Proof.Word.Frame
public import proofs.«01_k».proof.Proof.Frame
public import proofs.«01_k».proof.Proof.RefRun
public import proofs.«01_k».proof.Proof.Agree

@[expose] public section

noncomputable section

namespace Cert.Proof

open Idealize.ShloMosaic Idealize.SL.Sem

/-- From the arguments the precondition admits, both end at the mean of the losses. -/
theorem agree : algebraic_KernelIdeal_ReferenceIdeal_pre_boxes_in_frame (hKernelIdeal := Cert.KernelIdeal.Gen.facts)
    (hReferenceIdeal := Cert.ReferenceIdeal.Gen.facts) (hPre_boxes_in_frame := Cert.Pre_boxes_in_frame.holds) := by
  intro m g m' g' hpre hagree
  have P : ∀ c b, Spec.InFrame (KernelIdeal.Body.boxIn m c b) (KernelIdeal.Body.anchorIn m c) := fun c b =>
    @Pre_boxes_in_frame.inFrame Cert.Pre_boxes_in_frame.holds _ _ _ (hpre c).1 (hpre c).2.1 (hpre c).2.2.1 (hpre c).2.2.2 b
  refine ⟨fun c => ((fun _ => KernelIdeal.Body.mean m c) : FVec Ideal KernelIdeal.S_ .f32), ?_, ?_⟩
  · exact θ_run_and (KernelIdeal.Body.value m g P) (KernelIdeal.Body.unchanged m g) |> fun h =>
      (θ_run _ _ _).mono (fun r h c => ⟨h.1 c, h.2 c⟩) h
  · exact (θ_run _ _ _).mono (fun r h c => ⟨h.1 c, h.2.1 c⟩) (θ_run_and (ReferenceIdeal.Ops.value m' g' _ fun c =>
      Agree.reference_value m m' c (P c) (hagree c).1 (hagree c).2.1 (hagree c).2.2) (ReferenceIdeal.Ops.frame m' g'))

theorem claim : Cert.Claim :=
  ⟨Cert.Kernel.Gen.facts, Cert.KernelIdeal.Gen.facts, Cert.ReferenceIdeal.Gen.facts, Cert.Pre_boxes_in_frame.holds,
    fun m ρ _ => Cert.Kernel.Body.frame m ρ, fun m ρ _ => Cert.KernelIdeal.Body.frame m ρ, fun m ρ _ => Cert.KernelIdeal.Body.frame m ρ,
    fun m ρ _ => Cert.ReferenceIdeal.Ops.frame m ρ, fun m ρ _ => Cert.ReferenceIdeal.Ops.frame m ρ, trivial, agree⟩

end Cert.Proof

end
